-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x128x64 : Shape := ⟨4, ![2, 128, 128, 64]⟩
abbrev S256x512 : Shape := ⟨2, ![256, 512]⟩
abbrev S2x128x4x64 : Shape := ⟨4, ![2, 128, 4, 64]⟩
abbrev S256x256 : Shape := ⟨2, ![256, 256]⟩
abbrev S8x512 : Shape := ⟨2, ![8, 512]⟩
abbrev S32x8x512 : Shape := ⟨3, ![32, 8, 512]⟩
abbrev S3 : Shape := ⟨1, ![3]⟩
abbrev S2 : Shape := ⟨1, ![2]⟩
abbrev S32 : Shape := ⟨1, ![32]⟩
abbrev S1 : Shape := ⟨1, ![1]⟩
abbrev S_ : Shape := ⟨0, ![]⟩
abbrev S128x128 : Shape := ⟨2, ![128, 128]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S1x8x512 : Shape := ⟨3, ![1, 8, 512]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x128x64, .f32⟩
  | .hbm, ⟨3, _⟩ => ⟨S2x128x128x64, .f32⟩
  | .hbm, ⟨4, _⟩ => ⟨S256x512, .f32⟩
  | .hbm, ⟨5, _⟩ => ⟨S256x512, .f32⟩
  | .local _ .vmem, ⟨0, _⟩ => ⟨S256x512, .f32⟩
  | .local _ .vmem, ⟨1, _⟩ => ⟨S2x128x512, .f32⟩
  | .local _ .vmem, ⟨2, _⟩ => ⟨S512x256, .f32⟩
  | .local _ .vmem, ⟨3, _⟩ => ⟨S256x512, .f32⟩
  | .local _ .vmem, ⟨4, _⟩ => ⟨S2x128x4x64, .f32⟩
  | .local _ .vmem, ⟨5, _⟩ => ⟨S2x128x4x64, .f32⟩
  | .local _ .vmem, ⟨6, _⟩ => ⟨S256x256, .f32⟩
  | .local _ .vmem, ⟨7, _⟩ => ⟨S256x512, .f32⟩
  | .local _ .vmem, ⟨8, _⟩ => ⟨S256x512, .bf16⟩
  | .local _ .vmem, ⟨9, _⟩ => ⟨S8x512, .bf16⟩
  | .local _ .vmem, ⟨10, _⟩ => ⟨S32x8x512, .bf16⟩
  | .local _ .vmem, ⟨11, _⟩ => ⟨S32x8x512, .bf16⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 4 → Nat :=
  let c0_i32_3 : BitVec 32 := 0#32
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.muli v2 c4_i32
  let c0_i32_5 : BitVec 32 := 0#32
  ![0, 0, v3.toNat, 0]
def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_10 : BitVec 32 := 1#32
  let v18 : BitVec 32 := Scalar.addi v2 c1_i32_10
  let c32_i32_11 : BitVec 32 := 32#32
  let c0_i32_12 : BitVec 32 := 0#32
  let v19 : BitVec 1 := Scalar.cmpi .eq c32_i32_11 c0_i32_12
  let c1_i32_13 : BitVec 32 := 1#32
  let v20 : BitVec 32 := Scalar.select v19 c1_i32_13 c32_i32_11
  let v21 : BitVec 32 := Scalar.remsi v18 v20
  let c0_i32_15 : BitVec 32 := 0#32
  let v23 : BitVec 1 := Scalar.cmpi .slt v21 c0_i32_15
  let c0_i32_16 : BitVec 32 := 0#32
  let v24 : BitVec 1 := Scalar.cmpi .slt v20 c0_i32_16
  let v25 : BitVec 1 := Scalar.xori v23 v24
  let c0_i32_14 : BitVec 32 := 0#32
  let v22 : BitVec 1 := Scalar.cmpi .ne v21 c0_i32_14
  let v26 : BitVec 1 := Scalar.andi v25 v22
  let v27 : BitVec 32 := Scalar.addi v21 v20
  let v28 : BitVec 32 := Scalar.select v26 v27 v21
  let c1_i32_18 : BitVec 32 := 1#32
  let v29 : BitVec 32 := Scalar.muli v28 c1_i32_18
  let v30 : BitVec 32 := Scalar.addi c0_i32_19 v29
  v30.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_20 : BitVec 32 := 2#32
  let v31 : BitVec 32 := Scalar.addi v2 c2_i32_20
  let c32_i32_21 : BitVec 32 := 32#32
  let c0_i32_22 : BitVec 32 := 0#32
  let v32 : BitVec 1 := Scalar.cmpi .eq c32_i32_21 c0_i32_22
  let c1_i32_23 : BitVec 32 := 1#32
  let v33 : BitVec 32 := Scalar.select v32 c1_i32_23 c32_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c1_i32_28 : BitVec 32 := 1#32
  let v42 : BitVec 32 := Scalar.muli v41 c1_i32_28
  let v43 : BitVec 32 := Scalar.addi c0_i32_29 v42
  v43.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v44 : BitVec 32 := Scalar.addi v2 c3_i32
  let c32_i32_30 : BitVec 32 := 32#32
  let c0_i32_31 : BitVec 32 := 0#32
  let v45 : BitVec 1 := Scalar.cmpi .eq c32_i32_30 c0_i32_31
  let c1_i32_32 : BitVec 32 := 1#32
  let v46 : BitVec 32 := Scalar.select v45 c1_i32_32 c32_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c1_i32_37 : BitVec 32 := 1#32
  let v55 : BitVec 32 := Scalar.muli v54 c1_i32_37
  let v56 : BitVec 32 := Scalar.addi c0_i32_38 v55
  v56.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_39 : BitVec 32 := 4#32
  let v57 : BitVec 32 := Scalar.addi v2 c4_i32_39
  let c32_i32_40 : BitVec 32 := 32#32
  let c0_i32_41 : BitVec 32 := 0#32
  let v58 : BitVec 1 := Scalar.cmpi .eq c32_i32_40 c0_i32_41
  let c1_i32_42 : BitVec 32 := 1#32
  let v59 : BitVec 32 := Scalar.select v58 c1_i32_42 c32_i32_40
  let v60 : BitVec 32 := Scalar.remsi v57 v59
  let c0_i32_44 : BitVec 32 := 0#32
  let v62 : BitVec 1 := Scalar.cmpi .slt v60 c0_i32_44
  let c0_i32_45 : BitVec 32 := 0#32
  let v63 : BitVec 1 := Scalar.cmpi .slt v59 c0_i32_45
  let v64 : BitVec 1 := Scalar.xori v62 v63
  let c0_i32_43 : BitVec 32 := 0#32
  let v61 : BitVec 1 := Scalar.cmpi .ne v60 c0_i32_43
  let v65 : BitVec 1 := Scalar.andi v64 v61
  let v66 : BitVec 32 := Scalar.addi v60 v59
  let v67 : BitVec 32 := Scalar.select v65 v66 v60
  let c1_i32_47 : BitVec 32 := 1#32
  let v68 : BitVec 32 := Scalar.muli v67 c1_i32_47
  let v69 : BitVec 32 := Scalar.addi c0_i32_48 v68
  v69.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v70 : BitVec 32 := Scalar.addi v2 c5_i32
  let c32_i32_49 : BitVec 32 := 32#32
  let c0_i32_50 : BitVec 32 := 0#32
  let v71 : BitVec 1 := Scalar.cmpi .eq c32_i32_49 c0_i32_50
  let c1_i32_51 : BitVec 32 := 1#32
  let v72 : BitVec 32 := Scalar.select v71 c1_i32_51 c32_i32_49
  let v73 : BitVec 32 := Scalar.remsi v70 v72
  let c0_i32_53 : BitVec 32 := 0#32
  let v75 : BitVec 1 := Scalar.cmpi .slt v73 c0_i32_53
  let c0_i32_54 : BitVec 32 := 0#32
  let v76 : BitVec 1 := Scalar.cmpi .slt v72 c0_i32_54
  let v77 : BitVec 1 := Scalar.xori v75 v76
  let c0_i32_52 : BitVec 32 := 0#32
  let v74 : BitVec 1 := Scalar.cmpi .ne v73 c0_i32_52
  let v78 : BitVec 1 := Scalar.andi v77 v74
  let v79 : BitVec 32 := Scalar.addi v73 v72
  let v80 : BitVec 32 := Scalar.select v78 v79 v73
  let c1_i32_56 : BitVec 32 := 1#32
  let v81 : BitVec 32 := Scalar.muli v80 c1_i32_56
  let v82 : BitVec 32 := Scalar.addi c0_i32_57 v81
  v82.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v83 : BitVec 32 := Scalar.addi v2 c6_i32
  let c32_i32_58 : BitVec 32 := 32#32
  let c0_i32_59 : BitVec 32 := 0#32
  let v84 : BitVec 1 := Scalar.cmpi .eq c32_i32_58 c0_i32_59
  let c1_i32_60 : BitVec 32 := 1#32
  let v85 : BitVec 32 := Scalar.select v84 c1_i32_60 c32_i32_58
  let v86 : BitVec 32 := Scalar.remsi v83 v85
  let c0_i32_62 : BitVec 32 := 0#32
  let v88 : BitVec 1 := Scalar.cmpi .slt v86 c0_i32_62
  let c0_i32_63 : BitVec 32 := 0#32
  let v89 : BitVec 1 := Scalar.cmpi .slt v85 c0_i32_63
  let v90 : BitVec 1 := Scalar.xori v88 v89
  let c0_i32_61 : BitVec 32 := 0#32
  let v87 : BitVec 1 := Scalar.cmpi .ne v86 c0_i32_61
  let v91 : BitVec 1 := Scalar.andi v90 v87
  let v92 : BitVec 32 := Scalar.addi v86 v85
  let v93 : BitVec 32 := Scalar.select v91 v92 v86
  let c1_i32_65 : BitVec 32 := 1#32
  let v94 : BitVec 32 := Scalar.muli v93 c1_i32_65
  let v95 : BitVec 32 := Scalar.addi c0_i32_66 v94
  v95.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v96 : BitVec 32 := Scalar.addi v2 c7_i32
  let c32_i32_67 : BitVec 32 := 32#32
  let c0_i32_68 : BitVec 32 := 0#32
  let v97 : BitVec 1 := Scalar.cmpi .eq c32_i32_67 c0_i32_68
  let c1_i32_69 : BitVec 32 := 1#32
  let v98 : BitVec 32 := Scalar.select v97 c1_i32_69 c32_i32_67
  let v99 : BitVec 32 := Scalar.remsi v96 v98
  let c0_i32_71 : BitVec 32 := 0#32
  let v101 : BitVec 1 := Scalar.cmpi .slt v99 c0_i32_71
  let c0_i32_72 : BitVec 32 := 0#32
  let v102 : BitVec 1 := Scalar.cmpi .slt v98 c0_i32_72
  let v103 : BitVec 1 := Scalar.xori v101 v102
  let c0_i32_70 : BitVec 32 := 0#32
  let v100 : BitVec 1 := Scalar.cmpi .ne v99 c0_i32_70
  let v104 : BitVec 1 := Scalar.andi v103 v100
  let v105 : BitVec 32 := Scalar.addi v99 v98
  let v106 : BitVec 32 := Scalar.select v104 v105 v99
  let c1_i32_74 : BitVec 32 := 1#32
  let v107 : BitVec 32 := Scalar.muli v106 c1_i32_74
  let v108 : BitVec 32 := Scalar.addi c0_i32_75 v107
  v108.toNat
def k0_dev8 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v109 : BitVec 32 := Scalar.addi v2 c8_i32
  let c32_i32_76 : BitVec 32 := 32#32
  let c0_i32_77 : BitVec 32 := 0#32
  let v110 : BitVec 1 := Scalar.cmpi .eq c32_i32_76 c0_i32_77
  let c1_i32_78 : BitVec 32 := 1#32
  let v111 : BitVec 32 := Scalar.select v110 c1_i32_78 c32_i32_76
  let v112 : BitVec 32 := Scalar.remsi v109 v111
  let c0_i32_80 : BitVec 32 := 0#32
  let v114 : BitVec 1 := Scalar.cmpi .slt v112 c0_i32_80
  let c0_i32_81 : BitVec 32 := 0#32
  let v115 : BitVec 1 := Scalar.cmpi .slt v111 c0_i32_81
  let v116 : BitVec 1 := Scalar.xori v114 v115
  let c0_i32_79 : BitVec 32 := 0#32
  let v113 : BitVec 1 := Scalar.cmpi .ne v112 c0_i32_79
  let v117 : BitVec 1 := Scalar.andi v116 v113
  let v118 : BitVec 32 := Scalar.addi v112 v111
  let v119 : BitVec 32 := Scalar.select v117 v118 v112
  let c1_i32_83 : BitVec 32 := 1#32
  let v120 : BitVec 32 := Scalar.muli v119 c1_i32_83
  let v121 : BitVec 32 := Scalar.addi c0_i32_84 v120
  v121.toNat
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v122 : BitVec 32 := Scalar.addi v2 c9_i32
  let c32_i32_85 : BitVec 32 := 32#32
  let c0_i32_86 : BitVec 32 := 0#32
  let v123 : BitVec 1 := Scalar.cmpi .eq c32_i32_85 c0_i32_86
  let c1_i32_87 : BitVec 32 := 1#32
  let v124 : BitVec 32 := Scalar.select v123 c1_i32_87 c32_i32_85
  let v125 : BitVec 32 := Scalar.remsi v122 v124
  let c0_i32_89 : BitVec 32 := 0#32
  let v127 : BitVec 1 := Scalar.cmpi .slt v125 c0_i32_89
  let c0_i32_90 : BitVec 32 := 0#32
  let v128 : BitVec 1 := Scalar.cmpi .slt v124 c0_i32_90
  let v129 : BitVec 1 := Scalar.xori v127 v128
  let c0_i32_88 : BitVec 32 := 0#32
  let v126 : BitVec 1 := Scalar.cmpi .ne v125 c0_i32_88
  let v130 : BitVec 1 := Scalar.andi v129 v126
  let v131 : BitVec 32 := Scalar.addi v125 v124
  let v132 : BitVec 32 := Scalar.select v130 v131 v125
  let c1_i32_92 : BitVec 32 := 1#32
  let v133 : BitVec 32 := Scalar.muli v132 c1_i32_92
  let v134 : BitVec 32 := Scalar.addi c0_i32_93 v133
  v134.toNat
def k0_dev10 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v135 : BitVec 32 := Scalar.addi v2 c10_i32
  let c32_i32_94 : BitVec 32 := 32#32
  let c0_i32_95 : BitVec 32 := 0#32
  let v136 : BitVec 1 := Scalar.cmpi .eq c32_i32_94 c0_i32_95
  let c1_i32_96 : BitVec 32 := 1#32
  let v137 : BitVec 32 := Scalar.select v136 c1_i32_96 c32_i32_94
  let v138 : BitVec 32 := Scalar.remsi v135 v137
  let c0_i32_98 : BitVec 32 := 0#32
  let v140 : BitVec 1 := Scalar.cmpi .slt v138 c0_i32_98
  let c0_i32_99 : BitVec 32 := 0#32
  let v141 : BitVec 1 := Scalar.cmpi .slt v137 c0_i32_99
  let v142 : BitVec 1 := Scalar.xori v140 v141
  let c0_i32_97 : BitVec 32 := 0#32
  let v139 : BitVec 1 := Scalar.cmpi .ne v138 c0_i32_97
  let v143 : BitVec 1 := Scalar.andi v142 v139
  let v144 : BitVec 32 := Scalar.addi v138 v137
  let v145 : BitVec 32 := Scalar.select v143 v144 v138
  let c1_i32_101 : BitVec 32 := 1#32
  let v146 : BitVec 32 := Scalar.muli v145 c1_i32_101
  let v147 : BitVec 32 := Scalar.addi c0_i32_102 v146
  v147.toNat
def k0_dev11 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v148 : BitVec 32 := Scalar.addi v2 c11_i32
  let c32_i32_103 : BitVec 32 := 32#32
  let c0_i32_104 : BitVec 32 := 0#32
  let v149 : BitVec 1 := Scalar.cmpi .eq c32_i32_103 c0_i32_104
  let c1_i32_105 : BitVec 32 := 1#32
  let v150 : BitVec 32 := Scalar.select v149 c1_i32_105 c32_i32_103
  let v151 : BitVec 32 := Scalar.remsi v148 v150
  let c0_i32_107 : BitVec 32 := 0#32
  let v153 : BitVec 1 := Scalar.cmpi .slt v151 c0_i32_107
  let c0_i32_108 : BitVec 32 := 0#32
  let v154 : BitVec 1 := Scalar.cmpi .slt v150 c0_i32_108
  let v155 : BitVec 1 := Scalar.xori v153 v154
  let c0_i32_106 : BitVec 32 := 0#32
  let v152 : BitVec 1 := Scalar.cmpi .ne v151 c0_i32_106
  let v156 : BitVec 1 := Scalar.andi v155 v152
  let v157 : BitVec 32 := Scalar.addi v151 v150
  let v158 : BitVec 32 := Scalar.select v156 v157 v151
  let c1_i32_110 : BitVec 32 := 1#32
  let v159 : BitVec 32 := Scalar.muli v158 c1_i32_110
  let v160 : BitVec 32 := Scalar.addi c0_i32_111 v159
  v160.toNat
def k0_dev12 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v161 : BitVec 32 := Scalar.addi v2 c12_i32
  let c32_i32_112 : BitVec 32 := 32#32
  let c0_i32_113 : BitVec 32 := 0#32
  let v162 : BitVec 1 := Scalar.cmpi .eq c32_i32_112 c0_i32_113
  let c1_i32_114 : BitVec 32 := 1#32
  let v163 : BitVec 32 := Scalar.select v162 c1_i32_114 c32_i32_112
  let v164 : BitVec 32 := Scalar.remsi v161 v163
  let c0_i32_116 : BitVec 32 := 0#32
  let v166 : BitVec 1 := Scalar.cmpi .slt v164 c0_i32_116
  let c0_i32_117 : BitVec 32 := 0#32
  let v167 : BitVec 1 := Scalar.cmpi .slt v163 c0_i32_117
  let v168 : BitVec 1 := Scalar.xori v166 v167
  let c0_i32_115 : BitVec 32 := 0#32
  let v165 : BitVec 1 := Scalar.cmpi .ne v164 c0_i32_115
  let v169 : BitVec 1 := Scalar.andi v168 v165
  let v170 : BitVec 32 := Scalar.addi v164 v163
  let v171 : BitVec 32 := Scalar.select v169 v170 v164
  let c1_i32_119 : BitVec 32 := 1#32
  let v172 : BitVec 32 := Scalar.muli v171 c1_i32_119
  let v173 : BitVec 32 := Scalar.addi c0_i32_120 v172
  v173.toNat
def k0_dev13 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v174 : BitVec 32 := Scalar.addi v2 c13_i32
  let c32_i32_121 : BitVec 32 := 32#32
  let c0_i32_122 : BitVec 32 := 0#32
  let v175 : BitVec 1 := Scalar.cmpi .eq c32_i32_121 c0_i32_122
  let c1_i32_123 : BitVec 32 := 1#32
  let v176 : BitVec 32 := Scalar.select v175 c1_i32_123 c32_i32_121
  let v177 : BitVec 32 := Scalar.remsi v174 v176
  let c0_i32_125 : BitVec 32 := 0#32
  let v179 : BitVec 1 := Scalar.cmpi .slt v177 c0_i32_125
  let c0_i32_126 : BitVec 32 := 0#32
  let v180 : BitVec 1 := Scalar.cmpi .slt v176 c0_i32_126
  let v181 : BitVec 1 := Scalar.xori v179 v180
  let c0_i32_124 : BitVec 32 := 0#32
  let v178 : BitVec 1 := Scalar.cmpi .ne v177 c0_i32_124
  let v182 : BitVec 1 := Scalar.andi v181 v178
  let v183 : BitVec 32 := Scalar.addi v177 v176
  let v184 : BitVec 32 := Scalar.select v182 v183 v177
  let c1_i32_128 : BitVec 32 := 1#32
  let v185 : BitVec 32 := Scalar.muli v184 c1_i32_128
  let v186 : BitVec 32 := Scalar.addi c0_i32_129 v185
  v186.toNat
def k0_dev14 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v187 : BitVec 32 := Scalar.addi v2 c14_i32
  let c32_i32_130 : BitVec 32 := 32#32
  let c0_i32_131 : BitVec 32 := 0#32
  let v188 : BitVec 1 := Scalar.cmpi .eq c32_i32_130 c0_i32_131
  let c1_i32_132 : BitVec 32 := 1#32
  let v189 : BitVec 32 := Scalar.select v188 c1_i32_132 c32_i32_130
  let v190 : BitVec 32 := Scalar.remsi v187 v189
  let c0_i32_134 : BitVec 32 := 0#32
  let v192 : BitVec 1 := Scalar.cmpi .slt v190 c0_i32_134
  let c0_i32_135 : BitVec 32 := 0#32
  let v193 : BitVec 1 := Scalar.cmpi .slt v189 c0_i32_135
  let v194 : BitVec 1 := Scalar.xori v192 v193
  let c0_i32_133 : BitVec 32 := 0#32
  let v191 : BitVec 1 := Scalar.cmpi .ne v190 c0_i32_133
  let v195 : BitVec 1 := Scalar.andi v194 v191
  let v196 : BitVec 32 := Scalar.addi v190 v189
  let v197 : BitVec 32 := Scalar.select v195 v196 v190
  let c1_i32_137 : BitVec 32 := 1#32
  let v198 : BitVec 32 := Scalar.muli v197 c1_i32_137
  let v199 : BitVec 32 := Scalar.addi c0_i32_138 v198
  v199.toNat
def k0_dev15 (d0 : Dev nD) : Nat :=
  let c0_i32_147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v200 : BitVec 32 := Scalar.addi v2 c15_i32
  let c32_i32_139 : BitVec 32 := 32#32
  let c0_i32_140 : BitVec 32 := 0#32
  let v201 : BitVec 1 := Scalar.cmpi .eq c32_i32_139 c0_i32_140
  let c1_i32_141 : BitVec 32 := 1#32
  let v202 : BitVec 32 := Scalar.select v201 c1_i32_141 c32_i32_139
  let v203 : BitVec 32 := Scalar.remsi v200 v202
  let c0_i32_143 : BitVec 32 := 0#32
  let v205 : BitVec 1 := Scalar.cmpi .slt v203 c0_i32_143
  let c0_i32_144 : BitVec 32 := 0#32
  let v206 : BitVec 1 := Scalar.cmpi .slt v202 c0_i32_144
  let v207 : BitVec 1 := Scalar.xori v205 v206
  let c0_i32_142 : BitVec 32 := 0#32
  let v204 : BitVec 1 := Scalar.cmpi .ne v203 c0_i32_142
  let v208 : BitVec 1 := Scalar.andi v207 v204
  let v209 : BitVec 32 := Scalar.addi v203 v202
  let v210 : BitVec 32 := Scalar.select v208 v209 v203
  let c1_i32_146 : BitVec 32 := 1#32
  let v211 : BitVec 32 := Scalar.muli v210 c1_i32_146
  let v212 : BitVec 32 := Scalar.addi c0_i32_147 v211
  v212.toNat
def k0_dev16 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v213 : BitVec 32 := Scalar.addi v2 c16_i32
  let c32_i32_148 : BitVec 32 := 32#32
  let c0_i32_149 : BitVec 32 := 0#32
  let v214 : BitVec 1 := Scalar.cmpi .eq c32_i32_148 c0_i32_149
  let c1_i32_150 : BitVec 32 := 1#32
  let v215 : BitVec 32 := Scalar.select v214 c1_i32_150 c32_i32_148
  let v216 : BitVec 32 := Scalar.remsi v213 v215
  let c0_i32_152 : BitVec 32 := 0#32
  let v218 : BitVec 1 := Scalar.cmpi .slt v216 c0_i32_152
  let c0_i32_153 : BitVec 32 := 0#32
  let v219 : BitVec 1 := Scalar.cmpi .slt v215 c0_i32_153
  let v220 : BitVec 1 := Scalar.xori v218 v219
  let c0_i32_151 : BitVec 32 := 0#32
  let v217 : BitVec 1 := Scalar.cmpi .ne v216 c0_i32_151
  let v221 : BitVec 1 := Scalar.andi v220 v217
  let v222 : BitVec 32 := Scalar.addi v216 v215
  let v223 : BitVec 32 := Scalar.select v221 v222 v216
  let c1_i32_155 : BitVec 32 := 1#32
  let v224 : BitVec 32 := Scalar.muli v223 c1_i32_155
  let v225 : BitVec 32 := Scalar.addi c0_i32_156 v224
  v225.toNat
def k0_dev17 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v226 : BitVec 32 := Scalar.addi v2 c17_i32
  let c32_i32_157 : BitVec 32 := 32#32
  let c0_i32_158 : BitVec 32 := 0#32
  let v227 : BitVec 1 := Scalar.cmpi .eq c32_i32_157 c0_i32_158
  let c1_i32_159 : BitVec 32 := 1#32
  let v228 : BitVec 32 := Scalar.select v227 c1_i32_159 c32_i32_157
  let v229 : BitVec 32 := Scalar.remsi v226 v228
  let c0_i32_161 : BitVec 32 := 0#32
  let v231 : BitVec 1 := Scalar.cmpi .slt v229 c0_i32_161
  let c0_i32_162 : BitVec 32 := 0#32
  let v232 : BitVec 1 := Scalar.cmpi .slt v228 c0_i32_162
  let v233 : BitVec 1 := Scalar.xori v231 v232
  let c0_i32_160 : BitVec 32 := 0#32
  let v230 : BitVec 1 := Scalar.cmpi .ne v229 c0_i32_160
  let v234 : BitVec 1 := Scalar.andi v233 v230
  let v235 : BitVec 32 := Scalar.addi v229 v228
  let v236 : BitVec 32 := Scalar.select v234 v235 v229
  let c1_i32_164 : BitVec 32 := 1#32
  let v237 : BitVec 32 := Scalar.muli v236 c1_i32_164
  let v238 : BitVec 32 := Scalar.addi c0_i32_165 v237
  v238.toNat
def k0_dev18 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v239 : BitVec 32 := Scalar.addi v2 c18_i32
  let c32_i32_166 : BitVec 32 := 32#32
  let c0_i32_167 : BitVec 32 := 0#32
  let v240 : BitVec 1 := Scalar.cmpi .eq c32_i32_166 c0_i32_167
  let c1_i32_168 : BitVec 32 := 1#32
  let v241 : BitVec 32 := Scalar.select v240 c1_i32_168 c32_i32_166
  let v242 : BitVec 32 := Scalar.remsi v239 v241
  let c0_i32_170 : BitVec 32 := 0#32
  let v244 : BitVec 1 := Scalar.cmpi .slt v242 c0_i32_170
  let c0_i32_171 : BitVec 32 := 0#32
  let v245 : BitVec 1 := Scalar.cmpi .slt v241 c0_i32_171
  let v246 : BitVec 1 := Scalar.xori v244 v245
  let c0_i32_169 : BitVec 32 := 0#32
  let v243 : BitVec 1 := Scalar.cmpi .ne v242 c0_i32_169
  let v247 : BitVec 1 := Scalar.andi v246 v243
  let v248 : BitVec 32 := Scalar.addi v242 v241
  let v249 : BitVec 32 := Scalar.select v247 v248 v242
  let c1_i32_173 : BitVec 32 := 1#32
  let v250 : BitVec 32 := Scalar.muli v249 c1_i32_173
  let v251 : BitVec 32 := Scalar.addi c0_i32_174 v250
  v251.toNat
def k0_dev19 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v252 : BitVec 32 := Scalar.addi v2 c19_i32
  let c32_i32_175 : BitVec 32 := 32#32
  let c0_i32_176 : BitVec 32 := 0#32
  let v253 : BitVec 1 := Scalar.cmpi .eq c32_i32_175 c0_i32_176
  let c1_i32_177 : BitVec 32 := 1#32
  let v254 : BitVec 32 := Scalar.select v253 c1_i32_177 c32_i32_175
  let v255 : BitVec 32 := Scalar.remsi v252 v254
  let c0_i32_179 : BitVec 32 := 0#32
  let v257 : BitVec 1 := Scalar.cmpi .slt v255 c0_i32_179
  let c0_i32_180 : BitVec 32 := 0#32
  let v258 : BitVec 1 := Scalar.cmpi .slt v254 c0_i32_180
  let v259 : BitVec 1 := Scalar.xori v257 v258
  let c0_i32_178 : BitVec 32 := 0#32
  let v256 : BitVec 1 := Scalar.cmpi .ne v255 c0_i32_178
  let v260 : BitVec 1 := Scalar.andi v259 v256
  let v261 : BitVec 32 := Scalar.addi v255 v254
  let v262 : BitVec 32 := Scalar.select v260 v261 v255
  let c1_i32_182 : BitVec 32 := 1#32
  let v263 : BitVec 32 := Scalar.muli v262 c1_i32_182
  let v264 : BitVec 32 := Scalar.addi c0_i32_183 v263
  v264.toNat
def k0_dev20 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v265 : BitVec 32 := Scalar.addi v2 c20_i32
  let c32_i32_184 : BitVec 32 := 32#32
  let c0_i32_185 : BitVec 32 := 0#32
  let v266 : BitVec 1 := Scalar.cmpi .eq c32_i32_184 c0_i32_185
  let c1_i32_186 : BitVec 32 := 1#32
  let v267 : BitVec 32 := Scalar.select v266 c1_i32_186 c32_i32_184
  let v268 : BitVec 32 := Scalar.remsi v265 v267
  let c0_i32_188 : BitVec 32 := 0#32
  let v270 : BitVec 1 := Scalar.cmpi .slt v268 c0_i32_188
  let c0_i32_189 : BitVec 32 := 0#32
  let v271 : BitVec 1 := Scalar.cmpi .slt v267 c0_i32_189
  let v272 : BitVec 1 := Scalar.xori v270 v271
  let c0_i32_187 : BitVec 32 := 0#32
  let v269 : BitVec 1 := Scalar.cmpi .ne v268 c0_i32_187
  let v273 : BitVec 1 := Scalar.andi v272 v269
  let v274 : BitVec 32 := Scalar.addi v268 v267
  let v275 : BitVec 32 := Scalar.select v273 v274 v268
  let c1_i32_191 : BitVec 32 := 1#32
  let v276 : BitVec 32 := Scalar.muli v275 c1_i32_191
  let v277 : BitVec 32 := Scalar.addi c0_i32_192 v276
  v277.toNat
def k0_dev21 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v278 : BitVec 32 := Scalar.addi v2 c21_i32
  let c32_i32_193 : BitVec 32 := 32#32
  let c0_i32_194 : BitVec 32 := 0#32
  let v279 : BitVec 1 := Scalar.cmpi .eq c32_i32_193 c0_i32_194
  let c1_i32_195 : BitVec 32 := 1#32
  let v280 : BitVec 32 := Scalar.select v279 c1_i32_195 c32_i32_193
  let v281 : BitVec 32 := Scalar.remsi v278 v280
  let c0_i32_197 : BitVec 32 := 0#32
  let v283 : BitVec 1 := Scalar.cmpi .slt v281 c0_i32_197
  let c0_i32_198 : BitVec 32 := 0#32
  let v284 : BitVec 1 := Scalar.cmpi .slt v280 c0_i32_198
  let v285 : BitVec 1 := Scalar.xori v283 v284
  let c0_i32_196 : BitVec 32 := 0#32
  let v282 : BitVec 1 := Scalar.cmpi .ne v281 c0_i32_196
  let v286 : BitVec 1 := Scalar.andi v285 v282
  let v287 : BitVec 32 := Scalar.addi v281 v280
  let v288 : BitVec 32 := Scalar.select v286 v287 v281
  let c1_i32_200 : BitVec 32 := 1#32
  let v289 : BitVec 32 := Scalar.muli v288 c1_i32_200
  let v290 : BitVec 32 := Scalar.addi c0_i32_201 v289
  v290.toNat
def k0_dev22 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v291 : BitVec 32 := Scalar.addi v2 c22_i32
  let c32_i32_202 : BitVec 32 := 32#32
  let c0_i32_203 : BitVec 32 := 0#32
  let v292 : BitVec 1 := Scalar.cmpi .eq c32_i32_202 c0_i32_203
  let c1_i32_204 : BitVec 32 := 1#32
  let v293 : BitVec 32 := Scalar.select v292 c1_i32_204 c32_i32_202
  let v294 : BitVec 32 := Scalar.remsi v291 v293
  let c0_i32_206 : BitVec 32 := 0#32
  let v296 : BitVec 1 := Scalar.cmpi .slt v294 c0_i32_206
  let c0_i32_207 : BitVec 32 := 0#32
  let v297 : BitVec 1 := Scalar.cmpi .slt v293 c0_i32_207
  let v298 : BitVec 1 := Scalar.xori v296 v297
  let c0_i32_205 : BitVec 32 := 0#32
  let v295 : BitVec 1 := Scalar.cmpi .ne v294 c0_i32_205
  let v299 : BitVec 1 := Scalar.andi v298 v295
  let v300 : BitVec 32 := Scalar.addi v294 v293
  let v301 : BitVec 32 := Scalar.select v299 v300 v294
  let c1_i32_209 : BitVec 32 := 1#32
  let v302 : BitVec 32 := Scalar.muli v301 c1_i32_209
  let v303 : BitVec 32 := Scalar.addi c0_i32_210 v302
  v303.toNat
def k0_dev23 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v304 : BitVec 32 := Scalar.addi v2 c23_i32
  let c32_i32_211 : BitVec 32 := 32#32
  let c0_i32_212 : BitVec 32 := 0#32
  let v305 : BitVec 1 := Scalar.cmpi .eq c32_i32_211 c0_i32_212
  let c1_i32_213 : BitVec 32 := 1#32
  let v306 : BitVec 32 := Scalar.select v305 c1_i32_213 c32_i32_211
  let v307 : BitVec 32 := Scalar.remsi v304 v306
  let c0_i32_215 : BitVec 32 := 0#32
  let v309 : BitVec 1 := Scalar.cmpi .slt v307 c0_i32_215
  let c0_i32_216 : BitVec 32 := 0#32
  let v310 : BitVec 1 := Scalar.cmpi .slt v306 c0_i32_216
  let v311 : BitVec 1 := Scalar.xori v309 v310
  let c0_i32_214 : BitVec 32 := 0#32
  let v308 : BitVec 1 := Scalar.cmpi .ne v307 c0_i32_214
  let v312 : BitVec 1 := Scalar.andi v311 v308
  let v313 : BitVec 32 := Scalar.addi v307 v306
  let v314 : BitVec 32 := Scalar.select v312 v313 v307
  let c1_i32_218 : BitVec 32 := 1#32
  let v315 : BitVec 32 := Scalar.muli v314 c1_i32_218
  let v316 : BitVec 32 := Scalar.addi c0_i32_219 v315
  v316.toNat
def k0_dev24 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v317 : BitVec 32 := Scalar.addi v2 c24_i32
  let c32_i32_220 : BitVec 32 := 32#32
  let c0_i32_221 : BitVec 32 := 0#32
  let v318 : BitVec 1 := Scalar.cmpi .eq c32_i32_220 c0_i32_221
  let c1_i32_222 : BitVec 32 := 1#32
  let v319 : BitVec 32 := Scalar.select v318 c1_i32_222 c32_i32_220
  let v320 : BitVec 32 := Scalar.remsi v317 v319
  let c0_i32_224 : BitVec 32 := 0#32
  let v322 : BitVec 1 := Scalar.cmpi .slt v320 c0_i32_224
  let c0_i32_225 : BitVec 32 := 0#32
  let v323 : BitVec 1 := Scalar.cmpi .slt v319 c0_i32_225
  let v324 : BitVec 1 := Scalar.xori v322 v323
  let c0_i32_223 : BitVec 32 := 0#32
  let v321 : BitVec 1 := Scalar.cmpi .ne v320 c0_i32_223
  let v325 : BitVec 1 := Scalar.andi v324 v321
  let v326 : BitVec 32 := Scalar.addi v320 v319
  let v327 : BitVec 32 := Scalar.select v325 v326 v320
  let c1_i32_227 : BitVec 32 := 1#32
  let v328 : BitVec 32 := Scalar.muli v327 c1_i32_227
  let v329 : BitVec 32 := Scalar.addi c0_i32_228 v328
  v329.toNat
def k0_dev25 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v330 : BitVec 32 := Scalar.addi v2 c25_i32
  let c32_i32_229 : BitVec 32 := 32#32
  let c0_i32_230 : BitVec 32 := 0#32
  let v331 : BitVec 1 := Scalar.cmpi .eq c32_i32_229 c0_i32_230
  let c1_i32_231 : BitVec 32 := 1#32
  let v332 : BitVec 32 := Scalar.select v331 c1_i32_231 c32_i32_229
  let v333 : BitVec 32 := Scalar.remsi v330 v332
  let c0_i32_233 : BitVec 32 := 0#32
  let v335 : BitVec 1 := Scalar.cmpi .slt v333 c0_i32_233
  let c0_i32_234 : BitVec 32 := 0#32
  let v336 : BitVec 1 := Scalar.cmpi .slt v332 c0_i32_234
  let v337 : BitVec 1 := Scalar.xori v335 v336
  let c0_i32_232 : BitVec 32 := 0#32
  let v334 : BitVec 1 := Scalar.cmpi .ne v333 c0_i32_232
  let v338 : BitVec 1 := Scalar.andi v337 v334
  let v339 : BitVec 32 := Scalar.addi v333 v332
  let v340 : BitVec 32 := Scalar.select v338 v339 v333
  let c1_i32_236 : BitVec 32 := 1#32
  let v341 : BitVec 32 := Scalar.muli v340 c1_i32_236
  let v342 : BitVec 32 := Scalar.addi c0_i32_237 v341
  v342.toNat
def k0_dev26 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v343 : BitVec 32 := Scalar.addi v2 c26_i32
  let c32_i32_238 : BitVec 32 := 32#32
  let c0_i32_239 : BitVec 32 := 0#32
  let v344 : BitVec 1 := Scalar.cmpi .eq c32_i32_238 c0_i32_239
  let c1_i32_240 : BitVec 32 := 1#32
  let v345 : BitVec 32 := Scalar.select v344 c1_i32_240 c32_i32_238
  let v346 : BitVec 32 := Scalar.remsi v343 v345
  let c0_i32_242 : BitVec 32 := 0#32
  let v348 : BitVec 1 := Scalar.cmpi .slt v346 c0_i32_242
  let c0_i32_243 : BitVec 32 := 0#32
  let v349 : BitVec 1 := Scalar.cmpi .slt v345 c0_i32_243
  let v350 : BitVec 1 := Scalar.xori v348 v349
  let c0_i32_241 : BitVec 32 := 0#32
  let v347 : BitVec 1 := Scalar.cmpi .ne v346 c0_i32_241
  let v351 : BitVec 1 := Scalar.andi v350 v347
  let v352 : BitVec 32 := Scalar.addi v346 v345
  let v353 : BitVec 32 := Scalar.select v351 v352 v346
  let c1_i32_245 : BitVec 32 := 1#32
  let v354 : BitVec 32 := Scalar.muli v353 c1_i32_245
  let v355 : BitVec 32 := Scalar.addi c0_i32_246 v354
  v355.toNat
def k0_dev27 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v356 : BitVec 32 := Scalar.addi v2 c27_i32
  let c32_i32_247 : BitVec 32 := 32#32
  let c0_i32_248 : BitVec 32 := 0#32
  let v357 : BitVec 1 := Scalar.cmpi .eq c32_i32_247 c0_i32_248
  let c1_i32_249 : BitVec 32 := 1#32
  let v358 : BitVec 32 := Scalar.select v357 c1_i32_249 c32_i32_247
  let v359 : BitVec 32 := Scalar.remsi v356 v358
  let c0_i32_251 : BitVec 32 := 0#32
  let v361 : BitVec 1 := Scalar.cmpi .slt v359 c0_i32_251
  let c0_i32_252 : BitVec 32 := 0#32
  let v362 : BitVec 1 := Scalar.cmpi .slt v358 c0_i32_252
  let v363 : BitVec 1 := Scalar.xori v361 v362
  let c0_i32_250 : BitVec 32 := 0#32
  let v360 : BitVec 1 := Scalar.cmpi .ne v359 c0_i32_250
  let v364 : BitVec 1 := Scalar.andi v363 v360
  let v365 : BitVec 32 := Scalar.addi v359 v358
  let v366 : BitVec 32 := Scalar.select v364 v365 v359
  let c1_i32_254 : BitVec 32 := 1#32
  let v367 : BitVec 32 := Scalar.muli v366 c1_i32_254
  let v368 : BitVec 32 := Scalar.addi c0_i32_255 v367
  v368.toNat
def k0_dev28 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v369 : BitVec 32 := Scalar.addi v2 c28_i32
  let c32_i32_256 : BitVec 32 := 32#32
  let c0_i32_257 : BitVec 32 := 0#32
  let v370 : BitVec 1 := Scalar.cmpi .eq c32_i32_256 c0_i32_257
  let c1_i32_258 : BitVec 32 := 1#32
  let v371 : BitVec 32 := Scalar.select v370 c1_i32_258 c32_i32_256
  let v372 : BitVec 32 := Scalar.remsi v369 v371
  let c0_i32_260 : BitVec 32 := 0#32
  let v374 : BitVec 1 := Scalar.cmpi .slt v372 c0_i32_260
  let c0_i32_261 : BitVec 32 := 0#32
  let v375 : BitVec 1 := Scalar.cmpi .slt v371 c0_i32_261
  let v376 : BitVec 1 := Scalar.xori v374 v375
  let c0_i32_259 : BitVec 32 := 0#32
  let v373 : BitVec 1 := Scalar.cmpi .ne v372 c0_i32_259
  let v377 : BitVec 1 := Scalar.andi v376 v373
  let v378 : BitVec 32 := Scalar.addi v372 v371
  let v379 : BitVec 32 := Scalar.select v377 v378 v372
  let c1_i32_263 : BitVec 32 := 1#32
  let v380 : BitVec 32 := Scalar.muli v379 c1_i32_263
  let v381 : BitVec 32 := Scalar.addi c0_i32_264 v380
  v381.toNat
def k0_dev29 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v382 : BitVec 32 := Scalar.addi v2 c29_i32
  let c32_i32_265 : BitVec 32 := 32#32
  let c0_i32_266 : BitVec 32 := 0#32
  let v383 : BitVec 1 := Scalar.cmpi .eq c32_i32_265 c0_i32_266
  let c1_i32_267 : BitVec 32 := 1#32
  let v384 : BitVec 32 := Scalar.select v383 c1_i32_267 c32_i32_265
  let v385 : BitVec 32 := Scalar.remsi v382 v384
  let c0_i32_269 : BitVec 32 := 0#32
  let v387 : BitVec 1 := Scalar.cmpi .slt v385 c0_i32_269
  let c0_i32_270 : BitVec 32 := 0#32
  let v388 : BitVec 1 := Scalar.cmpi .slt v384 c0_i32_270
  let v389 : BitVec 1 := Scalar.xori v387 v388
  let c0_i32_268 : BitVec 32 := 0#32
  let v386 : BitVec 1 := Scalar.cmpi .ne v385 c0_i32_268
  let v390 : BitVec 1 := Scalar.andi v389 v386
  let v391 : BitVec 32 := Scalar.addi v385 v384
  let v392 : BitVec 32 := Scalar.select v390 v391 v385
  let c1_i32_272 : BitVec 32 := 1#32
  let v393 : BitVec 32 := Scalar.muli v392 c1_i32_272
  let v394 : BitVec 32 := Scalar.addi c0_i32_273 v393
  v394.toNat
def k0_dev30 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v395 : BitVec 32 := Scalar.addi v2 c30_i32
  let c32_i32_274 : BitVec 32 := 32#32
  let c0_i32_275 : BitVec 32 := 0#32
  let v396 : BitVec 1 := Scalar.cmpi .eq c32_i32_274 c0_i32_275
  let c1_i32_276 : BitVec 32 := 1#32
  let v397 : BitVec 32 := Scalar.select v396 c1_i32_276 c32_i32_274
  let v398 : BitVec 32 := Scalar.remsi v395 v397
  let c0_i32_278 : BitVec 32 := 0#32
  let v400 : BitVec 1 := Scalar.cmpi .slt v398 c0_i32_278
  let c0_i32_279 : BitVec 32 := 0#32
  let v401 : BitVec 1 := Scalar.cmpi .slt v397 c0_i32_279
  let v402 : BitVec 1 := Scalar.xori v400 v401
  let c0_i32_277 : BitVec 32 := 0#32
  let v399 : BitVec 1 := Scalar.cmpi .ne v398 c0_i32_277
  let v403 : BitVec 1 := Scalar.andi v402 v399
  let v404 : BitVec 32 := Scalar.addi v398 v397
  let v405 : BitVec 32 := Scalar.select v403 v404 v398
  let c1_i32_281 : BitVec 32 := 1#32
  let v406 : BitVec 32 := Scalar.muli v405 c1_i32_281
  let v407 : BitVec 32 := Scalar.addi c0_i32_282 v406
  v407.toNat
def k0_dev31 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v408 : BitVec 32 := Scalar.addi v2 c31_i32
  let c32_i32_283 : BitVec 32 := 32#32
  let c0_i32_284 : BitVec 32 := 0#32
  let v409 : BitVec 1 := Scalar.cmpi .eq c32_i32_283 c0_i32_284
  let c1_i32_285 : BitVec 32 := 1#32
  let v410 : BitVec 32 := Scalar.select v409 c1_i32_285 c32_i32_283
  let v411 : BitVec 32 := Scalar.remsi v408 v410
  let c0_i32_287 : BitVec 32 := 0#32
  let v413 : BitVec 1 := Scalar.cmpi .slt v411 c0_i32_287
  let c0_i32_288 : BitVec 32 := 0#32
  let v414 : BitVec 1 := Scalar.cmpi .slt v410 c0_i32_288
  let v415 : BitVec 1 := Scalar.xori v413 v414
  let c0_i32_286 : BitVec 32 := 0#32
  let v412 : BitVec 1 := Scalar.cmpi .ne v411 c0_i32_286
  let v416 : BitVec 1 := Scalar.andi v415 v412
  let v417 : BitVec 32 := Scalar.addi v411 v410
  let v418 : BitVec 32 := Scalar.select v416 v417 v411
  let c1_i32_290 : BitVec 32 := 1#32
  let v419 : BitVec 32 := Scalar.muli v418 c1_i32_290
  let v420 : BitVec 32 := Scalar.addi c0_i32_291 v419
  v420.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_460 : BitVec 32 := 0#32
  let v741 : BitVec 1 := Scalar.cmpi .ne v2 c0_i32_460
  let v742 : BitVec 32 := Scalar.extui v741
  let c0_i32_461 : BitVec 32 := 0#32
  let v743 : BitVec 1 := Scalar.cmpi .ne v742 c0_i32_461
  v743

def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev32 : Nat :=
  let c0_i32_799 : BitVec 32 := 0#32
  let c0_i32_797 : BitVec 32 := 0#32
  let c1_i32_798 : BitVec 32 := 1#32
  let v1244 : BitVec 32 := Scalar.muli c0_i32_797 c1_i32_798
  let v1245 : BitVec 32 := Scalar.addi c0_i32_799 v1244
  v1245.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_462 : BitVec 32 := 1#32
  let v744 : BitVec 1 := Scalar.cmpi .ne v2 c1_i32_462
  let v745 : BitVec 32 := Scalar.extui v744
  let c0_i32_463 : BitVec 32 := 0#32
  let v746 : BitVec 1 := Scalar.cmpi .ne v745 c0_i32_463
  v746

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev33 : Nat :=
  let c0_i32_799 : BitVec 32 := 0#32
  let c1_i32_797 : BitVec 32 := 1#32
  let c1_i32_798 : BitVec 32 := 1#32
  let v1244 : BitVec 32 := Scalar.muli c1_i32_797 c1_i32_798
  let v1245 : BitVec 32 := Scalar.addi c0_i32_799 v1244
  v1245.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_464 : BitVec 32 := 2#32
  let v747 : BitVec 1 := Scalar.cmpi .ne v2 c2_i32_464
  let v748 : BitVec 32 := Scalar.extui v747
  let c0_i32_465 : BitVec 32 := 0#32
  let v749 : BitVec 1 := Scalar.cmpi .ne v748 c0_i32_465
  v749

def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev34 : Nat :=
  let c0_i32_799 : BitVec 32 := 0#32
  let c2_i32_797 : BitVec 32 := 2#32
  let c1_i32_798 : BitVec 32 := 1#32
  let v1244 : BitVec 32 := Scalar.muli c2_i32_797 c1_i32_798
  let v1245 : BitVec 32 := Scalar.addi c0_i32_799 v1244
  v1245.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_466 : BitVec 32 := 3#32
  let v750 : BitVec 1 := Scalar.cmpi .ne v2 c3_i32_466
  let v751 : BitVec 32 := Scalar.extui v750
  let c0_i32_467 : BitVec 32 := 0#32
  let v752 : BitVec 1 := Scalar.cmpi .ne v751 c0_i32_467
  v752

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev35 : Nat :=
  let c0_i32_799 : BitVec 32 := 0#32
  let c3_i32_797 : BitVec 32 := 3#32
  let c1_i32_798 : BitVec 32 := 1#32
  let v1244 : BitVec 32 := Scalar.muli c3_i32_797 c1_i32_798
  let v1245 : BitVec 32 := Scalar.addi c0_i32_799 v1244
  v1245.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_468 : BitVec 32 := 4#32
  let v753 : BitVec 1 := Scalar.cmpi .ne v2 c4_i32_468
  let v754 : BitVec 32 := Scalar.extui v753
  let c0_i32_469 : BitVec 32 := 0#32
  let v755 : BitVec 1 := Scalar.cmpi .ne v754 c0_i32_469
  v755

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev36 : Nat :=
  let c0_i32_799 : BitVec 32 := 0#32
  let c4_i32_797 : BitVec 32 := 4#32
  let c1_i32_798 : BitVec 32 := 1#32
  let v1244 : BitVec 32 := Scalar.muli c4_i32_797 c1_i32_798
  let v1245 : BitVec 32 := Scalar.addi c0_i32_799 v1244
  v1245.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_470 : BitVec 32 := 5#32
  let v756 : BitVec 1 := Scalar.cmpi .ne v2 c5_i32_470
  let v757 : BitVec 32 := Scalar.extui v756
  let c0_i32_471 : BitVec 32 := 0#32
  let v758 : BitVec 1 := Scalar.cmpi .ne v757 c0_i32_471
  v758

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev37 : Nat :=
  let c0_i32_799 : BitVec 32 := 0#32
  let c5_i32_797 : BitVec 32 := 5#32
  let c1_i32_798 : BitVec 32 := 1#32
  let v1244 : BitVec 32 := Scalar.muli c5_i32_797 c1_i32_798
  let v1245 : BitVec 32 := Scalar.addi c0_i32_799 v1244
  v1245.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_472 : BitVec 32 := 6#32
  let v759 : BitVec 1 := Scalar.cmpi .ne v2 c6_i32_472
  let v760 : BitVec 32 := Scalar.extui v759
  let c0_i32_473 : BitVec 32 := 0#32
  let v761 : BitVec 1 := Scalar.cmpi .ne v760 c0_i32_473
  v761

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev38 : Nat :=
  let c0_i32_799 : BitVec 32 := 0#32
  let c6_i32_797 : BitVec 32 := 6#32
  let c1_i32_798 : BitVec 32 := 1#32
  let v1244 : BitVec 32 := Scalar.muli c6_i32_797 c1_i32_798
  let v1245 : BitVec 32 := Scalar.addi c0_i32_799 v1244
  v1245.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_474 : BitVec 32 := 7#32
  let v762 : BitVec 1 := Scalar.cmpi .ne v2 c7_i32_474
  let v763 : BitVec 32 := Scalar.extui v762
  let c0_i32_475 : BitVec 32 := 0#32
  let v764 : BitVec 1 := Scalar.cmpi .ne v763 c0_i32_475
  v764

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev39 : Nat :=
  let c0_i32_799 : BitVec 32 := 0#32
  let c7_i32_797 : BitVec 32 := 7#32
  let c1_i32_798 : BitVec 32 := 1#32
  let v1244 : BitVec 32 := Scalar.muli c7_i32_797 c1_i32_798
  let v1245 : BitVec 32 := Scalar.addi c0_i32_799 v1244
  v1245.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_476 : BitVec 32 := 8#32
  let v765 : BitVec 1 := Scalar.cmpi .ne v2 c8_i32_476
  let v766 : BitVec 32 := Scalar.extui v765
  let c0_i32_477 : BitVec 32 := 0#32
  let v767 : BitVec 1 := Scalar.cmpi .ne v766 c0_i32_477
  v767

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev40 : Nat :=
  let c0_i32_799 : BitVec 32 := 0#32
  let c8_i32_797 : BitVec 32 := 8#32
  let c1_i32_798 : BitVec 32 := 1#32
  let v1244 : BitVec 32 := Scalar.muli c8_i32_797 c1_i32_798
  let v1245 : BitVec 32 := Scalar.addi c0_i32_799 v1244
  v1245.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_478 : BitVec 32 := 9#32
  let v768 : BitVec 1 := Scalar.cmpi .ne v2 c9_i32_478
  let v769 : BitVec 32 := Scalar.extui v768
  let c0_i32_479 : BitVec 32 := 0#32
  let v770 : BitVec 1 := Scalar.cmpi .ne v769 c0_i32_479
  v770

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev41 : Nat :=
  let c0_i32_799 : BitVec 32 := 0#32
  let c9_i32_797 : BitVec 32 := 9#32
  let c1_i32_798 : BitVec 32 := 1#32
  let v1244 : BitVec 32 := Scalar.muli c9_i32_797 c1_i32_798
  let v1245 : BitVec 32 := Scalar.addi c0_i32_799 v1244
  v1245.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_480 : BitVec 32 := 10#32
  let v771 : BitVec 1 := Scalar.cmpi .ne v2 c10_i32_480
  let v772 : BitVec 32 := Scalar.extui v771
  let c0_i32_481 : BitVec 32 := 0#32
  let v773 : BitVec 1 := Scalar.cmpi .ne v772 c0_i32_481
  v773

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev42 : Nat :=
  let c0_i32_799 : BitVec 32 := 0#32
  let c10_i32_797 : BitVec 32 := 10#32
  let c1_i32_798 : BitVec 32 := 1#32
  let v1244 : BitVec 32 := Scalar.muli c10_i32_797 c1_i32_798
  let v1245 : BitVec 32 := Scalar.addi c0_i32_799 v1244
  v1245.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_482 : BitVec 32 := 11#32
  let v774 : BitVec 1 := Scalar.cmpi .ne v2 c11_i32_482
  let v775 : BitVec 32 := Scalar.extui v774
  let c0_i32_483 : BitVec 32 := 0#32
  let v776 : BitVec 1 := Scalar.cmpi .ne v775 c0_i32_483
  v776

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev43 : Nat :=
  let c0_i32_799 : BitVec 32 := 0#32
  let c11_i32_797 : BitVec 32 := 11#32
  let c1_i32_798 : BitVec 32 := 1#32
  let v1244 : BitVec 32 := Scalar.muli c11_i32_797 c1_i32_798
  let v1245 : BitVec 32 := Scalar.addi c0_i32_799 v1244
  v1245.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_484 : BitVec 32 := 12#32
  let v777 : BitVec 1 := Scalar.cmpi .ne v2 c12_i32_484
  let v778 : BitVec 32 := Scalar.extui v777
  let c0_i32_485 : BitVec 32 := 0#32
  let v779 : BitVec 1 := Scalar.cmpi .ne v778 c0_i32_485
  v779

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev44 : Nat :=
  let c0_i32_799 : BitVec 32 := 0#32
  let c12_i32_797 : BitVec 32 := 12#32
  let c1_i32_798 : BitVec 32 := 1#32
  let v1244 : BitVec 32 := Scalar.muli c12_i32_797 c1_i32_798
  let v1245 : BitVec 32 := Scalar.addi c0_i32_799 v1244
  v1245.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_486 : BitVec 32 := 13#32
  let v780 : BitVec 1 := Scalar.cmpi .ne v2 c13_i32_486
  let v781 : BitVec 32 := Scalar.extui v780
  let c0_i32_487 : BitVec 32 := 0#32
  let v782 : BitVec 1 := Scalar.cmpi .ne v781 c0_i32_487
  v782

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev45 : Nat :=
  let c0_i32_799 : BitVec 32 := 0#32
  let c13_i32_797 : BitVec 32 := 13#32
  let c1_i32_798 : BitVec 32 := 1#32
  let v1244 : BitVec 32 := Scalar.muli c13_i32_797 c1_i32_798
  let v1245 : BitVec 32 := Scalar.addi c0_i32_799 v1244
  v1245.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_488 : BitVec 32 := 14#32
  let v783 : BitVec 1 := Scalar.cmpi .ne v2 c14_i32_488
  let v784 : BitVec 32 := Scalar.extui v783
  let c0_i32_489 : BitVec 32 := 0#32
  let v785 : BitVec 1 := Scalar.cmpi .ne v784 c0_i32_489
  v785

def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev46 : Nat :=
  let c0_i32_799 : BitVec 32 := 0#32
  let c14_i32_797 : BitVec 32 := 14#32
  let c1_i32_798 : BitVec 32 := 1#32
  let v1244 : BitVec 32 := Scalar.muli c14_i32_797 c1_i32_798
  let v1245 : BitVec 32 := Scalar.addi c0_i32_799 v1244
  v1245.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_490 : BitVec 32 := 15#32
  let v786 : BitVec 1 := Scalar.cmpi .ne v2 c15_i32_490
  let v787 : BitVec 32 := Scalar.extui v786
  let c0_i32_491 : BitVec 32 := 0#32
  let v788 : BitVec 1 := Scalar.cmpi .ne v787 c0_i32_491
  v788

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev47 : Nat :=
  let c0_i32_799 : BitVec 32 := 0#32
  let c15_i32_797 : BitVec 32 := 15#32
  let c1_i32_798 : BitVec 32 := 1#32
  let v1244 : BitVec 32 := Scalar.muli c15_i32_797 c1_i32_798
  let v1245 : BitVec 32 := Scalar.addi c0_i32_799 v1244
  v1245.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_492 : BitVec 32 := 16#32
  let v789 : BitVec 1 := Scalar.cmpi .ne v2 c16_i32_492
  let v790 : BitVec 32 := Scalar.extui v789
  let c0_i32_493 : BitVec 32 := 0#32
  let v791 : BitVec 1 := Scalar.cmpi .ne v790 c0_i32_493
  v791

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev48 : Nat :=
  let c0_i32_799 : BitVec 32 := 0#32
  let c16_i32_797 : BitVec 32 := 16#32
  let c1_i32_798 : BitVec 32 := 1#32
  let v1244 : BitVec 32 := Scalar.muli c16_i32_797 c1_i32_798
  let v1245 : BitVec 32 := Scalar.addi c0_i32_799 v1244
  v1245.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_494 : BitVec 32 := 17#32
  let v792 : BitVec 1 := Scalar.cmpi .ne v2 c17_i32_494
  let v793 : BitVec 32 := Scalar.extui v792
  let c0_i32_495 : BitVec 32 := 0#32
  let v794 : BitVec 1 := Scalar.cmpi .ne v793 c0_i32_495
  v794

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev49 : Nat :=
  let c0_i32_799 : BitVec 32 := 0#32
  let c17_i32_797 : BitVec 32 := 17#32
  let c1_i32_798 : BitVec 32 := 1#32
  let v1244 : BitVec 32 := Scalar.muli c17_i32_797 c1_i32_798
  let v1245 : BitVec 32 := Scalar.addi c0_i32_799 v1244
  v1245.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_496 : BitVec 32 := 18#32
  let v795 : BitVec 1 := Scalar.cmpi .ne v2 c18_i32_496
  let v796 : BitVec 32 := Scalar.extui v795
  let c0_i32_497 : BitVec 32 := 0#32
  let v797 : BitVec 1 := Scalar.cmpi .ne v796 c0_i32_497
  v797

def k0_off38 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev50 : Nat :=
  let c0_i32_799 : BitVec 32 := 0#32
  let c18_i32_797 : BitVec 32 := 18#32
  let c1_i32_798 : BitVec 32 := 1#32
  let v1244 : BitVec 32 := Scalar.muli c18_i32_797 c1_i32_798
  let v1245 : BitVec 32 := Scalar.addi c0_i32_799 v1244
  v1245.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_498 : BitVec 32 := 19#32
  let v798 : BitVec 1 := Scalar.cmpi .ne v2 c19_i32_498
  let v799 : BitVec 32 := Scalar.extui v798
  let c0_i32_499 : BitVec 32 := 0#32
  let v800 : BitVec 1 := Scalar.cmpi .ne v799 c0_i32_499
  v800

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev51 : Nat :=
  let c0_i32_799 : BitVec 32 := 0#32
  let c19_i32_797 : BitVec 32 := 19#32
  let c1_i32_798 : BitVec 32 := 1#32
  let v1244 : BitVec 32 := Scalar.muli c19_i32_797 c1_i32_798
  let v1245 : BitVec 32 := Scalar.addi c0_i32_799 v1244
  v1245.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_500 : BitVec 32 := 20#32
  let v801 : BitVec 1 := Scalar.cmpi .ne v2 c20_i32_500
  let v802 : BitVec 32 := Scalar.extui v801
  let c0_i32_501 : BitVec 32 := 0#32
  let v803 : BitVec 1 := Scalar.cmpi .ne v802 c0_i32_501
  v803

def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev52 : Nat :=
  let c0_i32_799 : BitVec 32 := 0#32
  let c20_i32_797 : BitVec 32 := 20#32
  let c1_i32_798 : BitVec 32 := 1#32
  let v1244 : BitVec 32 := Scalar.muli c20_i32_797 c1_i32_798
  let v1245 : BitVec 32 := Scalar.addi c0_i32_799 v1244
  v1245.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_502 : BitVec 32 := 21#32
  let v804 : BitVec 1 := Scalar.cmpi .ne v2 c21_i32_502
  let v805 : BitVec 32 := Scalar.extui v804
  let c0_i32_503 : BitVec 32 := 0#32
  let v806 : BitVec 1 := Scalar.cmpi .ne v805 c0_i32_503
  v806

def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev53 : Nat :=
  let c0_i32_799 : BitVec 32 := 0#32
  let c21_i32_797 : BitVec 32 := 21#32
  let c1_i32_798 : BitVec 32 := 1#32
  let v1244 : BitVec 32 := Scalar.muli c21_i32_797 c1_i32_798
  let v1245 : BitVec 32 := Scalar.addi c0_i32_799 v1244
  v1245.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_504 : BitVec 32 := 22#32
  let v807 : BitVec 1 := Scalar.cmpi .ne v2 c22_i32_504
  let v808 : BitVec 32 := Scalar.extui v807
  let c0_i32_505 : BitVec 32 := 0#32
  let v809 : BitVec 1 := Scalar.cmpi .ne v808 c0_i32_505
  v809

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev54 : Nat :=
  let c0_i32_799 : BitVec 32 := 0#32
  let c22_i32_797 : BitVec 32 := 22#32
  let c1_i32_798 : BitVec 32 := 1#32
  let v1244 : BitVec 32 := Scalar.muli c22_i32_797 c1_i32_798
  let v1245 : BitVec 32 := Scalar.addi c0_i32_799 v1244
  v1245.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_506 : BitVec 32 := 23#32
  let v810 : BitVec 1 := Scalar.cmpi .ne v2 c23_i32_506
  let v811 : BitVec 32 := Scalar.extui v810
  let c0_i32_507 : BitVec 32 := 0#32
  let v812 : BitVec 1 := Scalar.cmpi .ne v811 c0_i32_507
  v812

def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev55 : Nat :=
  let c0_i32_799 : BitVec 32 := 0#32
  let c23_i32_797 : BitVec 32 := 23#32
  let c1_i32_798 : BitVec 32 := 1#32
  let v1244 : BitVec 32 := Scalar.muli c23_i32_797 c1_i32_798
  let v1245 : BitVec 32 := Scalar.addi c0_i32_799 v1244
  v1245.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_508 : BitVec 32 := 24#32
  let v813 : BitVec 1 := Scalar.cmpi .ne v2 c24_i32_508
  let v814 : BitVec 32 := Scalar.extui v813
  let c0_i32_509 : BitVec 32 := 0#32
  let v815 : BitVec 1 := Scalar.cmpi .ne v814 c0_i32_509
  v815

def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev56 : Nat :=
  let c0_i32_799 : BitVec 32 := 0#32
  let c24_i32_797 : BitVec 32 := 24#32
  let c1_i32_798 : BitVec 32 := 1#32
  let v1244 : BitVec 32 := Scalar.muli c24_i32_797 c1_i32_798
  let v1245 : BitVec 32 := Scalar.addi c0_i32_799 v1244
  v1245.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_510 : BitVec 32 := 25#32
  let v816 : BitVec 1 := Scalar.cmpi .ne v2 c25_i32_510
  let v817 : BitVec 32 := Scalar.extui v816
  let c0_i32_511 : BitVec 32 := 0#32
  let v818 : BitVec 1 := Scalar.cmpi .ne v817 c0_i32_511
  v818

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev57 : Nat :=
  let c0_i32_799 : BitVec 32 := 0#32
  let c25_i32_797 : BitVec 32 := 25#32
  let c1_i32_798 : BitVec 32 := 1#32
  let v1244 : BitVec 32 := Scalar.muli c25_i32_797 c1_i32_798
  let v1245 : BitVec 32 := Scalar.addi c0_i32_799 v1244
  v1245.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_512 : BitVec 32 := 26#32
  let v819 : BitVec 1 := Scalar.cmpi .ne v2 c26_i32_512
  let v820 : BitVec 32 := Scalar.extui v819
  let c0_i32_513 : BitVec 32 := 0#32
  let v821 : BitVec 1 := Scalar.cmpi .ne v820 c0_i32_513
  v821

def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev58 : Nat :=
  let c0_i32_799 : BitVec 32 := 0#32
  let c26_i32_797 : BitVec 32 := 26#32
  let c1_i32_798 : BitVec 32 := 1#32
  let v1244 : BitVec 32 := Scalar.muli c26_i32_797 c1_i32_798
  let v1245 : BitVec 32 := Scalar.addi c0_i32_799 v1244
  v1245.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_514 : BitVec 32 := 27#32
  let v822 : BitVec 1 := Scalar.cmpi .ne v2 c27_i32_514
  let v823 : BitVec 32 := Scalar.extui v822
  let c0_i32_515 : BitVec 32 := 0#32
  let v824 : BitVec 1 := Scalar.cmpi .ne v823 c0_i32_515
  v824

def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev59 : Nat :=
  let c0_i32_799 : BitVec 32 := 0#32
  let c27_i32_797 : BitVec 32 := 27#32
  let c1_i32_798 : BitVec 32 := 1#32
  let v1244 : BitVec 32 := Scalar.muli c27_i32_797 c1_i32_798
  let v1245 : BitVec 32 := Scalar.addi c0_i32_799 v1244
  v1245.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_516 : BitVec 32 := 28#32
  let v825 : BitVec 1 := Scalar.cmpi .ne v2 c28_i32_516
  let v826 : BitVec 32 := Scalar.extui v825
  let c0_i32_517 : BitVec 32 := 0#32
  let v827 : BitVec 1 := Scalar.cmpi .ne v826 c0_i32_517
  v827

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev60 : Nat :=
  let c0_i32_799 : BitVec 32 := 0#32
  let c28_i32_797 : BitVec 32 := 28#32
  let c1_i32_798 : BitVec 32 := 1#32
  let v1244 : BitVec 32 := Scalar.muli c28_i32_797 c1_i32_798
  let v1245 : BitVec 32 := Scalar.addi c0_i32_799 v1244
  v1245.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_518 : BitVec 32 := 29#32
  let v828 : BitVec 1 := Scalar.cmpi .ne v2 c29_i32_518
  let v829 : BitVec 32 := Scalar.extui v828
  let c0_i32_519 : BitVec 32 := 0#32
  let v830 : BitVec 1 := Scalar.cmpi .ne v829 c0_i32_519
  v830

def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev61 : Nat :=
  let c0_i32_799 : BitVec 32 := 0#32
  let c29_i32_797 : BitVec 32 := 29#32
  let c1_i32_798 : BitVec 32 := 1#32
  let v1244 : BitVec 32 := Scalar.muli c29_i32_797 c1_i32_798
  let v1245 : BitVec 32 := Scalar.addi c0_i32_799 v1244
  v1245.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_520 : BitVec 32 := 30#32
  let v831 : BitVec 1 := Scalar.cmpi .ne v2 c30_i32_520
  let v832 : BitVec 32 := Scalar.extui v831
  let c0_i32_521 : BitVec 32 := 0#32
  let v833 : BitVec 1 := Scalar.cmpi .ne v832 c0_i32_521
  v833

def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev62 : Nat :=
  let c0_i32_799 : BitVec 32 := 0#32
  let c30_i32_797 : BitVec 32 := 30#32
  let c1_i32_798 : BitVec 32 := 1#32
  let v1244 : BitVec 32 := Scalar.muli c30_i32_797 c1_i32_798
  let v1245 : BitVec 32 := Scalar.addi c0_i32_799 v1244
  v1245.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_522 : BitVec 32 := 31#32
  let v834 : BitVec 1 := Scalar.cmpi .ne v2 c31_i32_522
  let v835 : BitVec 32 := Scalar.extui v834
  let c0_i32_523 : BitVec 32 := 0#32
  let v836 : BitVec 1 := Scalar.cmpi .ne v835 c0_i32_523
  v836

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev63 : Nat :=
  let c0_i32_799 : BitVec 32 := 0#32
  let c31_i32_797 : BitVec 32 := 31#32
  let c1_i32_798 : BitVec 32 := 1#32
  let v1244 : BitVec 32 := Scalar.muli c31_i32_797 c1_i32_798
  let v1245 : BitVec 32 := Scalar.addi c0_i32_799 v1244
  v1245.toNat
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_592 : BitVec 32 := 8#32
  let v940 : BitVec 32 := Scalar.muli v2 c8_i32_592
  let v941 : Index := Scalar.indexCast v940
  let c0_593 : Index := 0#32
  ![v941.toNat, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_597 : BitVec 32 := 0#32
  let v949 : BitVec 1 := Scalar.cmpi .ne v2 c0_i32_597
  let v950 : BitVec 32 := Scalar.extui v949
  let c0_i32_598 : BitVec 32 := 0#32
  let v951 : BitVec 1 := Scalar.cmpi .ne v950 c0_i32_598
  v951

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev64 : Nat :=
  let c0_i32_799 : BitVec 32 := 0#32
  let c0_i32_797 : BitVec 32 := 0#32
  let c1_i32_798 : BitVec 32 := 1#32
  let v1244 : BitVec 32 := Scalar.muli c0_i32_797 c1_i32_798
  let v1245 : BitVec 32 := Scalar.addi c0_i32_799 v1244
  v1245.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_599 : BitVec 32 := 1#32
  let v952 : BitVec 1 := Scalar.cmpi .ne v2 c1_i32_599
  let v953 : BitVec 32 := Scalar.extui v952
  let c0_i32_600 : BitVec 32 := 0#32
  let v954 : BitVec 1 := Scalar.cmpi .ne v953 c0_i32_600
  v954

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev65 : Nat :=
  let c0_i32_799 : BitVec 32 := 0#32
  let c1_i32_797 : BitVec 32 := 1#32
  let c1_i32_798 : BitVec 32 := 1#32
  let v1244 : BitVec 32 := Scalar.muli c1_i32_797 c1_i32_798
  let v1245 : BitVec 32 := Scalar.addi c0_i32_799 v1244
  v1245.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_601 : BitVec 32 := 2#32
  let v955 : BitVec 1 := Scalar.cmpi .ne v2 c2_i32_601
  let v956 : BitVec 32 := Scalar.extui v955
  let c0_i32_602 : BitVec 32 := 0#32
  let v957 : BitVec 1 := Scalar.cmpi .ne v956 c0_i32_602
  v957

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev66 : Nat :=
  let c0_i32_799 : BitVec 32 := 0#32
  let c2_i32_797 : BitVec 32 := 2#32
  let c1_i32_798 : BitVec 32 := 1#32
  let v1244 : BitVec 32 := Scalar.muli c2_i32_797 c1_i32_798
  let v1245 : BitVec 32 := Scalar.addi c0_i32_799 v1244
  v1245.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_603 : BitVec 32 := 3#32
  let v958 : BitVec 1 := Scalar.cmpi .ne v2 c3_i32_603
  let v959 : BitVec 32 := Scalar.extui v958
  let c0_i32_604 : BitVec 32 := 0#32
  let v960 : BitVec 1 := Scalar.cmpi .ne v959 c0_i32_604
  v960

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev67 : Nat :=
  let c0_i32_799 : BitVec 32 := 0#32
  let c3_i32_797 : BitVec 32 := 3#32
  let c1_i32_798 : BitVec 32 := 1#32
  let v1244 : BitVec 32 := Scalar.muli c3_i32_797 c1_i32_798
  let v1245 : BitVec 32 := Scalar.addi c0_i32_799 v1244
  v1245.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_605 : BitVec 32 := 4#32
  let v961 : BitVec 1 := Scalar.cmpi .ne v2 c4_i32_605
  let v962 : BitVec 32 := Scalar.extui v961
  let c0_i32_606 : BitVec 32 := 0#32
  let v963 : BitVec 1 := Scalar.cmpi .ne v962 c0_i32_606
  v963

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev68 : Nat :=
  let c0_i32_799 : BitVec 32 := 0#32
  let c4_i32_797 : BitVec 32 := 4#32
  let c1_i32_798 : BitVec 32 := 1#32
  let v1244 : BitVec 32 := Scalar.muli c4_i32_797 c1_i32_798
  let v1245 : BitVec 32 := Scalar.addi c0_i32_799 v1244
  v1245.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_607 : BitVec 32 := 5#32
  let v964 : BitVec 1 := Scalar.cmpi .ne v2 c5_i32_607
  let v965 : BitVec 32 := Scalar.extui v964
  let c0_i32_608 : BitVec 32 := 0#32
  let v966 : BitVec 1 := Scalar.cmpi .ne v965 c0_i32_608
  v966

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev69 : Nat :=
  let c0_i32_799 : BitVec 32 := 0#32
  let c5_i32_797 : BitVec 32 := 5#32
  let c1_i32_798 : BitVec 32 := 1#32
  let v1244 : BitVec 32 := Scalar.muli c5_i32_797 c1_i32_798
  let v1245 : BitVec 32 := Scalar.addi c0_i32_799 v1244
  v1245.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_609 : BitVec 32 := 6#32
  let v967 : BitVec 1 := Scalar.cmpi .ne v2 c6_i32_609
  let v968 : BitVec 32 := Scalar.extui v967
  let c0_i32_610 : BitVec 32 := 0#32
  let v969 : BitVec 1 := Scalar.cmpi .ne v968 c0_i32_610
  v969

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev70 : Nat :=
  let c0_i32_799 : BitVec 32 := 0#32
  let c6_i32_797 : BitVec 32 := 6#32
  let c1_i32_798 : BitVec 32 := 1#32
  let v1244 : BitVec 32 := Scalar.muli c6_i32_797 c1_i32_798
  let v1245 : BitVec 32 := Scalar.addi c0_i32_799 v1244
  v1245.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_611 : BitVec 32 := 7#32
  let v970 : BitVec 1 := Scalar.cmpi .ne v2 c7_i32_611
  let v971 : BitVec 32 := Scalar.extui v970
  let c0_i32_612 : BitVec 32 := 0#32
  let v972 : BitVec 1 := Scalar.cmpi .ne v971 c0_i32_612
  v972

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev71 : Nat :=
  let c0_i32_799 : BitVec 32 := 0#32
  let c7_i32_797 : BitVec 32 := 7#32
  let c1_i32_798 : BitVec 32 := 1#32
  let v1244 : BitVec 32 := Scalar.muli c7_i32_797 c1_i32_798
  let v1245 : BitVec 32 := Scalar.addi c0_i32_799 v1244
  v1245.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_613 : BitVec 32 := 8#32
  let v973 : BitVec 1 := Scalar.cmpi .ne v2 c8_i32_613
  let v974 : BitVec 32 := Scalar.extui v973
  let c0_i32_614 : BitVec 32 := 0#32
  let v975 : BitVec 1 := Scalar.cmpi .ne v974 c0_i32_614
  v975

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev72 : Nat :=
  let c0_i32_799 : BitVec 32 := 0#32
  let c8_i32_797 : BitVec 32 := 8#32
  let c1_i32_798 : BitVec 32 := 1#32
  let v1244 : BitVec 32 := Scalar.muli c8_i32_797 c1_i32_798
  let v1245 : BitVec 32 := Scalar.addi c0_i32_799 v1244
  v1245.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_615 : BitVec 32 := 9#32
  let v976 : BitVec 1 := Scalar.cmpi .ne v2 c9_i32_615
  let v977 : BitVec 32 := Scalar.extui v976
  let c0_i32_616 : BitVec 32 := 0#32
  let v978 : BitVec 1 := Scalar.cmpi .ne v977 c0_i32_616
  v978

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev73 : Nat :=
  let c0_i32_799 : BitVec 32 := 0#32
  let c9_i32_797 : BitVec 32 := 9#32
  let c1_i32_798 : BitVec 32 := 1#32
  let v1244 : BitVec 32 := Scalar.muli c9_i32_797 c1_i32_798
  let v1245 : BitVec 32 := Scalar.addi c0_i32_799 v1244
  v1245.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_617 : BitVec 32 := 10#32
  let v979 : BitVec 1 := Scalar.cmpi .ne v2 c10_i32_617
  let v980 : BitVec 32 := Scalar.extui v979
  let c0_i32_618 : BitVec 32 := 0#32
  let v981 : BitVec 1 := Scalar.cmpi .ne v980 c0_i32_618
  v981

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev74 : Nat :=
  let c0_i32_799 : BitVec 32 := 0#32
  let c10_i32_797 : BitVec 32 := 10#32
  let c1_i32_798 : BitVec 32 := 1#32
  let v1244 : BitVec 32 := Scalar.muli c10_i32_797 c1_i32_798
  let v1245 : BitVec 32 := Scalar.addi c0_i32_799 v1244
  v1245.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_619 : BitVec 32 := 11#32
  let v982 : BitVec 1 := Scalar.cmpi .ne v2 c11_i32_619
  let v983 : BitVec 32 := Scalar.extui v982
  let c0_i32_620 : BitVec 32 := 0#32
  let v984 : BitVec 1 := Scalar.cmpi .ne v983 c0_i32_620
  v984

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev75 : Nat :=
  let c0_i32_799 : BitVec 32 := 0#32
  let c11_i32_797 : BitVec 32 := 11#32
  let c1_i32_798 : BitVec 32 := 1#32
  let v1244 : BitVec 32 := Scalar.muli c11_i32_797 c1_i32_798
  let v1245 : BitVec 32 := Scalar.addi c0_i32_799 v1244
  v1245.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_621 : BitVec 32 := 12#32
  let v985 : BitVec 1 := Scalar.cmpi .ne v2 c12_i32_621
  let v986 : BitVec 32 := Scalar.extui v985
  let c0_i32_622 : BitVec 32 := 0#32
  let v987 : BitVec 1 := Scalar.cmpi .ne v986 c0_i32_622
  v987

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev76 : Nat :=
  let c0_i32_799 : BitVec 32 := 0#32
  let c12_i32_797 : BitVec 32 := 12#32
  let c1_i32_798 : BitVec 32 := 1#32
  let v1244 : BitVec 32 := Scalar.muli c12_i32_797 c1_i32_798
  let v1245 : BitVec 32 := Scalar.addi c0_i32_799 v1244
  v1245.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_623 : BitVec 32 := 13#32
  let v988 : BitVec 1 := Scalar.cmpi .ne v2 c13_i32_623
  let v989 : BitVec 32 := Scalar.extui v988
  let c0_i32_624 : BitVec 32 := 0#32
  let v990 : BitVec 1 := Scalar.cmpi .ne v989 c0_i32_624
  v990

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev77 : Nat :=
  let c0_i32_799 : BitVec 32 := 0#32
  let c13_i32_797 : BitVec 32 := 13#32
  let c1_i32_798 : BitVec 32 := 1#32
  let v1244 : BitVec 32 := Scalar.muli c13_i32_797 c1_i32_798
  let v1245 : BitVec 32 := Scalar.addi c0_i32_799 v1244
  v1245.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_625 : BitVec 32 := 14#32
  let v991 : BitVec 1 := Scalar.cmpi .ne v2 c14_i32_625
  let v992 : BitVec 32 := Scalar.extui v991
  let c0_i32_626 : BitVec 32 := 0#32
  let v993 : BitVec 1 := Scalar.cmpi .ne v992 c0_i32_626
  v993

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev78 : Nat :=
  let c0_i32_799 : BitVec 32 := 0#32
  let c14_i32_797 : BitVec 32 := 14#32
  let c1_i32_798 : BitVec 32 := 1#32
  let v1244 : BitVec 32 := Scalar.muli c14_i32_797 c1_i32_798
  let v1245 : BitVec 32 := Scalar.addi c0_i32_799 v1244
  v1245.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_627 : BitVec 32 := 15#32
  let v994 : BitVec 1 := Scalar.cmpi .ne v2 c15_i32_627
  let v995 : BitVec 32 := Scalar.extui v994
  let c0_i32_628 : BitVec 32 := 0#32
  let v996 : BitVec 1 := Scalar.cmpi .ne v995 c0_i32_628
  v996

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev79 : Nat :=
  let c0_i32_799 : BitVec 32 := 0#32
  let c15_i32_797 : BitVec 32 := 15#32
  let c1_i32_798 : BitVec 32 := 1#32
  let v1244 : BitVec 32 := Scalar.muli c15_i32_797 c1_i32_798
  let v1245 : BitVec 32 := Scalar.addi c0_i32_799 v1244
  v1245.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_629 : BitVec 32 := 16#32
  let v997 : BitVec 1 := Scalar.cmpi .ne v2 c16_i32_629
  let v998 : BitVec 32 := Scalar.extui v997
  let c0_i32_630 : BitVec 32 := 0#32
  let v999 : BitVec 1 := Scalar.cmpi .ne v998 c0_i32_630
  v999

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev80 : Nat :=
  let c0_i32_799 : BitVec 32 := 0#32
  let c16_i32_797 : BitVec 32 := 16#32
  let c1_i32_798 : BitVec 32 := 1#32
  let v1244 : BitVec 32 := Scalar.muli c16_i32_797 c1_i32_798
  let v1245 : BitVec 32 := Scalar.addi c0_i32_799 v1244
  v1245.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_631 : BitVec 32 := 17#32
  let v1000 : BitVec 1 := Scalar.cmpi .ne v2 c17_i32_631
  let v1001 : BitVec 32 := Scalar.extui v1000
  let c0_i32_632 : BitVec 32 := 0#32
  let v1002 : BitVec 1 := Scalar.cmpi .ne v1001 c0_i32_632
  v1002

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev81 : Nat :=
  let c0_i32_799 : BitVec 32 := 0#32
  let c17_i32_797 : BitVec 32 := 17#32
  let c1_i32_798 : BitVec 32 := 1#32
  let v1244 : BitVec 32 := Scalar.muli c17_i32_797 c1_i32_798
  let v1245 : BitVec 32 := Scalar.addi c0_i32_799 v1244
  v1245.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_633 : BitVec 32 := 18#32
  let v1003 : BitVec 1 := Scalar.cmpi .ne v2 c18_i32_633
  let v1004 : BitVec 32 := Scalar.extui v1003
  let c0_i32_634 : BitVec 32 := 0#32
  let v1005 : BitVec 1 := Scalar.cmpi .ne v1004 c0_i32_634
  v1005

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev82 : Nat :=
  let c0_i32_799 : BitVec 32 := 0#32
  let c18_i32_797 : BitVec 32 := 18#32
  let c1_i32_798 : BitVec 32 := 1#32
  let v1244 : BitVec 32 := Scalar.muli c18_i32_797 c1_i32_798
  let v1245 : BitVec 32 := Scalar.addi c0_i32_799 v1244
  v1245.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_635 : BitVec 32 := 19#32
  let v1006 : BitVec 1 := Scalar.cmpi .ne v2 c19_i32_635
  let v1007 : BitVec 32 := Scalar.extui v1006
  let c0_i32_636 : BitVec 32 := 0#32
  let v1008 : BitVec 1 := Scalar.cmpi .ne v1007 c0_i32_636
  v1008

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev83 : Nat :=
  let c0_i32_799 : BitVec 32 := 0#32
  let c19_i32_797 : BitVec 32 := 19#32
  let c1_i32_798 : BitVec 32 := 1#32
  let v1244 : BitVec 32 := Scalar.muli c19_i32_797 c1_i32_798
  let v1245 : BitVec 32 := Scalar.addi c0_i32_799 v1244
  v1245.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_637 : BitVec 32 := 20#32
  let v1009 : BitVec 1 := Scalar.cmpi .ne v2 c20_i32_637
  let v1010 : BitVec 32 := Scalar.extui v1009
  let c0_i32_638 : BitVec 32 := 0#32
  let v1011 : BitVec 1 := Scalar.cmpi .ne v1010 c0_i32_638
  v1011

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev84 : Nat :=
  let c0_i32_799 : BitVec 32 := 0#32
  let c20_i32_797 : BitVec 32 := 20#32
  let c1_i32_798 : BitVec 32 := 1#32
  let v1244 : BitVec 32 := Scalar.muli c20_i32_797 c1_i32_798
  let v1245 : BitVec 32 := Scalar.addi c0_i32_799 v1244
  v1245.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_639 : BitVec 32 := 21#32
  let v1012 : BitVec 1 := Scalar.cmpi .ne v2 c21_i32_639
  let v1013 : BitVec 32 := Scalar.extui v1012
  let c0_i32_640 : BitVec 32 := 0#32
  let v1014 : BitVec 1 := Scalar.cmpi .ne v1013 c0_i32_640
  v1014

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev85 : Nat :=
  let c0_i32_799 : BitVec 32 := 0#32
  let c21_i32_797 : BitVec 32 := 21#32
  let c1_i32_798 : BitVec 32 := 1#32
  let v1244 : BitVec 32 := Scalar.muli c21_i32_797 c1_i32_798
  let v1245 : BitVec 32 := Scalar.addi c0_i32_799 v1244
  v1245.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_641 : BitVec 32 := 22#32
  let v1015 : BitVec 1 := Scalar.cmpi .ne v2 c22_i32_641
  let v1016 : BitVec 32 := Scalar.extui v1015
  let c0_i32_642 : BitVec 32 := 0#32
  let v1017 : BitVec 1 := Scalar.cmpi .ne v1016 c0_i32_642
  v1017

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev86 : Nat :=
  let c0_i32_799 : BitVec 32 := 0#32
  let c22_i32_797 : BitVec 32 := 22#32
  let c1_i32_798 : BitVec 32 := 1#32
  let v1244 : BitVec 32 := Scalar.muli c22_i32_797 c1_i32_798
  let v1245 : BitVec 32 := Scalar.addi c0_i32_799 v1244
  v1245.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_643 : BitVec 32 := 23#32
  let v1018 : BitVec 1 := Scalar.cmpi .ne v2 c23_i32_643
  let v1019 : BitVec 32 := Scalar.extui v1018
  let c0_i32_644 : BitVec 32 := 0#32
  let v1020 : BitVec 1 := Scalar.cmpi .ne v1019 c0_i32_644
  v1020

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev87 : Nat :=
  let c0_i32_799 : BitVec 32 := 0#32
  let c23_i32_797 : BitVec 32 := 23#32
  let c1_i32_798 : BitVec 32 := 1#32
  let v1244 : BitVec 32 := Scalar.muli c23_i32_797 c1_i32_798
  let v1245 : BitVec 32 := Scalar.addi c0_i32_799 v1244
  v1245.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_645 : BitVec 32 := 24#32
  let v1021 : BitVec 1 := Scalar.cmpi .ne v2 c24_i32_645
  let v1022 : BitVec 32 := Scalar.extui v1021
  let c0_i32_646 : BitVec 32 := 0#32
  let v1023 : BitVec 1 := Scalar.cmpi .ne v1022 c0_i32_646
  v1023

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev88 : Nat :=
  let c0_i32_799 : BitVec 32 := 0#32
  let c24_i32_797 : BitVec 32 := 24#32
  let c1_i32_798 : BitVec 32 := 1#32
  let v1244 : BitVec 32 := Scalar.muli c24_i32_797 c1_i32_798
  let v1245 : BitVec 32 := Scalar.addi c0_i32_799 v1244
  v1245.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_647 : BitVec 32 := 25#32
  let v1024 : BitVec 1 := Scalar.cmpi .ne v2 c25_i32_647
  let v1025 : BitVec 32 := Scalar.extui v1024
  let c0_i32_648 : BitVec 32 := 0#32
  let v1026 : BitVec 1 := Scalar.cmpi .ne v1025 c0_i32_648
  v1026

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev89 : Nat :=
  let c0_i32_799 : BitVec 32 := 0#32
  let c25_i32_797 : BitVec 32 := 25#32
  let c1_i32_798 : BitVec 32 := 1#32
  let v1244 : BitVec 32 := Scalar.muli c25_i32_797 c1_i32_798
  let v1245 : BitVec 32 := Scalar.addi c0_i32_799 v1244
  v1245.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_649 : BitVec 32 := 26#32
  let v1027 : BitVec 1 := Scalar.cmpi .ne v2 c26_i32_649
  let v1028 : BitVec 32 := Scalar.extui v1027
  let c0_i32_650 : BitVec 32 := 0#32
  let v1029 : BitVec 1 := Scalar.cmpi .ne v1028 c0_i32_650
  v1029

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev90 : Nat :=
  let c0_i32_799 : BitVec 32 := 0#32
  let c26_i32_797 : BitVec 32 := 26#32
  let c1_i32_798 : BitVec 32 := 1#32
  let v1244 : BitVec 32 := Scalar.muli c26_i32_797 c1_i32_798
  let v1245 : BitVec 32 := Scalar.addi c0_i32_799 v1244
  v1245.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_651 : BitVec 32 := 27#32
  let v1030 : BitVec 1 := Scalar.cmpi .ne v2 c27_i32_651
  let v1031 : BitVec 32 := Scalar.extui v1030
  let c0_i32_652 : BitVec 32 := 0#32
  let v1032 : BitVec 1 := Scalar.cmpi .ne v1031 c0_i32_652
  v1032

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev91 : Nat :=
  let c0_i32_799 : BitVec 32 := 0#32
  let c27_i32_797 : BitVec 32 := 27#32
  let c1_i32_798 : BitVec 32 := 1#32
  let v1244 : BitVec 32 := Scalar.muli c27_i32_797 c1_i32_798
  let v1245 : BitVec 32 := Scalar.addi c0_i32_799 v1244
  v1245.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_653 : BitVec 32 := 28#32
  let v1033 : BitVec 1 := Scalar.cmpi .ne v2 c28_i32_653
  let v1034 : BitVec 32 := Scalar.extui v1033
  let c0_i32_654 : BitVec 32 := 0#32
  let v1035 : BitVec 1 := Scalar.cmpi .ne v1034 c0_i32_654
  v1035

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev92 : Nat :=
  let c0_i32_799 : BitVec 32 := 0#32
  let c28_i32_797 : BitVec 32 := 28#32
  let c1_i32_798 : BitVec 32 := 1#32
  let v1244 : BitVec 32 := Scalar.muli c28_i32_797 c1_i32_798
  let v1245 : BitVec 32 := Scalar.addi c0_i32_799 v1244
  v1245.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_655 : BitVec 32 := 29#32
  let v1036 : BitVec 1 := Scalar.cmpi .ne v2 c29_i32_655
  let v1037 : BitVec 32 := Scalar.extui v1036
  let c0_i32_656 : BitVec 32 := 0#32
  let v1038 : BitVec 1 := Scalar.cmpi .ne v1037 c0_i32_656
  v1038

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev93 : Nat :=
  let c0_i32_799 : BitVec 32 := 0#32
  let c29_i32_797 : BitVec 32 := 29#32
  let c1_i32_798 : BitVec 32 := 1#32
  let v1244 : BitVec 32 := Scalar.muli c29_i32_797 c1_i32_798
  let v1245 : BitVec 32 := Scalar.addi c0_i32_799 v1244
  v1245.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_657 : BitVec 32 := 30#32
  let v1039 : BitVec 1 := Scalar.cmpi .ne v2 c30_i32_657
  let v1040 : BitVec 32 := Scalar.extui v1039
  let c0_i32_658 : BitVec 32 := 0#32
  let v1041 : BitVec 1 := Scalar.cmpi .ne v1040 c0_i32_658
  v1041

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev94 : Nat :=
  let c0_i32_799 : BitVec 32 := 0#32
  let c30_i32_797 : BitVec 32 := 30#32
  let c1_i32_798 : BitVec 32 := 1#32
  let v1244 : BitVec 32 := Scalar.muli c30_i32_797 c1_i32_798
  let v1245 : BitVec 32 := Scalar.addi c0_i32_799 v1244
  v1245.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_659 : BitVec 32 := 31#32
  let v1042 : BitVec 1 := Scalar.cmpi .ne v2 c31_i32_659
  let v1043 : BitVec 32 := Scalar.extui v1042
  let c0_i32_660 : BitVec 32 := 0#32
  let v1044 : BitVec 1 := Scalar.cmpi .ne v1043 c0_i32_660
  v1044

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_800 : BitVec 32 := 0#32
  let c0_i32_801 : BitVec 32 := 0#32
  ![v2.toNat, 0, 0]
def k0_dev95 : Nat :=
  let c0_i32_799 : BitVec 32 := 0#32
  let c31_i32_797 : BitVec 32 := 31#32
  let c1_i32_798 : BitVec 32 := 1#32
  let v1244 : BitVec 32 := Scalar.muli c31_i32_797 c1_i32_798
  let v1245 : BitVec 32 := Scalar.addi c0_i32_799 v1244
  v1245.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S2x128x8192 : Shape := ⟨3, ![2, 128, 8192]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x128x128x128 : Shape := ⟨4, ![2, 128, 128, 128]⟩
abbrev S1x1x128x128 : Shape := ⟨4, ![1, 1, 128, 128]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩
abbrev S256x512 : Shape := ⟨2, ![256, 512]⟩

abbrev nBuf : Space → Nat
  | .hbm => 124
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S2x128x128x64, .f32⟩
  | .hbm, ⟨3, _⟩ => ⟨S2x128x128x64, .f32⟩
  | .hbm, ⟨4, _⟩ => ⟨S8192x512, .f32⟩
  | .hbm, ⟨5, _⟩ => ⟨S2x128x8192, .f32⟩
  | .hbm, ⟨6, _⟩ => ⟨S2x128x128x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S128x128, .i1⟩
  | .hbm, ⟨54, _⟩ => ⟨S128x128, .i1⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i1⟩
  | .hbm, ⟨69, _⟩ => ⟨S_, .i32⟩
  | .hbm, ⟨70, _⟩ => ⟨S128x128, .i32⟩
  | .hbm, ⟨71, _⟩ => ⟨S128x128, .i1⟩
  | .hbm, ⟨72, _⟩ => ⟨S_, .i32⟩
  | .hbm, ⟨73, _⟩ => ⟨S_, .i1⟩
  | .hbm, ⟨74, _⟩ => ⟨S128x128, .i1⟩
  | .hbm, ⟨75, _⟩ => ⟨S128x128, .i1⟩
  | .hbm, ⟨76, _⟩ => ⟨S128x128, .i1⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i1⟩
  | .hbm, ⟨83, _⟩ => ⟨S128x128, .i1⟩
  | .hbm, ⟨84, _⟩ => ⟨S2x128x128x128, .f32⟩
  | .hbm, ⟨85, _⟩ => ⟨S_, .f32⟩
  | .hbm, ⟨86, _⟩ => ⟨S2x128x128x128, .f32⟩
  | .hbm, ⟨87, _⟩ => ⟨S2x128x128x128, .f32⟩
  | .hbm, ⟨88, _⟩ => ⟨S1x1x128x128, .i1⟩
  | .hbm, ⟨89, _⟩ => ⟨S_, .f32⟩
  | .hbm, ⟨90, _⟩ => ⟨S_, .f32⟩
  | .hbm, ⟨91, _⟩ => ⟨S2x128x128x128, .i1⟩
  | .hbm, ⟨92, _⟩ => ⟨S2x128x128x128, .f32⟩
  | .hbm, ⟨93, _⟩ => ⟨S2x128x128x128, .f32⟩
  | .hbm, ⟨94, _⟩ => ⟨S_, .f32⟩
  | .hbm, ⟨95, _⟩ => ⟨S2x128x128, .f32⟩
  | .hbm, ⟨96, _⟩ => ⟨S2x128x128x1, .f32⟩
  | .hbm, ⟨97, _⟩ => ⟨S2x128x128x128, .f32⟩
  | .hbm, ⟨98, _⟩ => ⟨S2x128x128x128, .f32⟩
  | .hbm, ⟨99, _⟩ => ⟨S2x128x128x128, .f32⟩
  | .hbm, ⟨100, _⟩ => ⟨S_, .i1⟩
  | .hbm, ⟨101, _⟩ => ⟨S128, .i1⟩
  | .hbm, ⟨102, _⟩ => ⟨S1x1x128x1, .i1⟩
  | .hbm, ⟨103, _⟩ => ⟨S_, .f32⟩
  | .hbm, ⟨104, _⟩ => ⟨S2x128x128, .f32⟩
  | .hbm, ⟨105, _⟩ => ⟨S2x128x128x1, .f32⟩
  | .hbm, ⟨106, _⟩ => ⟨S_, .f32⟩
  | .hbm, ⟨107, _⟩ => ⟨S_, .f32⟩
  | .hbm, ⟨108, _⟩ => ⟨S2x128x128x1, .i1⟩
  | .hbm, ⟨109, _⟩ => ⟨S2x128x128x1, .f32⟩
  | .hbm, ⟨110, _⟩ => ⟨S2x128x128x1, .f32⟩
  | .hbm, ⟨111, _⟩ => ⟨S2x128x128x128, .f32⟩
  | .hbm, ⟨112, _⟩ => ⟨S2x128x128x128, .f32⟩
  | .hbm, ⟨113, _⟩ => ⟨S1x1x128x1, .i1⟩
  | .hbm, ⟨114, _⟩ => ⟨S_, .f32⟩
  | .hbm, ⟨115, _⟩ => ⟨S_, .f32⟩
  | .hbm, ⟨116, _⟩ => ⟨S2x128x128x128, .i1⟩
  | .hbm, ⟨117, _⟩ => ⟨S2x128x128x128, .f32⟩
  | .hbm, ⟨118, _⟩ => ⟨S2x128x128x128, .f32⟩
  | .hbm, ⟨119, _⟩ => ⟨S2x128x64x128, .f32⟩
  | .hbm, ⟨120, _⟩ => ⟨S2x128x128x64, .f32⟩
  | .hbm, ⟨121, _⟩ => ⟨S2x128x8192, .f32⟩
  | .hbm, ⟨122, _⟩ => ⟨S2x128x512, .f32⟩
  | .hbm, ⟨123, _⟩ => ⟨S256x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩

abbrev nD : Nat := 1
abbrev τ : Topo := Topo.v7x

variable {F : FTy → Type} [FloatOps F]
-- ==== Proof.Blocks.lean ====
/-
# The kernel's straight-line text as loops over the devices

The kernel unrolls each of its loops over the 32 devices, so that one loop's 31 communication steps are spread over several printed
parts. Here each loop's step is one definition over the device, a run of steps is `seqK`, and every printed part is
shown to be its run.
-/
module

public import proofs.«01_k».proof.Proof.Gen.KernelIdeal.Skeleton

@[expose] public section

set_option backward.proofsInPublic true

noncomputable section

namespace Cert.KProof

open Cert.KernelIdeal Cert.KernelIdeal.Gen Idealize.ShloMosaic Idealize.SL.Sem

variable {F : FTy → Type} [FloatOps F]

/-- A kernel function at the buffers and semaphores the launch gives it. -/
abbrev appl {β : Type _} (f : (arg0 : Memref sig .tc .hbm S2x128x512 .f32) → (harg0 : arg0.IsWhole) → (arg1 : Memref sig .tc .hbm S512x256 .f32) → (harg1 : arg1.IsWhole) → (arg2 : Memref sig .tc .hbm S2x128x128x64 .f32) → (harg2 : arg2.IsWhole) → (arg3 : Memref sig .tc .hbm S2x128x128x64 .f32) → (harg3 : arg3.IsWhole) → (arg4 : Memref sig .tc .hbm S256x512 .f32) → (harg4 : arg4.IsWhole) → (arg5 : Memref sig .tc .vmem S256x512 .f32) → (harg5 : arg5.IsWhole) → (arg6 : Memref sig .tc .vmem S2x128x512 .f32) → (harg6 : arg6.IsWhole) → (arg7 : Memref sig .tc .vmem S512x256 .f32) → (harg7 : arg7.IsWhole) → (arg8 : Memref sig .tc .vmem S256x512 .f32) → (harg8 : arg8.IsWhole) → (arg9 : Memref sig .tc .vmem S2x128x4x64 .f32) → (harg9 : arg9.IsWhole) → (arg10 : Memref sig .tc .vmem S2x128x4x64 .f32) → (harg10 : arg10.IsWhole) → (arg11 : Memref sig .tc .vmem S256x256 .f32) → (harg11 : arg11.IsWhole) → (arg12 : Memref sig .tc .vmem S256x512 .f32) → (harg12 : arg12.IsWhole) → (arg13 : Memref sig .tc .vmem S256x512 .bf16) → (harg13 : arg13.IsWhole) → (arg14 : Memref sig .tc .vmem S8x512 .bf16) → (harg14 : arg14.IsWhole) → (arg15 : Memref sig .tc .vmem S32x8x512 .bf16) → (harg15 : arg15.IsWhole) → (arg16 : Memref sig .tc .vmem S32x8x512 .bf16) → (harg16 : arg16.IsWhole) → (arg17 : DmaSems sig S3) → (arg18 : DmaSems sig S2) → (arg19 : DmaSems sig S32) → (arg20 : DmaSems sig S32) → (arg21 : DmaSems sig S32) → (arg22 : DmaSems sig S32) → β) : β :=
  f (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16

/-- Runs `f` on each device of the list in turn, then `K`. -/
def seqK {β : Type} (f : Dev nD → Prog (TpuEff nD τ sig (Elt F) Λ₀ .tc) PUnit) : List (Dev nD) → Prog (TpuEff nD τ sig (Elt F) Λ₀ .tc) β → Prog (TpuEff nD τ sig (Elt F) Λ₀ .tc) β
  | [], K => K
  | j :: l, K => f j >>= fun _ => seqK f l K

/-! ## The buffers, their rows and slots, the semaphores -/

/-- the partial products of this device, all 256 rows; -/
abbrev abM : Memref sig .tc .vmem S256x512 .bf16 := Memref.whole cc0_scratch7
/-- its finished eight rows; -/
abbrev redM : Memref sig .tc .vmem S8x512 .bf16 := Memref.whole cc0_scratch8
/-- the partial rows received, a slot per sender; -/
abbrev commM : Memref sig .tc .vmem S32x8x512 .bf16 := Memref.whole cc0_scratch9
/-- the finished rows received, a slot per sender. -/
abbrev gatM : Memref sig .tc .vmem S32x8x512 .bf16 := Memref.whole cc0_scratch10

theorem inb_row : ∀ j : Dev nD, ∀ a, (![8 * j.val, 0] : Fin 2 → Nat) a + S8x512.size a ≤ S256x512.size a := by decide +kernel
theorem inb_slot : ∀ j : Dev nD, ∀ a, (![j.val, 0, 0] : Fin 3 → Nat) a + S1x8x512.size a ≤ S32x8x512.size a := by decide +kernel
theorem inb_sem : ∀ j : Dev nD, ∀ a, (![j.val] : Fin 1 → Nat) a + S1.size a ≤ S32.size a := by decide +kernel
theorem words_row : ∀ j : Dev nD, (Rect.unit (s := S256x512) ![8 * j.val, 0] S8x512.size (inb_row j)).WholeWords (EltTy.packing .bf16) := by decide +kernel
theorem words_slot : ∀ j : Dev nD, (Rect.unit (s := S32x8x512) ![j.val, 0, 0] S1x8x512.size (inb_slot j)).WholeWords (EltTy.packing .bf16) := by decide +kernel

/-- the eight partial rows meant for device `j`; -/
abbrev abRow (j : Dev nD) : Memref sig .tc .vmem S8x512 .bf16 := abM.slice (Rect.unit (s := S256x512) ![8 * j.val, 0] S8x512.size (inb_row j)) (fun _ => rfl)
/-- device `j`'s slot of the partial rows received; -/
abbrev commSlot (j : Dev nD) : Memref sig .tc .vmem S8x512 .bf16 :=
  (commM.slice (Rect.unit (s := S32x8x512) ![j.val, 0, 0] S1x8x512.size (inb_slot j)) (fun _ => rfl)).squeeze S8x512 squeezes_S1x8x512_S8x512
/-- device `j`'s slot of the finished rows received. -/
abbrev gatSlot (j : Dev nD) : Memref sig .tc .vmem S8x512 .bf16 :=
  (gatM.slice (Rect.unit (s := S32x8x512) ![j.val, 0, 0] S1x8x512.size (inb_slot j)) (fun _ => rfl)).squeeze S8x512 squeezes_S1x8x512_S8x512

theorem exact_row (j : Dev nD) : (abRow j).view.WordExact := (Memref.isWhole_whole _ : abM.IsWhole).wordExact_slice rfl _ (words_row j)
theorem exact_red : redM.view.WordExact := (Memref.isWhole_whole _ : redM.IsWhole).wordExact
theorem exact_comm (j : Dev nD) : (commSlot j).view.WordExact := ((Memref.isWhole_whole _ : commM.IsWhole).wordExact_slice rfl _ (words_slot j)).reshape _ _
theorem exact_gat (j : Dev nD) : (gatSlot j).view.WordExact := ((Memref.isWhole_whole _ : gatM.IsWhole).wordExact_slice rfl _ (words_slot j)).reshape _ _

/-- Entry `j` of an array of 32 semaphores. -/
abbrev semAt (a : DmaSems sig S32) (j : Dev nD) : DmaSem sig := ((a.slice (Rect.unit (s := S32) ![j.val] S1.size (inb_sem j))).squeeze S_ squeezes_S1_S_).sem

/-! ## One step of each loop -/

/-- If another device: send it its eight partial rows, into our slot there. -/
def send1Blk (c j : Dev nD) : Prog (TpuEff nD τ sig (Elt F) Λ₀ .tc) PUnit :=
  if c ≠ j then Prog.lift (.enqueueDma (abRow j) (.remote (Dev.tc j) (commSlot c) (.dma (semAt cc0_scratch13 j))) (.dma (semAt cc0_scratch14 c))
    (exact_row j) (exact_comm c) ⟨⟨rfl, Or.inl rfl⟩, trivial⟩) else pure ⟨⟩
/-- If another device: wait for its partial rows. -/
def recv1Blk (c j : Dev nD) : Prog (TpuEff nD τ sig (Elt F) Λ₀ .tc) PUnit :=
  if c ≠ j then Prog.lift (.waitDma2 (semAt cc0_scratch14 j) (abRow 0) (commSlot j) (exact_row 0) (exact_comm j)) else pure ⟨⟩
/-- If another device: send it our finished rows, into our slot there. -/
def send2Blk (c j : Dev nD) : Prog (TpuEff nD τ sig (Elt F) Λ₀ .tc) PUnit :=
  if c ≠ j then Prog.lift (.enqueueDma redM (.remote (Dev.tc j) (gatSlot c) (.dma (semAt cc0_scratch15 j))) (.dma (semAt cc0_scratch16 c))
    exact_red (exact_gat c) ⟨⟨rfl, Or.inl rfl⟩, trivial⟩) else pure ⟨⟩
/-- If another device: wait for its finished rows. -/
def recv2Blk (c j : Dev nD) : Prog (TpuEff nD τ sig (Elt F) Λ₀ .tc) PUnit :=
  if c ≠ j then Prog.lift (.waitDma2 (semAt cc0_scratch16 j) redM (gatSlot j) exact_red (exact_gat j)) else pure ⟨⟩
/-- If another device: wait until both of our copies to it have left. -/
def finBlk (c j : Dev nD) : Prog (TpuEff nD τ sig (Elt F) Λ₀ .tc) PUnit :=
  if c ≠ j then (do
    Prog.lift (.waitDma2 (semAt cc0_scratch13 j) (commSlot j) (abRow j) (exact_comm j) (exact_row j))
    Prog.lift (.waitDma2 (semAt cc0_scratch15 j) (gatSlot j) redM (exact_gat j) exact_red)) else pure ⟨⟩

/-! ## A printed step is the loop's -/

theorem send1_step {β : Type} (c j : Dev nD) {p : Prop} [Decidable p] (hp : p ↔ c ≠ j) {o0 o1 : Fin 1 → Nat} {o2 : Fin 3 → Nat} {o3 : Fin 2 → Nat} {n : Nat}
    (b0) (b1 : p → ∀ a, o1 a + S1.size a ≤ S32.size a) (b2 : p → ∀ a, o2 a + S1x8x512.size a ≤ S32x8x512.size a) (b3) (hn : p → n < nD) (h1 : p → _)
    (h2 : ∀ h : p, ((commM.slice (Rect.unit (s := S32x8x512) o2 S1x8x512.size (b2 h)) (fun _ => rfl)).squeeze S8x512 squeezes_S1x8x512_S8x512).view.WordExact) (e0 : o0 = ![j.val]) (e1 : o1 = ![c.val]) (e2 : o2 = ![c.val, 0, 0]) (e3 : o3 = ![8 * j.val, 0]) (en : n = j.val)
    {R R' : Prog (TpuEff nD τ sig (Elt F) Λ₀ .tc) β} {l : List (Dev nD)} (hR : R = seqK (send1Blk c) l R') :
    (if h : p then Prog.lift (.enqueueDma (abM.slice (Rect.unit (s := S256x512) o3 S8x512.size b3) (fun _ => rfl))
        (.remote (Dev.tc (⟨n, hn h⟩ : Dev nD)) ((commM.slice (Rect.unit (s := S32x8x512) o2 S1x8x512.size (b2 h)) (fun _ => rfl)).squeeze S8x512 squeezes_S1x8x512_S8x512)
          (.dma (((cc0_scratch13 : DmaSems sig S32).slice (Rect.unit (s := S32) o0 S1.size b0)).squeeze S_ squeezes_S1_S_).sem))
        (.dma (((cc0_scratch14 : DmaSems sig S32).slice (Rect.unit (s := S32) o1 S1.size (b1 h))).squeeze S_ squeezes_S1_S_).sem) (h1 h) (h2 h) ⟨⟨rfl, Or.inl rfl⟩, trivial⟩) >>= fun _ => R
      else R) = seqK (send1Blk c) (j :: l) R' := by
  subst e0 e1 e2 e3 en; rw [hR]
  show _ = (send1Blk c j >>= fun _ => seqK (send1Blk c) l R')
  unfold send1Blk
  by_cases h : p
  · rw [dif_pos h, if_pos (hp.mp h)]
  · rw [dif_neg h, if_neg (fun h' => h (hp.mpr h'))]; rfl

theorem recv1_step {β : Type} (c j : Dev nD) {p : Prop} [Decidable p] (hp : p ↔ c ≠ j) {o0 : Fin 1 → Nat} {o2 : Fin 3 → Nat}
    (b0 b2 b3 h1 h2) (e0 : o0 = ![j.val]) (e2 : o2 = ![j.val, 0, 0])
    {R R' : Prog (TpuEff nD τ sig (Elt F) Λ₀ .tc) β} {l : List (Dev nD)} (hR : R = seqK (recv1Blk c) l R') :
    (if h : p then Prog.lift (.waitDma2 (((cc0_scratch14 : DmaSems sig S32).slice (Rect.unit (s := S32) o0 S1.size b0)).squeeze S_ squeezes_S1_S_).sem
        (abM.slice (Rect.unit (s := S256x512) ![0, 0] S8x512.size b3) (fun _ => rfl))
        ((commM.slice (Rect.unit (s := S32x8x512) o2 S1x8x512.size b2) (fun _ => rfl)).squeeze S8x512 squeezes_S1x8x512_S8x512) h1 h2) >>= fun _ => R
      else R) = seqK (recv1Blk c) (j :: l) R' := by
  subst e0 e2; rw [hR]
  show _ = (recv1Blk c j >>= fun _ => seqK (recv1Blk c) l R')
  unfold recv1Blk
  by_cases h : p
  · rw [dif_pos h, if_pos (hp.mp h)]
  · rw [dif_neg h, if_neg (fun h' => h (hp.mpr h'))]; rfl

theorem send2_step {β : Type} (c j : Dev nD) {p : Prop} [Decidable p] (hp : p ↔ c ≠ j) {o0 o1 : Fin 1 → Nat} {o2 : Fin 3 → Nat} {n : Nat}
    (b0) (b1 : p → ∀ a, o1 a + S1.size a ≤ S32.size a) (b2 : p → ∀ a, o2 a + S1x8x512.size a ≤ S32x8x512.size a) (hn : p → n < nD) (h1 : p → _)
    (h2 : ∀ h : p, ((gatM.slice (Rect.unit (s := S32x8x512) o2 S1x8x512.size (b2 h)) (fun _ => rfl)).squeeze S8x512 squeezes_S1x8x512_S8x512).view.WordExact) (e0 : o0 = ![j.val]) (e1 : o1 = ![c.val]) (e2 : o2 = ![c.val, 0, 0]) (en : n = j.val)
    {R R' : Prog (TpuEff nD τ sig (Elt F) Λ₀ .tc) β} {l : List (Dev nD)} (hR : R = seqK (send2Blk c) l R') :
    (if h : p then Prog.lift (.enqueueDma redM
        (.remote (Dev.tc (⟨n, hn h⟩ : Dev nD)) ((gatM.slice (Rect.unit (s := S32x8x512) o2 S1x8x512.size (b2 h)) (fun _ => rfl)).squeeze S8x512 squeezes_S1x8x512_S8x512)
          (.dma (((cc0_scratch15 : DmaSems sig S32).slice (Rect.unit (s := S32) o0 S1.size b0)).squeeze S_ squeezes_S1_S_).sem))
        (.dma (((cc0_scratch16 : DmaSems sig S32).slice (Rect.unit (s := S32) o1 S1.size (b1 h))).squeeze S_ squeezes_S1_S_).sem) (h1 h) (h2 h) ⟨⟨rfl, Or.inl rfl⟩, trivial⟩) >>= fun _ => R
      else R) = seqK (send2Blk c) (j :: l) R' := by
  subst e0 e1 e2 en; rw [hR]
  show _ = (send2Blk c j >>= fun _ => seqK (send2Blk c) l R')
  unfold send2Blk
  by_cases h : p
  · rw [dif_pos h, if_pos (hp.mp h)]
  · rw [dif_neg h, if_neg (fun h' => h (hp.mpr h'))]; rfl

theorem recv2_step {β : Type} (c j : Dev nD) {p : Prop} [Decidable p] (hp : p ↔ c ≠ j) {o0 : Fin 1 → Nat} {o2 : Fin 3 → Nat}
    (b0 b2 h1 h2) (e0 : o0 = ![j.val]) (e2 : o2 = ![j.val, 0, 0])
    {R R' : Prog (TpuEff nD τ sig (Elt F) Λ₀ .tc) β} {l : List (Dev nD)} (hR : R = seqK (recv2Blk c) l R') :
    (if h : p then Prog.lift (.waitDma2 (((cc0_scratch16 : DmaSems sig S32).slice (Rect.unit (s := S32) o0 S1.size b0)).squeeze S_ squeezes_S1_S_).sem redM
        ((gatM.slice (Rect.unit (s := S32x8x512) o2 S1x8x512.size b2) (fun _ => rfl)).squeeze S8x512 squeezes_S1x8x512_S8x512) h1 h2) >>= fun _ => R
      else R) = seqK (recv2Blk c) (j :: l) R' := by
  subst e0 e2; rw [hR]
  show _ = (recv2Blk c j >>= fun _ => seqK (recv2Blk c) l R')
  unfold recv2Blk
  by_cases h : p
  · rw [dif_pos h, if_pos (hp.mp h)]
  · rw [dif_neg h, if_neg (fun h' => h (hp.mpr h'))]; rfl

theorem fin_step {β : Type} (c j : Dev nD) {p : Prop} [Decidable p] (hp : p ↔ c ≠ j) {o0 o1 : Fin 1 → Nat} {o2 o4 : Fin 3 → Nat} {o3 : Fin 2 → Nat}
    (b0 b1 b2 b3 b4 h1 h2 h3 h4) (e0 : o0 = ![j.val]) (e1 : o1 = ![j.val]) (e2 : o2 = ![j.val, 0, 0]) (e3 : o3 = ![8 * j.val, 0]) (e4 : o4 = ![j.val, 0, 0])
    {R R' : Prog (TpuEff nD τ sig (Elt F) Λ₀ .tc) β} {l : List (Dev nD)} (hR : R = seqK (finBlk c) l R') :
    (if h : p then Prog.lift (.waitDma2 (((cc0_scratch13 : DmaSems sig S32).slice (Rect.unit (s := S32) o0 S1.size b0)).squeeze S_ squeezes_S1_S_).sem
        ((commM.slice (Rect.unit (s := S32x8x512) o2 S1x8x512.size b2) (fun _ => rfl)).squeeze S8x512 squeezes_S1x8x512_S8x512)
        (abM.slice (Rect.unit (s := S256x512) o3 S8x512.size b3) (fun _ => rfl)) h1 h2) >>= fun _ =>
        Prog.lift (.waitDma2 (((cc0_scratch15 : DmaSems sig S32).slice (Rect.unit (s := S32) o1 S1.size b1)).squeeze S_ squeezes_S1_S_).sem
        ((gatM.slice (Rect.unit (s := S32x8x512) o4 S1x8x512.size b4) (fun _ => rfl)).squeeze S8x512 squeezes_S1x8x512_S8x512) redM h3 h4) >>= fun _ => R
      else R) = seqK (finBlk c) (j :: l) R' := by
  subst e0 e1 e2 e3 e4; rw [hR]
  show _ = (finBlk c j >>= fun _ => seqK (finBlk c) l R')
  unfold finBlk
  by_cases h : p
  · rw [dif_pos h, if_pos (hp.mp h)]; rfl
  · rw [dif_neg h, if_neg (fun h' => h (hp.mpr h'))]; rfl

/-- A device's own number, as the kernel computes it. -/
def mpw (c : Dev nD) : BitVec 32 := Scalar.remsi (Scalar.divsi (Dev.word c) 1#32) 32#32
/-- The kernel's word for "`j` is another device". -/
def neW (c : Dev nD) (j : BitVec 32) : BitVec 32 := Scalar.extui (Scalar.cmpi .ne (mpw c) j)
def neB (c : Dev nD) (j : BitVec 32) : BitVec 1 := Scalar.cmpi .ne (neW c j) 0#32

theorem neB_iff (w : BitVec 32) (j : Dev nD) (h : w = BitVec.ofNat 32 j.val) (c : Dev nD) : neB c w = 1#1 ↔ c ≠ j := by
  subst h; revert c j; decide +kernel

end Cert.KProof
-- ==== Proof.Vals.lean ====
/-
# What every buffer of the kernel holds

The contents of each scratch buffer of device `c`, as terms over the memory at launch and the kernel's own stored values.
-/
module

public import proofs.«01_k».proof.Proof.Blocks
public import Idealize.ShloMosaic.Lib.ValueLayout

@[expose] public section

set_option backward.proofsInPublic true

noncomputable section

namespace Cert.KProof

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ) (c : Dev nD)

theorem inb_kv : ∀ (b : Fin 2) (h : Fin 4) (a), (![b.val, 0, h.val, 0] : Fin 4 → Nat) a + S1x128x1x64.size a ≤ S2x128x4x64.size a := by decide +kernel
theorem inb_blk : ∀ (b : Fin 2) (h : Fin 4) (a), (![128 * b.val, 64 * h.val] : Fin 2 → Nat) a + S128x64.size a ≤ S256x256.size a := by decide +kernel
theorem slices_blk : ∀ (b : Fin 2) (h : Fin 4), S256x256.Slices ![128 * b.val, 64 * h.val] S128x64 := by decide +kernel

/-- The four heads of the keys (the values) that are device `c`'s. -/
abbrev kSrc : Memref sig .tc .hbm S2x128x4x64 .f32 :=
  (Memref.whole main_arg2 : Memref sig .tc .hbm S2x128x128x64 .f32).slice (Rect.unit (s := S2x128x128x64) (k0_off1 c) S2x128x4x64.size (k0_off1_inb c)) (fun _ => rfl)
abbrev vSrc : Memref sig .tc .hbm S2x128x4x64 .f32 :=
  (Memref.whole main_arg3 : Memref sig .tc .hbm S2x128x128x64 .f32).slice (Rect.unit (s := S2x128x128x64) (k0_off1 c) S2x128x4x64.size (k0_off1_inb c)) (fun _ => rfl)

/-- the activations, the query projection's columns, the output projection's rows, the keys and the values, as fetched; -/
def xV : Vec F S2x128x512 .f32 := (Memref.whole main_arg0 : Memref sig .tc .hbm S2x128x512 .f32).view.read (Elt F) (m ((c : Thread nD τ).loc main_arg0))
def wqV : Vec F S512x256 .f32 := (Memref.whole main_arg1 : Memref sig .tc .hbm S512x256 .f32).view.read (Elt F) (m ((c : Thread nD τ).loc main_arg1))
def woV : Vec F S256x512 .f32 := (Memref.whole main_arg4 : Memref sig .tc .hbm S256x512 .f32).view.read (Elt F) (m ((c : Thread nD τ).loc main_arg4))
def kV : Vec F S2x128x4x64 .f32 := (kSrc c).view.read (Elt F) (m ((c : Thread nD τ).loc main_arg2))
def vV : Vec F S2x128x4x64 .f32 := (vSrc c).view.read (Elt F) (m ((c : Thread nD τ).loc main_arg3))

/-- the queries; -/
def qV : FVec F S256x256 .f32 := k0_pay1 (xV m c) (wqV m c)
/-- the block mask's first two cases, the remainder it tests, and the mask; -/
def mskA : IVec S128x128 1 := k0_pay4 k0_pay2 (iota .tc S128x128 32 [1] iota_S128x128_d1_w32) 64#32
def mskR : IVec S128x128 32 := k0_pay5 k0_pay2 (iota .tc S128x128 32 [1] iota_S128x128_d1_w32) 64#32
def msk : IVec S128x128 1 := k0_pay7 mskA mskR k0_pay6

/-- one head of one batch entry of a fetched key (value) buffer; -/
abbrev kvRect (b : Fin 2) (h : Fin 4) : Rect S2x128x4x64 := Rect.unit (s := S2x128x4x64) ![b.val, 0, h.val, 0] S1x128x1x64.size (inb_kv b h)
abbrev blkRect (b : Fin 2) (h : Fin 4) : Rect S256x256 := Rect.unit (s := S256x256) ![128 * b.val, 64 * h.val] S128x64.size (inb_blk b h)
abbrev kM : Memref sig .tc .vmem S2x128x4x64 .f32 := Memref.whole cc0_scratch3
abbrev vM : Memref sig .tc .vmem S2x128x4x64 .f32 := Memref.whole cc0_scratch4
abbrev ctxM : Memref sig .tc .vmem S256x256 .f32 := Memref.whole cc0_scratch5
def kBlk (b : Fin 2) (h : Fin 4) : Vec F S1x128x1x64 .f32 := kM.view.readAt (Elt F) (kvRect b h).toLoadRect (kV m c)
def vBlk (b : Fin 2) (h : Fin 4) : Vec F S1x128x1x64 .f32 := vM.view.readAt (Elt F) (kvRect b h).toLoadRect (vV m c)

/-- the attention output of one head on one batch entry; -/
def attnV (b : Fin 2) (h : Fin 4) : FVec F S128x64 .f32 :=
  k0_pay17 msk (extractStridedSlice S128x64 ![128 * b.val, 64 * h.val] (qV m c) (slices_blk b h)) (kBlk m c b h) (vBlk m c b h)

theorem idx_lt0 (i : S256x256.Idx) : (i 0).val < 256 := (i 0).isLt
theorem idx_lt1 (i : S256x256.Idx) : (i 1).val < 256 := (i 1).isLt

/-- all eight of them, side by side; -/
def ctxV : Vec F S256x256 .f32 := fun i =>
  attnV m c ⟨(i 0).val / 128, by have := idx_lt0 i; omega⟩ ⟨(i 1).val / 64, by have := idx_lt1 i; omega⟩
    (ix2 ⟨(i 0).val % 128, by omega⟩ ⟨(i 1).val % 64, by omega⟩)

/-- this device's share of the output projection, and what it sends of it; -/
def accV : Vec F S256x512 .f32 := k0_pay23 (woV m c) (ctxV m c)
def accbV : Vec F S256x512 .bf16 := k0_pay24 (woV m c) (ctxV m c)

/-- row `r` of the eight that device `j` finishes; -/
def rowIx (j : Dev nD) (r : Fin 8) (n : Fin 512) : S256x512.Idx :=
  ix2 ⟨8 * j.val + r.val, by have h : j.val < 32 := j.isLt; omega⟩ n

/-- the partial rows received (slot `j` from device `j`); -/
def commV : Vec F S32x8x512 .bf16 := fun i => accbV m (i 0) (rowIx c (i 1) (i 2))
abbrev rowRect : Rect S256x512 := Rect.unit (s := S256x512) (k0_off66 c) S8x512.size (k0_off66_inb c)
abbrev accM : Memref sig .tc .vmem S256x512 .f32 := Memref.whole cc0_scratch6
abbrev outM : Memref sig .tc .vmem S256x512 .f32 := Memref.whole cc0_stg0_0
/-- this device's own partial rows; -/
def ownV : Vec F S8x512 .f32 := accM.view.readAt (Elt F) (rowRect c).toLoadRect (accV m c)
/-- the eight rows it finishes, and what it sends of them; -/
def sumV : Vec F S8x512 .f32 := k0_pay25 (mpw c) (commV m c) (ownV m c)
def redV : Vec F S8x512 .bf16 := k0_pay26 (mpw c) (commV m c) (ownV m c)
/-- the finished rows received (slot `j` from device `j`); -/
def gatV : Vec F S32x8x512 .bf16 := fun i => redV m (i 0) (ix2 (i 1) (i 2))
/-- the result. -/
def outV : Vec F S256x512 .f32 := (outM.access (rowRect c) : View sig .tc _ _ _).write (Elt F) (k0_pay27 (gatV m)) (sumV m c) Finset.univ

/-! ## The eight blocks as the kernel computes them -/

theorem pay_00 : k0_pay9 (k0_pay8 (qV m c) mskA mskR k0_pay6 (kBlk m c 0 0) (vBlk m c 0 0)) = attnV m c 0 0 := rfl
theorem pay_01 : k0_pay10 (qV m c) msk (kBlk m c 0 1) (vBlk m c 0 1) = attnV m c 0 1 := rfl
theorem pay_02 : k0_pay12 msk (k0_pay11 (qV m c) (kBlk m c 0 2)) (vBlk m c 0 2) = attnV m c 0 2 := rfl
theorem pay_03 : k0_pay14 (k0_pay13 (qV m c) msk (kBlk m c 0 3)) (vBlk m c 0 3) = attnV m c 0 3 := rfl
theorem pay_10 : k0_pay15 (qV m c) msk (kBlk m c 1 0) (vBlk m c 1 0) = attnV m c 1 0 := rfl
theorem pay_11 : k0_pay17 msk (k0_pay16 (qV m c)) (kBlk m c 1 1) (vBlk m c 1 1) = attnV m c 1 1 := rfl
theorem pay_12 : k0_pay19 (k0_pay18 (qV m c) msk (kBlk m c 1 2)) (vBlk m c 1 2) = attnV m c 1 2 := rfl
theorem pay_13 : k0_pay21 (k0_pay20 (qV m c) msk (kBlk m c 1 3)) (vBlk m c 1 3) = attnV m c 1 3 := rfl

/-! ## The attention buffer while it is being filled -/

/-- The first `n` blocks are in place. -/
def Agree (n : Nat) (f : Vec F S256x256 .f32) : Prop := ∀ i : S256x256.Idx, 4 * ((i 0).val / 128) + (i 1).val / 64 < n → f i = ctxV m c i

theorem agree_zero (f) : Agree m c 0 f := fun i h => absurd h (Nat.not_lt_zero _)
theorem agree_all {f} (h : Agree m c 8 f) : f = ctxV m c := funext fun i => h i (by have := idx_lt0 i; have := idx_lt1 i; omega)

/-- A point of a block, in the buffer. -/
theorem blk_emb (b : Fin 2) (h : Fin 4) (x : S128x64.Idx) :
    ((ctxM.access (blkRect b h) : View sig .tc _ _ _).emb x 0).val = 128 * b.val + (x 0).val
      ∧ ((ctxM.access (blkRect b h) : View sig .tc _ _ _).emb x 1).val = 64 * h.val + (x 1).val :=
  ⟨congrArg (128 * b.val + ·) (Nat.one_mul _), congrArg (64 * h.val + ·) (Nat.one_mul _)⟩

/-- Storing the next block puts it in place and leaves the earlier ones. -/
theorem agree_store (b : Fin 2) (h : Fin 4) {n : Nat} (hn : n = 4 * b.val + h.val) {f : Vec F S256x256 .f32} (hf : Agree m c n f) :
    Agree m c (n + 1) ((ctxM.access (blkRect b h) : View sig .tc _ _ _).write (Elt F) f (attnV m c b h) Finset.univ) := by
  intro i hi
  have h0 := idx_lt0 i
  have h1 := idx_lt1 i
  have hb := b.isLt; have hh := h.isLt
  by_cases hlt : 4 * ((i 0).val / 128) + (i 1).val / 64 < n
  · rw [View.write_of_not_mem]
    · exact hf i hlt
    · intro hm
      obtain ⟨x, -, hx⟩ := Finset.mem_map.mp hm
      have e := blk_emb b h x
      rw [hx] at e
      have x0 : (x 0).val < 128 := (x 0).isLt
      have x1 : (x 1).val < 64 := (x 1).isLt
      omega
  · have e0 : (i 0).val / 128 = b.val := by omega
    have e1 : (i 1).val / 64 = h.val := by omega
    have hx : (ctxM.access (blkRect b h) : View sig .tc _ _ _).emb (ix2 ⟨(i 0).val % 128, by omega⟩ ⟨(i 1).val % 64, by omega⟩) = i := by
      have e := blk_emb b h (ix2 ⟨(i 0).val % 128, by omega⟩ ⟨(i 1).val % 64, by omega⟩)
      funext a
      match a with
      | ⟨0, _⟩ => exact Fin.ext (e.1.trans (by show 128 * b.val + (i 0).val % 128 = (i 0).val; omega))
      | ⟨1, _⟩ => exact Fin.ext (e.2.trans (by show 64 * h.val + (i 1).val % 64 = (i 1).val; omega))
    have hw := View.write_emb_of_mem (v := (ctxM.access (blkRect b h) : View sig .tc _ _ _)) (Val := Elt F) f (attnV m c b h) (M := Finset.univ)
      (x := ix2 ⟨(i 0).val % 128, by omega⟩ ⟨(i 1).val % 64, by omega⟩) (Finset.mem_univ _)
    rw [hx] at hw
    refine hw.trans ?_
    unfold ctxV
    have eb : (⟨(i 0).val / 128, by omega⟩ : Fin 2) = b := Fin.ext e0
    have eh : (⟨(i 1).val / 64, by omega⟩ : Fin 4) = h := Fin.ext e1
    rw [eb, eh]
    rfl

/-! ## Slots and rows -/

theorem comm_emb (j : Dev nD) (x : S8x512.Idx) : (commSlot j).view.emb x = ix3 (n0 := 32) j (x 0) (x 1) := by
  refine (congrArg (Rect.unit (s := S32x8x512) ![j.val, 0, 0] S1x8x512.size (inb_slot j)).emb
    ((congrArg (Shape.reshapeEquiv _) (eq_ix2 (n0 := 8) (n1 := 512) x)).trans (reshapeEquiv_ix2_1ab (a := 8) (b := 512) _ (x 0) (x 1)))).trans ?_
  funext a
  match a with
  | ⟨0, _⟩ => exact Fin.ext rfl
  | ⟨1, _⟩ => exact Fin.ext ((Nat.zero_add _).trans (Nat.one_mul _))
  | ⟨2, _⟩ => exact Fin.ext ((Nat.zero_add _).trans (Nat.one_mul _))

theorem gat_emb (j : Dev nD) (x : S8x512.Idx) : (gatSlot j).view.emb x = ix3 (n0 := 32) j (x 0) (x 1) := comm_emb j x

theorem row_emb (j : Dev nD) (x : S8x512.Idx) : (abRow j).view.emb x = rowIx j (x 0) (x 1) := by
  funext a
  match a with
  | ⟨0, _⟩ => exact Fin.ext (congrArg (8 * j.val + ·) (Nat.one_mul _))
  | ⟨1, _⟩ => exact Fin.ext ((Nat.zero_add _).trans (Nat.one_mul _))

/-- Membership in a slot, and in a group of eight rows. -/
theorem mem_comm (j : Dev nD) (i : S32x8x512.Idx) : i ∈ (commSlot j).view.set ↔ i 0 = j := by
  constructor
  · intro h
    obtain ⟨x, -, rfl⟩ := Finset.mem_map.mp h
    rw [comm_emb]
  · intro h
    have : i = (commSlot j).view.emb (ix2 (i 1) (i 2)) := by rw [comm_emb, ← h]; exact eq_ix3 i
    rw [this]; exact View.emb_mem_set _ _
theorem mem_gat (j : Dev nD) (i : S32x8x512.Idx) : i ∈ (gatSlot j).view.set ↔ i 0 = j := mem_comm j i
theorem mem_row (j : Dev nD) (i : S256x512.Idx) : i ∈ (abRow j).view.set ↔ (i 0).val / 8 = j.val := by
  constructor
  · intro h
    obtain ⟨x, -, rfl⟩ := Finset.mem_map.mp h
    rw [row_emb]
    have x0 : (x 0).val < 8 := (x 0).isLt
    show (8 * j.val + (x 0).val) / 8 = j.val
    omega
  · intro h
    have e : i = (abRow j).view.emb (ix2 ⟨(i 0).val % 8, by omega⟩ (i 1)) := by
      rw [row_emb]
      funext a
      match a with
      | ⟨0, _⟩ => exact Fin.ext (by show (i 0).val = 8 * j.val + (i 0).val % 8; omega)
      | ⟨1, _⟩ => rfl
    rw [e]; exact View.emb_mem_set _ _

/-- What a landing of device `c`'s rows makes of its slot on device `p`. -/
theorem comm_landed (p : Dev nD) (f : Vec F S32x8x512 .bf16) (i : S32x8x512.Idx) (hi : i ∈ (commSlot c).view.set) :
    (commSlot c).view.write (Elt F) f ((abRow p).view.read (Elt F) (accbV m c)) Finset.univ i = commV m p i := by
  obtain ⟨x, -, rfl⟩ := Finset.mem_map.mp hi
  rw [View.write_emb_of_mem _ _ (Finset.mem_univ _), comm_emb]
  show accbV m c ((abRow p).view.emb x) = _
  rw [row_emb]; rfl
theorem gat_landed (f : Vec F S32x8x512 .bf16) (i : S32x8x512.Idx) (hi : i ∈ (gatSlot c).view.set) :
    (gatSlot c).view.write (Elt F) f (redM.view.read (Elt F) (redV m c)) Finset.univ i = gatV m i := by
  obtain ⟨x, -, rfl⟩ := Finset.mem_map.mp hi
  rw [View.write_emb_of_mem _ _ (Finset.mem_univ _), gat_emb]
  show redV m c x = _
  rw [eq_ix2 x]; rfl

end Cert.KProof
-- ==== Proof.Proto.lean ====
/-
# The protocol: cells, duties, amounts, payloads, levels

For each semaphore of device `c`: who pays onto it, how much, and what each landing hands over. Every cell has one round.

* barrier: each other device `d` signals one unit and hands over `c`'s slots of `d`'s two receive buffers; `c` waits once, for 31.
* a local copy's semaphore: `c` starts the copy and waits for it; it hands back the source and the destination filled.
* send 1, entry `j`: `c`'s copy of its rows for `j` has left; the rows come back. Receive 1, entry `j`: `j`'s rows have landed in slot `j`.
* send 2, entry `j`: `c`'s copy of its finished rows to `j` has left; the share of them lent comes back. Receive 2, entry `j`: `j`'s finished rows
  have landed in slot `j`.
-/
module

public import proofs.«01_k».proof.Proof.Vals
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

set_option backward.proofsInPublic true

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ)

/-! ## The cells -/

/-- A device's DMA cells: five local copies; send 1, receive 1, send 2, receive 2, an entry per device. -/
abbrev DK : Type := Fin 5 ⊕ (Dev nD ⊕ (Dev nD ⊕ (Dev nD ⊕ Dev nD)))
/-- All its cells: the barrier and those. -/
abbrev CK : Type := Unit ⊕ DK
@[match_pattern] abbrev dLoc (k : Fin 5) : DK := .inl k
@[match_pattern] abbrev dS1 (j : Dev nD) : DK := .inr (.inl j)
@[match_pattern] abbrev dR1 (j : Dev nD) : DK := .inr (.inr (.inl j))
@[match_pattern] abbrev dS2 (j : Dev nD) : DK := .inr (.inr (.inr (.inl j)))
@[match_pattern] abbrev dR2 (j : Dev nD) : DK := .inr (.inr (.inr (.inr j)))
@[match_pattern] abbrev kBar : CK := .inl ()
@[match_pattern] abbrev kLoc (k : Fin 5) : CK := .inr (.inl k)
@[match_pattern] abbrev kS1 (j : Dev nD) : CK := .inr (.inr (.inl j))
@[match_pattern] abbrev kR1 (j : Dev nD) : CK := .inr (.inr (.inr (.inl j)))
@[match_pattern] abbrev kS2 (j : Dev nD) : CK := .inr (.inr (.inr (.inr (.inl j))))
@[match_pattern] abbrev kR2 (j : Dev nD) : CK := .inr (.inr (.inr (.inr (.inr j))))

abbrev barS : Sem sig := (SemArray.scalar (sig.barrier 0 rfl) : Sems sig S_).sem
def locS : Fin 5 → DmaSem sig
  | 0 => (((cc0_scratch11 : DmaSems sig S3).slice (Rect.unit (s := S3) ![0] S1.size inb_S3_S1_0)).squeeze S_ squeezes_S1_S_).sem
  | 1 => (((cc0_scratch11 : DmaSems sig S3).slice (Rect.unit (s := S3) ![1] S1.size inb_S3_S1_1)).squeeze S_ squeezes_S1_S_).sem
  | 2 => (((cc0_scratch11 : DmaSems sig S3).slice (Rect.unit (s := S3) ![2] S1.size inb_S3_S1_2)).squeeze S_ squeezes_S1_S_).sem
  | 3 => (((cc0_scratch12 : DmaSems sig S2).slice (Rect.unit (s := S2) ![0] S1.size inb_S2_S1_0)).squeeze S_ squeezes_S1_S_).sem
  | 4 => (((cc0_scratch12 : DmaSems sig S2).slice (Rect.unit (s := S2) ![1] S1.size inb_S2_S1_1)).squeeze S_ squeezes_S1_S_).sem
def dsem : DK → DmaSem sig
  | dLoc k => locS k
  | dS1 j => semAt cc0_scratch13 j
  | dR1 j => semAt cc0_scratch14 j
  | dS2 j => semAt cc0_scratch15 j
  | dR2 j => semAt cc0_scratch16 j
abbrev osem (k : DK) : SemLoc sig := .dma (dsem k)
def csem : CK → SemLoc sig
  | .inl _ => .reg barS
  | .inr k => .dma (dsem k)
abbrev kcell (p : Dev nD × CK) : GSem nD τ sig := ((p.1 : Thread nD τ), csem p.2)

/-- Which cell a DMA semaphore is. -/
def kindD (q : DmaSem sig) : Option DK :=
  if q.val < 1 then none
  else if h : q.val < 6 then some (dLoc ⟨q.val - 1, by omega⟩)
  else if h : q.val < 38 then some (dS1 ⟨q.val - 6, by show _ < 32; omega⟩)
  else if h : q.val < 70 then some (dR1 ⟨q.val - 38, by show _ < 32; omega⟩)
  else if h : q.val < 102 then some (dS2 ⟨q.val - 70, by show _ < 32; omega⟩)
  else if h : q.val < 134 then some (dR2 ⟨q.val - 102, by show _ < 32; omega⟩)
  else none
def kind : SemLoc sig → Option CK
  | .reg s => if s = barS then some kBar else none
  | .dma q => (kindD q).map .inr

theorem kindD_dsem : ∀ k : DK, kindD (dsem k) = some k := by decide +kernel
theorem kind_csem : ∀ k : CK, kind (csem k) = some k
  | .inl () => by show (if barS = barS then some kBar else none) = some kBar; rw [if_pos rfl]
  | .inr k => congrArg (Option.map _) (kindD_dsem k)
theorem csem_injective : Function.Injective csem := fun a b h => by
  have := (kind_csem a).symm.trans ((congrArg kind h).trans (kind_csem b)); exact Option.some.inj this
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## Amounts -/

/-- eight rows of 512 in the narrow format; -/
def N : ℕ := (commSlot 0).view.dmaCredit
def locN : Fin 5 → ℕ
  | 0 => (Memref.whole cc0_scratch0 : Memref sig .tc .vmem S2x128x512 .f32).view.dmaCredit
  | 1 => (Memref.whole cc0_scratch1 : Memref sig .tc .vmem S512x256 .f32).view.dmaCredit
  | 2 => (Memref.whole cc0_scratch2 : Memref sig .tc .vmem S256x512 .f32).view.dmaCredit
  | 3 => kM.view.dmaCredit
  | 4 => vM.view.dmaCredit
theorem N_comm (j : Dev nD) : (commSlot j).view.dmaCredit = N := rfl
theorem N_gat (j : Dev nD) : (gatSlot j).view.dmaCredit = N := rfl
theorem N_row (j : Dev nD) : (abRow j).view.dmaCredit = N := rfl
theorem N_red : redM.view.dmaCredit = N := rfl
theorem N_pos : 0 < N := View.dmaCredit_pos _ (by decide)
theorem locN_pos : ∀ k, 0 < locN k
  | 0 => View.dmaCredit_pos _ (by decide)
  | 1 => View.dmaCredit_pos _ (by decide)
  | 2 => View.dmaCredit_pos _ (by decide)
  | 3 => View.dmaCredit_pos _ (by decide)
  | 4 => View.dmaCredit_pos _ (by decide)

/-! ## Assertions about buffers -/

/-- A whole buffer of device `c`. -/
abbrev pt (c : Dev nD) (b : Ref sig .tc) (f : Buf (Elt F) ((c : Thread nD τ).loc b)) : sProp 𝕄 := ((c : Thread nD τ).loc b) ↦{fullShare} f
/-- eight rows of what `c` sends; slot `j` of each receive buffer of `c`; a share of `c`'s finished rows; the fetched heads of the keys and values. -/
def rowPt (c j : Dev nD) (f : Vec F S256x512 .bf16) : sProp 𝕄 := (abRow j).view.loc (c : Thread nD τ) ↦[(abRow j).view.set]{fullShare} f
def commPt (c j : Dev nD) (f : Vec F S32x8x512 .bf16) : sProp 𝕄 := (commSlot j).view.loc (c : Thread nD τ) ↦[(commSlot j).view.set]{fullShare} f
def gatPt (c j : Dev nD) (f : Vec F S32x8x512 .bf16) : sProp 𝕄 := (gatSlot j).view.loc (c : Thread nD τ) ↦[(gatSlot j).view.set]{fullShare} f
def redPt (c j : Dev nD) (f : Vec F S8x512 .bf16) : sProp 𝕄 := redM.view.loc (c : Thread nD τ) ↦[redM.view.set]{ShareLeaves.leaf 5 fullShare j} f
def kPt (c : Dev nD) : sProp 𝕄 := (kSrc c).view.loc (c : Thread nD τ) ↦[(kSrc c).view.set]{fullShare} m ((c : Thread nD τ).loc main_arg2)
def vPt (c : Dev nD) : sProp 𝕄 := (vSrc c).view.loc (c : Thread nD τ) ↦[(vSrc c).view.set]{fullShare} m ((c : Thread nD τ).loc main_arg3)

instance (c j : Dev nD) (f) : BI.Storable (upEmb : UEmb _ 𝕄) (rowPt (F := F) c j f) := by unfold rowPt; infer_instance
instance (c j : Dev nD) (f) : BI.Storable (upEmb : UEmb _ 𝕄) (commPt (F := F) c j f) := by unfold commPt; infer_instance
instance (c j : Dev nD) (f) : BI.Storable (upEmb : UEmb _ 𝕄) (gatPt (F := F) c j f) := by unfold gatPt; infer_instance
instance (c j : Dev nD) (f) : BI.Storable (upEmb : UEmb _ 𝕄) (redPt (F := F) c j f) := by unfold redPt; infer_instance
instance (c : Dev nD) : BI.Storable (upEmb : UEmb _ 𝕄) (kPt (F := F) m c) := by unfold kPt; infer_instance
instance (c : Dev nD) : BI.Storable (upEmb : UEmb _ 𝕄) (vPt (F := F) m c) := by unfold vPt; infer_instance

/-! ## The schedule -/

/-- Slot `c` of both receive buffers of `d`, at any contents: what `d` hands `c` at the barrier. -/
def slots (d c : Dev nD) : sProp 𝕄 := iprop((∃ f, commPt d c f) ∗ (∃ f, gatPt d c f))
def locPay (c : Dev nD) : Fin 5 → sProp 𝕄
  | 0 => iprop(pt c cc0_scratch0 (xV m c) ∗ pt c main_arg0 (m ((c : Thread nD τ).loc main_arg0)))
  | 1 => iprop(pt c cc0_scratch1 (wqV m c) ∗ pt c main_arg1 (m ((c : Thread nD τ).loc main_arg1)))
  | 2 => iprop(pt c cc0_scratch2 (woV m c) ∗ pt c main_arg4 (m ((c : Thread nD τ).loc main_arg4)))
  | 3 => iprop(pt c cc0_scratch3 (kV m c) ∗ kPt m c)
  | 4 => iprop(pt c cc0_scratch4 (vV m c) ∗ vPt m c)

/-- who pays each of `c`'s cells; how much; what with; at what level. -/
def duK (c : Dev nD) : CK → Finset (Dev nD)
  | kBar => Finset.univ.erase c
  | kLoc _ => {c}
  | kS1 j => if j = c then ∅ else {c}
  | kR1 j => if j = c then ∅ else {j}
  | kS2 j => if j = c then ∅ else {c}
  | kR2 j => if j = c then ∅ else {j}
def amK : CK → ℕ
  | kBar => 1
  | kLoc k => locN k
  | .inr (.inr _) => N
def payK (c : Dev nD) : CK → Dev nD → sProp 𝕄
  | kBar, d => slots d c
  | kLoc k, _ => locPay m c k
  | kS1 j, _ => rowPt c j (accbV m c)
  | kR1 j, _ => commPt c j (commV m c)
  | kS2 j, _ => redPt c j (redV m c)
  | kR2 j, _ => gatPt c j (gatV m)
def lvK : CK → ℕ
  | kBar => 1
  | kR1 _ => 2
  | kR2 _ => 3
  | _ => 0

theorem amK_pos : ∀ k, 0 < amK k
  | kBar => Nat.one_pos
  | kLoc k => locN_pos k
  | .inr (.inr _) => N_pos

instance (c : Dev nD) (k : Fin 5) : BI.Storable (upEmb : UEmb _ 𝕄) (locPay (F := F) m c k) :=
  match k with
  | 0 => by unfold locPay; infer_instance
  | 1 => by unfold locPay; infer_instance
  | 2 => by unfold locPay; infer_instance
  | 3 => by unfold locPay; infer_instance
  | 4 => by unfold locPay; infer_instance
instance (d c : Dev nD) : BI.Storable (upEmb : UEmb _ 𝕄) (slots (F := F) d c) := by unfold slots; infer_instance
instance payK_storable (c : Dev nD) (k : CK) (d : Dev nD) : BI.Storable (upEmb : UEmb _ 𝕄) (payK (F := F) m c k d) :=
  match k with
  | kBar => by unfold payK; infer_instance
  | kLoc _ => by unfold payK; infer_instance
  | kS1 _ => by unfold payK; infer_instance
  | kR1 _ => by unfold payK; infer_instance
  | kS2 _ => by unfold payK; infer_instance
  | kR2 _ => by unfold payK; infer_instance

def sched : Rounds.Schedule (GSem nD τ sig) (Dev nD) 𝕄 where
  duties g r := if r = 0 ∧ g.1.2 = .tc then (kind g.2).elim ∅ (duK g.1.1) else ∅
  unitless _ := False
  amount g _ _ := (kind g.2).elim 1 amK
  payload g _ d := (kind g.2).elim iprop(emp) (fun k => payK m g.1.1 k d)
  amount_pos g _ _ _ := by
    cases h : kind g.2 with
    | none => exact Nat.one_pos
    | some k => exact amK_pos k

instance sched_storable (g : GSem nD τ sig) (r : ℕ) (d : Dev nD) : BI.Storable (upEmb : UEmb _ 𝕄) ((sched (F := F) m).payload g r d) := by
  show BI.Storable upEmb ((kind g.2).elim iprop(emp) (fun k => payK m g.1.1 k d))
  cases kind g.2 with
  | none => show BI.Storable upEmb iprop(emp); infer_instance
  | some k => exact payK_storable m g.1.1 k d

theorem duties_eq (c : Dev nD) (k : CK) : (sched (F := F) m).duties (kcell (c, k)) 0 = duK c k := by
  dsimp only [sched]; rw [if_pos ⟨rfl, rfl⟩, kind_csem]; rfl
theorem duties_later (g : GSem nD τ sig) : ∀ r, 1 ≤ r → (sched (F := F) m).duties g r = ∅ :=
  fun r hr => if_neg fun h => by omega
theorem duties_none (c : Dev nD) (k : CK) (h : duK c k = ∅) : ∀ r, 0 ≤ r → (sched (F := F) m).duties (kcell (c, k)) r = ∅ := fun r _ => by
  rcases Nat.eq_zero_or_pos r with rfl | hr
  · rw [duties_eq, h]
  · exact duties_later m _ r hr
theorem amount_eq (c : Dev nD) (k : CK) (r d) : (sched (F := F) m).amount (kcell (c, k)) r d = amK k := by
  dsimp only [sched]; rw [kind_csem]; rfl
theorem payload_eq (c : Dev nD) (k : CK) (r d) : (sched (F := F) m).payload (kcell (c, k)) r d = payK m c k d := by
  dsimp only [sched]; rw [kind_csem]; rfl
theorem expect_eq (c : Dev nD) (k : CK) : (sched (F := F) m).expect (kcell (c, k)) 0 = (duK c k).card * amK k := by
  unfold Schedule.expect Schedule.amountOf
  rw [duties_eq, Finset.sum_congr rfl fun d _ => amount_eq m c k 0 d, Finset.sum_const, smul_eq_mul]
/-- What a wait on a cell with one payer brings. -/
theorem rest_one (c : Dev nD) (k : CK) (d : Dev nD) (h : duK c k = {d}) :
    bigSep ((sched (F := F) m).duties (kcell (c, k)) 0 \ ∅) (fun d => (sched (F := F) m).payload (kcell (c, k)) 0 d) = payK m c k d := by
  rw [Finset.sdiff_empty, duties_eq, h, bigSep_singleton, payload_eq]
theorem expect_one (c : Dev nD) (k : CK) (d : Dev nD) (h : duK c k = {d}) : (sched (F := F) m).expect (kcell (c, k)) 0 = amK k := by
  rw [expect_eq, h, Finset.card_singleton, Nat.one_mul]

/-! ## Debts and levels -/

def L (g : GSem nD τ sig) : Finset Unit := if g.1.2 = .tc then {()} else ∅
def lv (g : GSem nD τ sig) (_ : Unit) : ℕ := (kind g.2).elim 0 lvK
theorem L_of_ne (g : GSem nD τ sig) (h : g.1.2 ≠ .tc) : L g = ∅ := if_neg h
theorem L_tc (c : Dev nD) (sm : SemLoc sig) : L ((c : Thread nD τ), sm) = {()} := if_pos rfl
theorem lv_kcell (p : Dev nD × CK) (u : Unit) : lv (kcell p) u = lvK p.2 := by unfold lv; rw [kind_csem]; rfl

/-- The device `o` places after `c`. -/
def shift (c o : Dev nD) : Dev nD := ⟨(c.val + o.val) % 32, Nat.mod_lt _ (by decide)⟩

/-- What `c` owes for a set of signals, of first copies, of second copies. -/
def OB (c : Dev nD) (S : Finset (Dev nD)) : CellTallies nD τ sig Unit := ∑ o ∈ S, tallyAt (kcell (shift c o, kBar)) () 1
def O1 (c : Dev nD) (S : Finset (Dev nD)) : CellTallies nD τ sig Unit := ∑ j ∈ S, tallyAt (kcell (j, kR1 c)) () N
def O2 (c : Dev nD) (S : Finset (Dev nD)) : CellTallies nD τ sig Unit := ∑ j ∈ S, tallyAt (kcell (j, kR2 c)) () N
abbrev others (c : Dev nD) : Finset (Dev nD) := Finset.univ.filter fun j => c ≠ j
abbrev steps : Finset (Dev nD) := Finset.univ.filter fun o => (0 : Dev nD) ≠ o
def O₀ (c : Dev nD) : CellTallies nD τ sig Unit := OB c steps + (O1 c (others c) + O2 c (others c))

theorem sum_tally_pos {ι : Type} [DecidableEq ι] {S : Finset ι} {f : ι → GSem nD τ sig} {n : ℕ} {g : GSem nD τ sig} {u : Unit}
    (h : 0 < (∑ j ∈ S, tallyAt (f j) () n : CellTallies nD τ sig Unit) g u) : ∃ j ∈ S, g = f j := by
  induction S using Finset.induction_on with
  | empty => exact absurd h (Nat.lt_irrefl 0)
  | insert a S ha ih =>
    rw [Finset.sum_insert ha, Pi.add_apply, Finsupp.add_apply, tallyAt_apply] at h
    by_cases hg : g = f a
    · exact ⟨a, Finset.mem_insert_self _ _, hg⟩
    · rw [if_neg (fun h' => hg h'.1), Nat.zero_add] at h
      obtain ⟨j, hj, e⟩ := ih h
      exact ⟨j, Finset.mem_insert_of_mem hj, e⟩

/-- The cells a debt is to. -/
def OwesTo (O : CellTallies nD τ sig Unit) (b : ℕ) : Prop := ∀ g u, 0 < O g u → ∃ p : Dev nD × CK, g = kcell p ∧ b < lvK p.2
theorem owesTo_zero (b) : OwesTo 0 b := fun g u h => absurd h (Nat.lt_irrefl 0)
theorem owesTo_add {O O' b} (h : OwesTo O b) (h' : OwesTo O' b) : OwesTo (O + O') b := fun g u hp => by
  rw [Pi.add_apply, Finsupp.add_apply] at hp
  rcases Nat.eq_zero_or_pos (O g u) with e | e
  · exact h' g u (by omega)
  · exact h g u e
theorem owesTo_OB (c S) : OwesTo (OB c S) 0 := fun g u h => by obtain ⟨j, -, e⟩ := sum_tally_pos h; exact ⟨_, e, Nat.one_pos⟩
theorem owesTo_O1 (c S) {b} (hb : b < 2) : OwesTo (O1 c S) b := fun g u h => by obtain ⟨j, -, e⟩ := sum_tally_pos h; exact ⟨_, e, hb⟩
theorem owesTo_O2 (c S) {b} (hb : b < 3) : OwesTo (O2 c S) b := fun g u h => by obtain ⟨j, -, e⟩ := sum_tally_pos h; exact ⟨_, e, hb⟩
theorem owesTo_O₀ (c) : OwesTo (O₀ c) 0 := owesTo_add (owesTo_OB _ _) (owesTo_add (owesTo_O1 _ _ (by decide)) (owesTo_O2 _ _ (by decide)))

/-- A wait at a level below every debt is allowed. -/
theorem mayWait_of (c : Dev nD) (sm : SemLoc sig) (b : ℕ) (hb : lv ((c : Thread nD τ), sm) () ≤ b) (O : CellTallies nD τ sig Unit) (hO : OwesTo O b) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨p, rfl, -⟩ := hO g u hg; rw [L_tc]; exact Finset.mem_singleton_self _)
    (fun p hp => by rw [Finset.mem_singleton.mp hp]; exact hb)
    (fun g u hg => by obtain ⟨p, rfl, h⟩ := hO g u hg; rw [lv_kcell]; exact h)

/-! ## The records every device has -/

variable (K : Dev nD × CK → ℕ)

instance : DecidableEq CK := inferInstanceAs (DecidableEq (Unit ⊕ (Fin 5 ⊕ (Dev nD ⊕ (Dev nD ⊕ (Dev nD ⊕ Dev nD))))))

def recs : sProp 𝕄 :=
  iprop((levAts L lv : sProp 𝕄) ∗ (bigSep Finset.univ fun p : Dev nD × CK => cellInv ER (sched m) (K p) (kcell p))
    ∗ bigSep Finset.univ fun p : Dev nD × CK => reached ER (kcell p) 0)
instance recs_persistent : BI.Persistent (recs m K) := by unfold recs; infer_instance
theorem recs_wait (c : Dev nD) (sm : SemLoc sig) (b : ℕ) (hb : lv ((c : Thread nD τ), sm) () ≤ b) (O : CellTallies nD τ sig Unit) (hO : OwesTo O b) :
    recs m K ⊢ MayWait (c : Thread nD τ) sm () O := by
  have h := mayWait_of (F := F) c sm b hb O hO
  unfold recs; iintro ⟨H, -, -⟩; iapply h; iexact H
theorem recs_inv (p : Dev nD × CK) : recs m K ⊢ cellInv ER (sched m) (K p) (kcell p) := by
  unfold recs; iintro ⟨-, H, -⟩
  have h : bigSep Finset.univ (fun p : Dev nD × CK => cellInv ER (sched m) (K p) (kcell p)) ⊢ cellInv ER (sched m) (K p) (kcell p) :=
    bigSep_elim (Finset.mem_univ p)
  iapply h; iexact H
theorem recs_reached (p : Dev nD × CK) : recs m K ⊢ (reached ER (kcell p) 0 : sProp 𝕄) := by
  unfold recs; iintro ⟨-, -, H⟩
  have h : bigSep Finset.univ (fun p : Dev nD × CK => (reached ER (kcell p) 0 : sProp 𝕄)) ⊢ reached ER (kcell p) 0 :=
    bigSep_elim (Finset.mem_univ p)
  iapply h; iexact H

end Cert.KProof
-- ==== Proof.Steps.lean ====
/-
# The loops over the devices

A loop whose step at device `o` turns `Ψ o` into `Ψ' o`, run over consecutive devices; then the step of each of the kernel's loops.
-/
module

public import proofs.«01_k».proof.Proof.Proto

@[expose] public section

set_option backward.proofsInPublic true

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Device `c` runs `p` to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem bs_insert {I : Type} [DecidableEq I] {s : Finset I} {i : I} (h : i ∉ s) {Φ : I → sProp 𝕄} :
    bigSep (insert i s) Φ = iprop(Φ i ∗ bigSep s Φ) := BI.bigSep_insert h

/-! ## A loop -/

section Loop

variable (act : Dev nD → Prop) [DecidablePred act]

/-- The steps still to come from step `n`, and those done before it. -/
def TS (n : ℕ) : Finset (Dev nD) := Finset.univ.filter fun o => act o ∧ n ≤ o.val
def DS (n : ℕ) : Finset (Dev nD) := Finset.univ.filter fun o => act o ∧ o.val < n

theorem TS_zero : TS act 0 = Finset.univ.filter act := Finset.filter_congr fun o _ => ⟨fun h => h.1, fun h => ⟨h, Nat.zero_le _⟩⟩
theorem TS_end : TS act 32 = ∅ := Finset.filter_false_of_mem fun o _ h => absurd o.isLt (Nat.not_lt.2 h.2)
theorem DS_zero : DS act 0 = ∅ := Finset.filter_false_of_mem fun o _ h => absurd h.2 (Nat.not_lt_zero _)
theorem DS_end : DS act 32 = Finset.univ.filter act := Finset.filter_congr fun o _ => ⟨fun h => h.1, fun h => ⟨h, o.isLt⟩⟩
theorem TS_not_mem (o : Dev nD) : o ∉ TS act (o.val + 1) := fun h => absurd (Finset.mem_filter.mp h).2.2 (Nat.not_succ_le_self _)
theorem DS_not_mem (o : Dev nD) : o ∉ DS act o.val := fun h => absurd (Finset.mem_filter.mp h).2.2 (Nat.lt_irrefl _)
theorem TS_succ {o : Dev nD} (h : act o) : TS act o.val = insert o (TS act (o.val + 1)) := by
  ext x
  simp only [TS, Finset.mem_insert, Finset.mem_filter, Finset.mem_univ, true_and]
  constructor
  · rintro ⟨hx, hl⟩
    rcases Nat.eq_or_lt_of_le hl with e | e
    · exact .inl (Fin.ext e.symm)
    · exact .inr ⟨hx, e⟩
  · rintro (rfl | ⟨hx, hl⟩)
    · exact ⟨h, Nat.le_refl _⟩
    · exact ⟨hx, Nat.le_of_succ_le hl⟩
theorem TS_skip {o : Dev nD} (h : ¬ act o) : TS act o.val = TS act (o.val + 1) := by
  ext x
  simp only [TS, Finset.mem_filter, Finset.mem_univ, true_and]
  refine and_congr_right fun hx => ⟨fun hl => ?_, Nat.le_of_succ_le⟩
  rcases Nat.eq_or_lt_of_le hl with e | e
  · exact absurd ((Fin.ext e.symm : x = o) ▸ hx) h
  · exact e
theorem DS_succ {o : Dev nD} (h : act o) : DS act (o.val + 1) = insert o (DS act o.val) := by
  ext x
  simp only [DS, Finset.mem_insert, Finset.mem_filter, Finset.mem_univ, true_and]
  constructor
  · rintro ⟨hx, hl⟩
    rcases Nat.eq_or_lt_of_le (Nat.le_of_lt_succ hl) with e | e
    · exact .inl (Fin.ext e)
    · exact .inr ⟨hx, e⟩
  · rintro (rfl | ⟨hx, hl⟩)
    · exact ⟨h, Nat.lt_succ_self _⟩
    · exact ⟨hx, Nat.lt_succ_of_lt hl⟩
theorem DS_skip {o : Dev nD} (h : ¬ act o) : DS act (o.val + 1) = DS act o.val := by
  ext x
  simp only [DS, Finset.mem_filter, Finset.mem_univ, true_and]
  refine and_congr_right fun hx => ⟨fun hl => ?_, Nat.lt_succ_of_lt⟩
  rcases Nat.eq_or_lt_of_le (Nat.le_of_lt_succ hl) with e | e
  · exact absurd ((Fin.ext e : x = o) ▸ hx) h
  · exact e

variable (c : Dev nD) (O : ℕ → CellTallies nD τ sig Unit) (Ψ Ψ' : Dev nD → sProp (MT nD τ sig Unit (Elt F) ℕ UU ℕ))

/-- A loop between its steps: the debt, the steps to come, the steps done. -/
def Ph (n : ℕ) : sProp 𝕄 :=
  iprop((∃ W, owes (c : Thread nD τ) (O n) W) ∗ bigSep (TS act n) Ψ ∗ bigSep (DS act n) Ψ')

/-- A run of a loop over consecutive devices, from its step. -/
theorem phase (P : sProp 𝕄) [BI.Persistent P] (blk : Dev nD → Prog (TpuEff nD τ sig (Elt F) Λ₀ .tc) PUnit)
    (hskip : ∀ o, ¬ act o → blk o = pure ⟨⟩) (hO : ∀ o : Dev nD, ¬ act o → O (o.val + 1) = O o.val)
    (hstep : ∀ o, act o → ∀ W (Q : PUnit → sProp 𝕄),
      iprop(P ∗ owes (c : Thread nD τ) (O o.val) W ∗ Ψ o ∗ ((∃ W', owes (c : Thread nD τ) (O (o.val + 1)) W') -∗ Ψ' o -∗ Q ⟨⟩)) ⊢ WP c (blk o) Q)
    {β : Type} (Kp : Prog (TpuEff nD τ sig (Elt F) Λ₀ .tc) β) (Q : β → sProp 𝕄) :
    ∀ (l : List (Dev nD)) (n k : ℕ), l.map (fun o => o.val) = List.range' n k →
      iprop(P ∗ Ph act c O Ψ Ψ' n ∗ (Ph act c O Ψ Ψ' (n + k) -∗ WP c Kp Q)) ⊢ WP c (seqK blk l Kp) Q := by
  intro l
  induction l with
  | nil =>
    intro n k h
    have hk : k = 0 := by
      cases k with
      | zero => rfl
      | succ k => rw [List.range'_succ] at h; cases h
    subst hk
    show iprop(P ∗ Ph act c O Ψ Ψ' n ∗ (Ph act c O Ψ Ψ' n -∗ WP c Kp Q)) ⊢ WP c Kp Q
    iintro ⟨-, HP, Hk⟩
    iapply Hk; iexact HP
  | cons j l ih =>
    intro n k h
    cases k with
    | zero => cases h
    | succ k =>
      rw [List.range'_succ, List.map_cons] at h
      obtain ⟨rfl, hl⟩ := List.cons.inj h
      have ih' := ih (j.val + 1) k hl
      rw [show j.val + 1 + k = j.val + (k + 1) by omega] at ih'
      show _ ⊢ WP c (blk j >>= fun _ => seqK blk l Kp) Q
      unfold WP
      rw [wp_bind]
      by_cases ha : act j
      · unfold Ph at ih' ⊢
        rw [DS_succ act ha, bs_insert (DS_not_mem act j)] at ih'
        rw [TS_succ act ha, bs_insert (TS_not_mem act j)]
        iintro ⟨#HR, ⟨⟨%W, HO⟩, ⟨HΨ, HT⟩, HD⟩, Hk⟩
        iapply (hstep j ha W (fun _ => WP c (seqK blk l Kp) Q))
        isplitr; · iexact HR
        isplitl [HO]; · iexact HO
        isplitl [HΨ]; · iexact HΨ
        iintro HO HΨ
        iapply ih'
        isplitr; · iexact HR
        isplitr [Hk]
        · isplitl [HO]; · iexact HO
          isplitl [HT]; · iexact HT
          isplitl [HΨ]; · iexact HΨ
          iexact HD
        · iexact Hk
      · rw [hskip j ha]
        unfold Ph at ih' ⊢
        rw [DS_skip act ha, hO j ha, ← TS_skip act ha] at ih'
        show _ ⊢ wp frame (wpE (defs₀ (F := F)) 𝒱₀ (c : Thread nD τ) none) Set.univ (.ret PUnit.unit) _
        rw [wp_ret]
        iintro H
        imodintro
        iapply ih'; iexact H

/-- From the start of the loop to its end. -/
theorem Ph_zero : Ph act c O Ψ Ψ' 0 = iprop((∃ W, owes (c : Thread nD τ) (O 0) W) ∗ bigSep (Finset.univ.filter act) Ψ ∗ emp) := by
  unfold Ph; rw [TS_zero, DS_zero, bigSep_empty]; rfl
theorem Ph_end : Ph act c O Ψ Ψ' 32 = iprop((∃ W, owes (c : Thread nD τ) (O 32) W) ∗ emp ∗ bigSep (Finset.univ.filter act) Ψ') := by
  unfold Ph; rw [TS_end, DS_end, bigSep_empty]; rfl

end Loop

/-! ## The steps -/

section Steps

variable (K : Dev nD × CK → ℕ) (c : Dev nD)

/-- The handshake's step: signal the device `o` places on. -/
def sigBlk (c o : Dev nD) : Prog (TpuEff nD τ sig (Elt F) Λ₀ .tc) PUnit :=
  if (0 : Dev nD) ≠ o then semSignalWord (shift c o) barS 1#32 else pure ⟨⟩

theorem shift_ne (c o : Dev nD) (h : (0 : Dev nD) ≠ o) : c ≠ shift c o := by revert c o; decide +kernel

theorem sum_TS {f : Dev nD → GSem nD τ sig} {n : ℕ} (act : Dev nD → Prop) [DecidablePred act] {o : Dev nD} (ha : act o) :
    (∑ j ∈ TS act o.val, tallyAt (f j) () n : CellTallies nD τ sig Unit) = (∑ j ∈ TS act (o.val + 1), tallyAt (f j) () n) + tallyAt (f o) () n := by
  rw [TS_succ act ha, Finset.sum_insert (TS_not_mem act o), add_comm]

/-- what `c` owes during the handshake, the first copies, the second copies, -/
def OBn (c : Dev nD) (n : ℕ) : CellTallies nD τ sig Unit := OB c (TS (fun o => (0 : Dev nD) ≠ o) n) + (O1 c (others c) + O2 c (others c))
def O1n (c : Dev nD) (n : ℕ) : CellTallies nD τ sig Unit := O1 c (TS (fun j => c ≠ j) n) + O2 c (others c)
def O2n (c : Dev nD) (n : ℕ) : CellTallies nD τ sig Unit := O2 c (TS (fun j => c ≠ j) n)

theorem OBn_step {o : Dev nD} (h : (0 : Dev nD) ≠ o) : OBn c o.val = OBn c (o.val + 1) + tallyAt (kcell (shift c o, kBar)) () 1 := by
  unfold OBn OB; rw [sum_TS _ h, add_right_comm]
theorem O1n_step {o : Dev nD} (h : c ≠ o) : O1n c o.val = O1n c (o.val + 1) + tallyAt (kcell (o, kR1 c)) () N := by
  unfold O1n; rw [show O1 c (TS (fun j => c ≠ j) o.val) = O1 c (TS (fun j => c ≠ j) (o.val + 1)) + tallyAt (kcell (o, kR1 c)) () N from sum_TS _ h, add_right_comm]
theorem O2n_step {o : Dev nD} (h : c ≠ o) : O2n c o.val = O2n c (o.val + 1) + tallyAt (kcell (o, kR2 c)) () N := sum_TS _ h

theorem mem_duK_bar {p : Dev nD} (h : c ≠ p) : c ∈ duK p kBar := Finset.mem_erase.mpr ⟨h, Finset.mem_univ _⟩
theorem duK_S1 {j : Dev nD} (h : c ≠ j) : duK c (kS1 j) = {c} := if_neg (Ne.symm h)
theorem duK_R1 {j : Dev nD} (h : c ≠ j) : duK c (kR1 j) = {j} := if_neg (Ne.symm h)
theorem duK_S2 {j : Dev nD} (h : c ≠ j) : duK c (kS2 j) = {c} := if_neg (Ne.symm h)
theorem duK_R2 {j : Dev nD} (h : c ≠ j) : duK c (kR2 j) = {j} := if_neg (Ne.symm h)

theorem hpay_bar (p : Dev nD) : slots c p ⊢ (sched m).payload ((p : Thread nD τ), SemLoc.reg barS) 0 c := Entails.of_eq (payload_eq m p kBar 0 c).symm

/-- One signal. -/
theorem sig_step (o : Dev nD) (ho : (0 : Dev nD) ≠ o) (W) (Q : PUnit → sProp 𝕄) :
    iprop(recs m K ∗ owes (c : Thread nD τ) (OBn c o.val) W ∗ (slots c (shift c o) ∗ dutyTok ER (kcell (shift c o, kBar)) 0 c)
      ∗ ((∃ W', owes (c : Thread nD τ) (OBn c (o.val + 1)) W') -∗ emp -∗ Q ⟨⟩)) ⊢ WP c (sigBlk c o) Q := by
  unfold sigBlk; rw [if_pos ho]
  have hpay : slots c (shift c o) ⊢ (sched m).payload ((shift c o : Thread nD τ), SemLoc.reg barS) 0 c := hpay_bar m c (shift c o)
  have key := Rounds.wp_signal (Q := Q) (Γ := .empty) (defs := defs₀ (F := F)) (k := fun _ => .ret ⟨⟩) (W := W) (Es := Set.univ) 𝒱₀ ER (sched m) (c : Thread nD τ) none (dst := (shift c o : Thread nD τ)) (sem := barS) (r := 0)
    (κ := K (shift c o, kBar)) (d := c) (k' := 1)
    ((duties_eq m (shift c o) kBar).symm ▸ mem_duK_bar c (shift_ne c o ho) : c ∈ (sched m).duties (kcell (shift c o, kBar)) 0)
    (amount_eq m (shift c o) kBar 0 c) () (OBn c (o.val + 1)) (OBn_step c ho)
  iintro ⟨#HR, HO, ⟨HS, Ht⟩, Hk⟩
  iapply key $$ [HO HS Ht]
  · isplitr; · iapply (recs_inv m K (shift c o, kBar)); iexact HR
    isplitl [HO]; · iexact HO
    isplitl [Ht]; · iexact Ht
    isplitl [HS]
    · iapply hpay; iexact HS
    · iapply (recs_reached m K (shift c o, kBar)); iexact HR
  iintro HO
  rw [wp_ret]; imodintro
  iapply Hk $$ [HO]
  · iexists W; iexact HO
  · iempintro

/-- A wait on a DMA cell with one payer. -/
theorem wait_dma (k : DK) (d : Dev nD) (hd : duK c (.inr k) = {d}) (q : DmaSem sig) (hq : dsem k = q) (A : sProp 𝕄) (hA : payK m c (.inr k) d ⊢ A)
    {sp sp' : Space} {s s' : Shape} {e e' : EltTy} {κ : Kind}
    (src : Memref sig .tc sp' s' e') (dst : Memref sig κ sp s e) (hsrc : src.view.WordExact) (hdst : dst.view.WordExact)
    (n : ℕ) (hN : dst.view.dmaCredit = n) (hn : amK (.inr k) = n) (b : ℕ) (hb : lvK (.inr k) ≤ b) (O : CellTallies nD τ sig Unit) (hO : OwesTo O b)
    (W : Waits sig Unit) (Q : PUnit → sProp 𝕄) :
    iprop(recs m K ∗ owes (c : Thread nD τ) O W ∗ cred (tallyAt (kcell (c, .inr k)) () n) ∗ atPos ER (kcell (c, .inr k)) 0 ∅ 0
      ∗ ((∃ W', owes (c : Thread nD τ) O W') -∗ A -∗ atPos ER (kcell (c, .inr k)) 1 ∅ 0 -∗ Q ⟨⟩))
      ⊢ WP c (Prog.lift (.waitDma2 q src dst hsrc hdst)) Q := by
  subst hq; subst hn
  have key := Rounds.wp_wait_rest_token (Q := Q) (defs := defs₀ (F := F)) (Γ := .empty) (k := fun _ => .ret ⟨⟩) 𝒱₀ ER (sched m) (c : Thread nD τ) none (κ := K (c, .inr k))
    (wpE_waitDma2_eq 𝒱₀ (c : Thread nD τ) none Set.univ (sem := dsem k) (src := src) (dst := dst) (hsrc := hsrc) (hdst := hdst)) (Set.mem_univ _) () (O := O) (W := W) (R := 0) (m := 0) (T := ∅)
    (by rw [Nat.zero_add, hN]; exact (expect_one m c (.inr k) d hd).symm)
  have hpay : bigSep ((sched (F := F) m).duties ((c : Thread nD τ), SemLoc.dma (dsem k)) 0 \ ∅) (fun d => (sched (F := F) m).payload ((c : Thread nD τ), SemLoc.dma (dsem k)) 0 d) ⊢ A :=
    (Entails.of_eq (rest_one m c (.inr k) d hd)).trans hA
  have hmw : recs m K ⊢ MayWait (c : Thread nD τ) (SemLoc.dma (dsem k)) () O :=
    recs_wait m K c (csem (.inr k)) b ((lv_kcell (c, .inr k) ()).le.trans hb) O hO
  have hat : (atPos ER ((c : Thread nD τ), SemLoc.dma (dsem k)) (0 + 1) ∅ 0 : sProp 𝕄) ⊢ atPos ER (kcell (c, .inr k)) 1 ∅ 0 := .rfl
  rw [hN] at key
  iintro ⟨#HR, HO, Hc, Ha, Hk⟩
  iapply key $$ [HO Hc Ha]
  · isplitr; · iapply (recs_inv m K (c, .inr k)); iexact HR
    isplitl [Hc]; · iexact Hc
    isplitl [HO]; · iexact HO
    isplitr; · iapply hmw; iexact HR
    iexact Ha
  iintro ⟨HO, Ha, -, Hp⟩
  rw [wp_ret]; imodintro
  ihave Hp := hpay $$ Hp
  ihave Ha := hat $$ Ha
  iapply Hk $$ [HO] Hp Ha
  iexists _; iexact HO

/-- A copy within the device, paying a cell with its landing and its source. -/
theorem copy_loc (k : Fin 5) (q : DmaSem sig) (hq : dsem (dLoc k) = q) {s : Shape} {e : EltTy} (src : Memref sig .tc .hbm s e) (dst : Memref sig .tc .vmem s e)
    (hsrc : src.view.WordExact) (hdst : dst.view.WordExact) (hsem : DmaTarget.Typed (nD := nD) (p := .tc) .hbm (.dma q) (.here dst))
    (fs : Buf (Elt F) (src.view.loc (c : Thread nD τ))) (fd : Buf (Elt F) (dst.view.loc (c : Thread nD τ)))
    (hN : dst.view.dmaCredit = locN k)
    (hpay : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ locPay m c k) (Q : PUnit → sProp 𝕄) :
    iprop(recs m K ∗ (src.view.loc (c : Thread nD τ) ↦[src.view.set]{fullShare} fs) ∗ (dst.view.loc (c : Thread nD τ) ↦[dst.view.set]{fullShare} fd)
      ∗ dutyTok ER (kcell (c, kLoc k)) 0 c ∗ (cred (tallyAt (kcell (c, kLoc k)) () (locN k)) -∗ Q ⟨⟩))
      ⊢ WP c (Prog.lift (.enqueueDma src (.here dst) (.dma q) hsrc hdst hsem)) Q := by
  subst hq
  have hcr : (cred (tallyAt ((c : Thread nD τ), SemLoc.dma (dsem (dLoc k))) () (locN k)) : sProp 𝕄) ⊢ cred (tallyAt (kcell (c, kLoc k)) () (locN k)) := .rfl
  have key := Rounds.wp_copy_pointsTo (Q := Q) (defs := defs₀ (F := F)) (Γ := .empty) (k := fun _ => .ret ⟨⟩) 𝒱₀ ER (sched m) (c : Thread nD τ) none (κ := K (c, kLoc k))
    (src := src) (dst := dst) (sem := .dma (dsem (dLoc k))) (hsrc := hsrc) (hdst := hdst) (hsem := hsem) (q := fullShare) (fs := fs) (fd := fd) (r := 0) (d := c) (Es := Set.univ)
    ((duties_eq m c (kLoc k)).symm ▸ Finset.mem_singleton_self c : c ∈ (sched m).duties (kcell (c, kLoc k)) 0) () (locN k) hN
    (amount_eq m c (kLoc k) 0 c) (hpay.trans (Entails.of_eq (payload_eq m c (kLoc k) 0 c).symm))
  iintro ⟨#HR, Hs, Hd, Ht, Hk⟩
  iapply key $$ [Hs Hd Ht]
  · isplitr; · iapply (recs_inv m K (c, kLoc k)); iexact HR
    isplitl [Hs]; · iexact Hs
    isplitl [Hd]; · iexact Hd
    isplitl [Ht]; · iexact Ht
    iapply (recs_reached m K (c, kLoc k)); iexact HR
  iintro Hc
  rw [wp_ret]; imodintro
  ihave Hc := hcr $$ Hc
  iapply Hk; iexact Hc

/-- A copy to another device, paying our send cell with its source and the device's receive cell with its landing. -/
theorem send_rem (j : Dev nD) (ks kr : DK) (h₁ : duK c (.inr ks) = {c}) (h₂ : duK j (.inr kr) = {c}) (a₁ : amK (.inr ks) = N) (a₂ : amK (.inr kr) = N)
    (src dst : Memref sig .tc .vmem S8x512 .bf16) (hsrc : src.view.WordExact) (hdst : dst.view.WordExact) (qs qr : DmaSem sig) (hqs : dsem ks = qs) (hqr : dsem kr = qr)
    (hsem : DmaTarget.Typed (nD := nD) (p := .tc) .vmem (.dma qr) (.remote (Dev.tc j) dst (.dma qs)))
    (q : PosShare TreeShare) (A B : sProp 𝕄) (fs : Buf (Elt F) (src.view.loc (c : Thread nD τ))) (fd : Buf (Elt F) (dst.view.loc (j : Thread nD τ)))
    (hN : dst.view.dmaCredit = N) (O O' : CellTallies nD τ sig Unit) (hO : O = O' + tallyAt (kcell (j, .inr kr)) () N)
    (hA : A ⊢ (src.view.loc (c : Thread nD τ) ↦[src.view.set]{q} fs)) (hB : B ⊢ (dst.view.loc (j : Thread nD τ) ↦[dst.view.set]{fullShare} fd))
    (hp₁ : (src.view.loc (c : Thread nD τ) ↦[src.view.set]{q} fs) ⊢ payK m c (.inr ks) c)
    (hp₂ : (dst.view.loc (j : Thread nD τ) ↦[dst.view.set]{fullShare} (dst.view.write (Elt F) fd (src.view.read (Elt F) fs) Finset.univ)) ⊢ payK m j (.inr kr) c)
    (W : Waits sig Unit) (Q : PUnit → sProp 𝕄) :
    iprop(recs m K ∗ owes (c : Thread nD τ) O W ∗ A ∗ B
      ∗ dutyTok ER (kcell (c, .inr ks)) 0 c ∗ dutyTok ER (kcell (j, .inr kr)) 0 c
      ∗ ((∃ W', owes (c : Thread nD τ) O' W') -∗ cred (tallyAt (kcell (c, .inr ks)) () N) -∗ Q ⟨⟩))
      ⊢ WP c (Prog.lift (.enqueueDma src (.remote (Dev.tc j) dst (.dma qs)) (.dma qr) hsrc hdst hsem)) Q := by
  subst hqs; subst hqr
  have hcr : (cred (tallyAt ((c : Thread nD τ), SemLoc.dma (dsem ks)) () N) : sProp 𝕄) ⊢ cred (tallyAt (kcell (c, .inr ks)) () N) := .rfl
  have key := Rounds.wp_send_pointsTo (Q := Q) (defs := defs₀ (F := F)) (Γ := .empty) (k := fun _ => .ret ⟨⟩) 𝒱₀ ER (sched m) (c : Thread nD τ) none (κ₁ := K (c, .inr ks)) (κ₂ := K (j, .inr kr))
    (c' := (j : Thread nD τ)) (src := src) (dst := dst) (sS := .dma (dsem ks)) (sem := .dma (dsem kr)) (hsc := rfl) (hsrc := hsrc) (hdst := hdst) (hsem := hsem) (q := q) (fs := fs) (fd := fd)
    (r₁ := 0) (r₂ := 0) (d₁ := c) (d₂ := c) (Es := Set.univ) (W := W)
    (((duties_eq m c (.inr ks)).trans h₁).symm ▸ Finset.mem_singleton_self c : c ∈ (sched m).duties (kcell (c, .inr ks)) 0)
    (((duties_eq m j (.inr kr)).trans h₂).symm ▸ Finset.mem_singleton_self c : c ∈ (sched m).duties (kcell (j, .inr kr)) 0)
    () () N hN ((amount_eq m c (.inr ks) 0 c).trans a₁) ((amount_eq m j (.inr kr) 0 c).trans a₂) O' hO
    (hp₁.trans (Entails.of_eq (payload_eq m c (.inr ks) 0 c).symm)) (hp₂.trans (Entails.of_eq (payload_eq m j (.inr kr) 0 c).symm))
  iintro ⟨#HR, HO, Hs, Hd, Ht₁, Ht₂, Hk⟩
  iapply key $$ [HO Hs Hd Ht₁ Ht₂]
  · isplitr; · iapply (recs_inv m K (c, .inr ks)); iexact HR
    isplitr; · iapply (recs_inv m K (j, .inr kr)); iexact HR
    isplitl [Hs]; · iapply hA; iexact Hs
    isplitl [Hd]; · iapply hB; iexact Hd
    isplitl [HO]; · iexact HO
    isplitl [Ht₁]; · iexact Ht₁
    isplitr; · iapply (recs_reached m K (c, .inr ks)); iexact HR
    isplitl [Ht₂]; · iexact Ht₂
    iapply (recs_reached m K (j, .inr kr)); iexact HR
  iintro ⟨Hc, HO⟩
  rw [wp_ret]; imodintro
  ihave Hc := hcr $$ Hc
  iapply Hk $$ [HO] Hc
  iexists W; iexact HO

/-! What each loop's step takes and leaves. -/
abbrev ΨB (c o : Dev nD) : sProp 𝕄 := iprop(slots c (shift c o) ∗ dutyTok ER (kcell (shift c o, kBar)) 0 c)
abbrev ΨS1 (c j : Dev nD) : sProp 𝕄 := iprop(rowPt c j (accbV m c) ∗ (∃ f, commPt j c f) ∗ dutyTok ER (kcell (c, kS1 j)) 0 c ∗ dutyTok ER (kcell (j, kR1 c)) 0 c)
abbrev ΨS1' (c j : Dev nD) : sProp 𝕄 := cred (tallyAt (kcell (c, kS1 j)) () N)
abbrev ΨR1 (c j : Dev nD) : sProp 𝕄 := iprop(cred (tallyAt (kcell (c, kR1 j)) () N) ∗ atPos ER (kcell (c, kR1 j)) 0 ∅ 0)
abbrev ΨR1' (c j : Dev nD) : sProp 𝕄 := iprop(commPt c j (commV m c) ∗ atPos ER (kcell (c, kR1 j)) 1 ∅ 0)
abbrev ΨS2 (c j : Dev nD) : sProp 𝕄 := iprop(redPt c j (redV m c) ∗ (∃ f, gatPt j c f) ∗ dutyTok ER (kcell (c, kS2 j)) 0 c ∗ dutyTok ER (kcell (j, kR2 c)) 0 c)
abbrev ΨS2' (c j : Dev nD) : sProp 𝕄 := cred (tallyAt (kcell (c, kS2 j)) () N)
abbrev ΨR2 (c j : Dev nD) : sProp 𝕄 := iprop(cred (tallyAt (kcell (c, kR2 j)) () N) ∗ atPos ER (kcell (c, kR2 j)) 0 ∅ 0)
abbrev ΨR2' (c j : Dev nD) : sProp 𝕄 := iprop(gatPt c j (gatV m) ∗ atPos ER (kcell (c, kR2 j)) 1 ∅ 0)
abbrev ΨF (c j : Dev nD) : sProp 𝕄 :=
  iprop((cred (tallyAt (kcell (c, kS1 j)) () N) ∗ atPos ER (kcell (c, kS1 j)) 0 ∅ 0) ∗ (cred (tallyAt (kcell (c, kS2 j)) () N) ∗ atPos ER (kcell (c, kS2 j)) 0 ∅ 0))
abbrev ΨF' (c j : Dev nD) : sProp 𝕄 :=
  iprop((rowPt c j (accbV m c) ∗ atPos ER (kcell (c, kS1 j)) 1 ∅ 0) ∗ (redPt c j (redV m c) ∗ atPos ER (kcell (c, kS2 j)) 1 ∅ 0))

theorem land_comm (j : Dev nD) (f : Vec F S32x8x512 .bf16) :
    ((commSlot c).view.loc (j : Thread nD τ) ↦[(commSlot c).view.set]{fullShare}
      ((commSlot c).view.write (Elt F) f ((abRow j).view.read (Elt F) (accbV m c)) Finset.univ) : sProp 𝕄) ⊢ commPt j c (commV m j) :=
  Entails.of_eq (pointsTo_congr (fun i hi => comm_landed m c j f i hi))
theorem land_gat (j : Dev nD) (f : Vec F S32x8x512 .bf16) :
    ((gatSlot c).view.loc (j : Thread nD τ) ↦[(gatSlot c).view.set]{fullShare}
      ((gatSlot c).view.write (Elt F) f (redM.view.read (Elt F) (redV m c)) Finset.univ) : sProp 𝕄) ⊢ gatPt j c (gatV m) :=
  Entails.of_eq (pointsTo_congr (fun i hi => gat_landed m c f i hi))

theorem send1_run (j : Dev nD) (h : c ≠ j) (W) (Q : PUnit → sProp 𝕄) :
    iprop(recs m K ∗ owes (c : Thread nD τ) (O1n c j.val) W ∗ ΨS1 m c j ∗ ((∃ W', owes (c : Thread nD τ) (O1n c (j.val + 1)) W') -∗ ΨS1' (F := F) c j -∗ Q ⟨⟩))
      ⊢ WP c (send1Blk c j) Q := by
  unfold send1Blk; rw [if_pos h]
  iintro ⟨#HR, HO, ⟨Hs, ⟨%f, Hd⟩, Ht₁, Ht₂⟩, Hk⟩
  iapply (send_rem m K c j (dS1 j) (dR1 c) (duK_S1 c h) (duK_R1 j (Ne.symm h)) rfl rfl (abRow j) (commSlot c) (exact_row j) (exact_comm c) _ _ rfl rfl ⟨⟨rfl, Or.inl rfl⟩, trivial⟩ fullShare (rowPt c j (accbV m c)) (commPt j c f) (accbV m c) f
    (N_comm c) (O1n c j.val) (O1n c (j.val + 1)) (O1n_step c h) .rfl .rfl .rfl (land_comm m c j f) W Q)
  isplitr; · iexact HR
  isplitl [HO]; · iexact HO
  isplitl [Hs]; · iexact Hs
  isplitl [Hd]; · iexact Hd
  isplitl [Ht₁]; · iexact Ht₁
  isplitl [Ht₂]; · iexact Ht₂
  iexact Hk

theorem send2_run (j : Dev nD) (h : c ≠ j) (W) (Q : PUnit → sProp 𝕄) :
    iprop(recs m K ∗ owes (c : Thread nD τ) (O2n c j.val) W ∗ ΨS2 m c j ∗ ((∃ W', owes (c : Thread nD τ) (O2n c (j.val + 1)) W') -∗ ΨS2' (F := F) c j -∗ Q ⟨⟩))
      ⊢ WP c (send2Blk c j) Q := by
  unfold send2Blk; rw [if_pos h]
  iintro ⟨#HR, HO, ⟨Hs, ⟨%f, Hd⟩, Ht₁, Ht₂⟩, Hk⟩
  iapply (send_rem m K c j (dS2 j) (dR2 c) (duK_S2 c h) (duK_R2 j (Ne.symm h)) rfl rfl redM (gatSlot c) exact_red (exact_gat c) _ _ rfl rfl ⟨⟨rfl, Or.inl rfl⟩, trivial⟩ (ShareLeaves.leaf 5 fullShare j) (redPt c j (redV m c)) (gatPt j c f) (redV m c) f
    (N_gat c) (O2n c j.val) (O2n c (j.val + 1)) (O2n_step c h) .rfl .rfl .rfl (land_gat m c j f) W Q)
  isplitr; · iexact HR
  isplitl [HO]; · iexact HO
  isplitl [Hs]; · iexact Hs
  isplitl [Hd]; · iexact Hd
  isplitl [Ht₁]; · iexact Ht₁
  isplitl [Ht₂]; · iexact Ht₂
  iexact Hk

theorem recv1_run (j : Dev nD) (h : c ≠ j) (W) (Q : PUnit → sProp 𝕄) :
    iprop(recs m K ∗ owes (c : Thread nD τ) (O2 c (others c)) W ∗ ΨR1 c j ∗ ((∃ W', owes (c : Thread nD τ) (O2 c (others c)) W') -∗ ΨR1' m c j -∗ Q ⟨⟩))
      ⊢ WP c (recv1Blk c j) Q := by
  unfold recv1Blk; rw [if_pos h]
  iintro ⟨#HR, HO, ⟨Hc, Ha⟩, Hk⟩
  iapply (wait_dma m K c (dR1 j) j (duK_R1 c h) _ rfl (commPt c j (commV m c)) .rfl (abRow 0) (commSlot j) (exact_row 0) (exact_comm j) N (N_comm j) rfl 2 (Nat.le_refl _) _ (owesTo_O2 c _ (by decide)) W Q)
  isplitr; · iexact HR
  isplitl [HO]; · iexact HO
  isplitl [Hc]; · iexact Hc
  isplitl [Ha]; · iexact Ha
  iintro HO Hp Ha
  iapply Hk $$ HO
  isplitl [Hp]; · iexact Hp
  iexact Ha

theorem recv2_run (j : Dev nD) (h : c ≠ j) (W) (Q : PUnit → sProp 𝕄) :
    iprop(recs m K ∗ owes (c : Thread nD τ) 0 W ∗ ΨR2 c j ∗ ((∃ W', owes (c : Thread nD τ) 0 W') -∗ ΨR2' m c j -∗ Q ⟨⟩))
      ⊢ WP c (recv2Blk c j) Q := by
  unfold recv2Blk; rw [if_pos h]
  iintro ⟨#HR, HO, ⟨Hc, Ha⟩, Hk⟩
  iapply (wait_dma m K c (dR2 j) j (duK_R2 c h) _ rfl (gatPt c j (gatV m)) .rfl redM (gatSlot j) exact_red (exact_gat j) N (N_gat j) rfl 3 (Nat.le_refl _) _ (owesTo_zero _) W Q)
  isplitr; · iexact HR
  isplitl [HO]; · iexact HO
  isplitl [Hc]; · iexact Hc
  isplitl [Ha]; · iexact Ha
  iintro HO Hp Ha
  iapply Hk $$ HO
  isplitl [Hp]; · iexact Hp
  iexact Ha

theorem fin_run (j : Dev nD) (h : c ≠ j) (W) (Q : PUnit → sProp 𝕄) :
    iprop(recs m K ∗ owes (c : Thread nD τ) 0 W ∗ ΨF c j ∗ ((∃ W', owes (c : Thread nD τ) 0 W') -∗ ΨF' m c j -∗ Q ⟨⟩))
      ⊢ WP c (finBlk c j) Q := by
  unfold finBlk; rw [if_pos h]; unfold WP; rw [wp_bind]
  iintro ⟨#HR, HO, ⟨⟨Hc₁, Ha₁⟩, Hc₂, Ha₂⟩, Hk⟩
  iapply (wait_dma m K c (dS1 j) c (duK_S1 c h) _ rfl (rowPt c j (accbV m c)) .rfl (commSlot j) (abRow j) (exact_comm j) (exact_row j) N (N_row j) rfl 3 (Nat.zero_le _) _ (owesTo_zero _) W _)
  isplitr; · iexact HR
  isplitl [HO]; · iexact HO
  isplitl [Hc₁]; · iexact Hc₁
  isplitl [Ha₁]; · iexact Ha₁
  iintro ⟨%W', HO⟩ Hp₁ Ha₁
  iapply (wait_dma m K c (dS2 j) c (duK_S2 c h) _ rfl (redPt c j (redV m c)) .rfl (gatSlot j) redM (exact_gat j) exact_red N N_red rfl 3 (Nat.zero_le _) _ (owesTo_zero _) W' Q)
  isplitr; · iexact HR
  isplitl [HO]; · iexact HO
  isplitl [Hc₂]; · iexact Hc₂
  isplitl [Ha₂]; · iexact Ha₂
  iintro HO Hp₂ Ha₂
  iapply Hk $$ HO
  isplitl [Hp₁ Ha₁]
  · isplitl [Hp₁]; · iexact Hp₁
    iexact Ha₁
  · isplitl [Hp₂]; · iexact Hp₂
    iexact Ha₂

/-- The handshake's wait: every other device's slots for us. -/
theorem wait_bar (W : Waits sig Unit) (Q : PUnit → sProp 𝕄) :
    iprop(recs m K ∗ owes (c : Thread nD τ) (O1 c (others c) + O2 c (others c)) W ∗ cred (tallyAt (kcell (c, kBar)) () 31) ∗ atPos ER (kcell (c, kBar)) 0 ∅ 0
      ∗ ((∃ W', owes (c : Thread nD τ) (O1 c (others c) + O2 c (others c)) W') -∗ bigSep (others c) (fun d => slots d c) -∗ atPos ER (kcell (c, kBar)) 1 ∅ 0 -∗ Q ⟨⟩))
      ⊢ WP c (semWaitWord barS 31#32) Q := by
  have he : (sched (F := F) m).expect (kcell (c, kBar)) 0 = 31 := by
    rw [expect_eq]; show (Finset.univ.erase c).card * 1 = 31; rw [Finset.card_erase_of_mem (Finset.mem_univ _)]; rfl
  have key := Rounds.wp_wait_rest_token (Q := Q) (defs := defs₀ (F := F)) (Γ := .empty) (k := fun _ => .ret ⟨⟩) 𝒱₀ ER (sched m) (c : Thread nD τ) none (κ := K (c, kBar))
    (wpE_semWait_eq 𝒱₀ (c : Thread nD τ) none Set.univ (sem := barS) (k := 31)) (Set.mem_univ _) () (O := O1 c (others c) + O2 c (others c)) (W := W) (R := 0) (m := 0) (T := ∅)
    (by rw [Nat.zero_add]; exact he.symm)
  have hpay : bigSep ((sched (F := F) m).duties ((c : Thread nD τ), SemLoc.reg barS) 0 \ ∅) (fun d => (sched (F := F) m).payload ((c : Thread nD τ), SemLoc.reg barS) 0 d) ⊢ bigSep (others c) (fun d => slots d c) := by
    refine Entails.of_eq ?_
    show bigSep ((sched (F := F) m).duties (kcell (c, kBar)) 0 \ ∅) (fun d => (sched (F := F) m).payload (kcell (c, kBar)) 0 d) = _
    rw [Finset.sdiff_empty, duties_eq, show duK c kBar = others c from Finset.ext fun d => by simp [duK, eq_comm]]
    exact congrArg _ (funext fun d => payload_eq m c kBar 0 d)
  have hat : (atPos ER ((c : Thread nD τ), SemLoc.reg barS) (0 + 1) ∅ 0 : sProp 𝕄) ⊢ atPos ER (kcell (c, kBar)) 1 ∅ 0 := .rfl
  have hmw : recs m K ⊢ MayWait (c : Thread nD τ) (SemLoc.reg barS) () (O1 c (others c) + O2 c (others c)) :=
    recs_wait m K c (csem kBar) 1 (lv_kcell (c, kBar) ()).le _ (owesTo_add (owesTo_O1 c _ (by decide)) (owesTo_O2 c _ (by decide)))
  iintro ⟨#HR, HO, Hc, Ha, Hk⟩
  iapply key $$ [HO Hc Ha]
  · isplitr; · iapply (recs_inv m K (c, kBar)); iexact HR
    isplitl [Hc]; · iexact Hc
    isplitl [HO]; · iexact HO
    isplitr; · iapply hmw; iexact HR
    iexact Ha
  iintro ⟨HO, Ha, -, Hp⟩
  rw [wp_ret]; imodintro
  ihave Hp := hpay $$ Hp
  ihave Ha := hat $$ Ha
  iapply Hk $$ [HO] Hp Ha
  iexists _; iexact HO

end Steps

end Cert.KProof
-- ==== Proof.Parts.lean ====
/-
# Each printed part as a run of its loop's steps
-/
module

public import proofs.«01_k».proof.Proof.Blocks

@[expose] public section

set_option backward.proofsInPublic true

noncomputable section

namespace Cert.KProof

open Cert.KernelIdeal Cert.KernelIdeal.Gen Idealize.ShloMosaic Idealize.SL.Sem

variable {F : FTy → Type} [FloatOps F]

set_option maxHeartbeats 800000 in
/-- Part 23 of the kernel is the chain of its blocks 3 to 12. -/
theorem part23_eq (c : Dev nD) (v : BitVec 32) :
    appl (k0_part23 (F := F)) c v = seqK (send1Blk c) [3, 4, 5, 6, 7, 8, 9, 10, 11, 12] (pure ⟨⟩) := by
  rw [k0_part23_eq_skeleton]; unfold k0_part23_skel
  refine send1_step c 3 (p := k0_cond4 c = 1#1) (by revert c; decide +kernel) _ _ _ _ _ _ _ rfl ClosedOff.eq ClosedOff.eq rfl (by decide +kernel) ?_
  refine send1_step c 4 (p := k0_cond5 c = 1#1) (by revert c; decide +kernel) _ _ _ _ _ _ _ rfl ClosedOff.eq ClosedOff.eq rfl (by decide +kernel) ?_
  refine send1_step c 5 (p := k0_cond6 c = 1#1) (by revert c; decide +kernel) _ _ _ _ _ _ _ rfl ClosedOff.eq ClosedOff.eq rfl (by decide +kernel) ?_
  refine send1_step c 6 (p := k0_cond7 c = 1#1) (by revert c; decide +kernel) _ _ _ _ _ _ _ rfl ClosedOff.eq ClosedOff.eq rfl (by decide +kernel) ?_
  refine send1_step c 7 (p := k0_cond8 c = 1#1) (by revert c; decide +kernel) _ _ _ _ _ _ _ rfl ClosedOff.eq ClosedOff.eq rfl (by decide +kernel) ?_
  refine send1_step c 8 (p := k0_cond9 c = 1#1) (by revert c; decide +kernel) _ _ _ _ _ _ _ rfl ClosedOff.eq ClosedOff.eq rfl (by decide +kernel) ?_
  refine send1_step c 9 (p := k0_cond10 c = 1#1) (by revert c; decide +kernel) _ _ _ _ _ _ _ rfl ClosedOff.eq ClosedOff.eq rfl (by decide +kernel) ?_
  refine send1_step c 10 (p := k0_cond11 c = 1#1) (by revert c; decide +kernel) _ _ _ _ _ _ _ rfl ClosedOff.eq ClosedOff.eq rfl (by decide +kernel) ?_
  refine send1_step c 11 (p := k0_cond12 c = 1#1) (by revert c; decide +kernel) _ _ _ _ _ _ _ rfl ClosedOff.eq ClosedOff.eq rfl (by decide +kernel) ?_
  refine send1_step c 12 (p := k0_cond13 c = 1#1) (by revert c; decide +kernel) _ _ _ _ _ _ _ rfl ClosedOff.eq ClosedOff.eq rfl (by decide +kernel) ?_
  rfl

set_option maxHeartbeats 800000 in
/-- Part 24 of the kernel is the chain of its blocks 13 to 22. -/
theorem part24_eq (c : Dev nD) (v : BitVec 32) :
    appl (k0_part24 (F := F)) c v = seqK (send1Blk c) [13, 14, 15, 16, 17, 18, 19, 20, 21, 22] (pure ⟨⟩) := by
  rw [k0_part24_eq_skeleton]; unfold k0_part24_skel
  refine send1_step c 13 (p := k0_cond14 c = 1#1) (by revert c; decide +kernel) _ _ _ _ _ _ _ rfl ClosedOff.eq ClosedOff.eq rfl (by decide +kernel) ?_
  refine send1_step c 14 (p := k0_cond15 c = 1#1) (by revert c; decide +kernel) _ _ _ _ _ _ _ rfl ClosedOff.eq ClosedOff.eq rfl (by decide +kernel) ?_
  refine send1_step c 15 (p := k0_cond16 c = 1#1) (by revert c; decide +kernel) _ _ _ _ _ _ _ rfl ClosedOff.eq ClosedOff.eq rfl (by decide +kernel) ?_
  refine send1_step c 16 (p := k0_cond17 c = 1#1) (by revert c; decide +kernel) _ _ _ _ _ _ _ rfl ClosedOff.eq ClosedOff.eq rfl (by decide +kernel) ?_
  refine send1_step c 17 (p := k0_cond18 c = 1#1) (by revert c; decide +kernel) _ _ _ _ _ _ _ rfl ClosedOff.eq ClosedOff.eq rfl (by decide +kernel) ?_
  refine send1_step c 18 (p := k0_cond19 c = 1#1) (by revert c; decide +kernel) _ _ _ _ _ _ _ rfl ClosedOff.eq ClosedOff.eq rfl (by decide +kernel) ?_
  refine send1_step c 19 (p := k0_cond20 c = 1#1) (by revert c; decide +kernel) _ _ _ _ _ _ _ rfl ClosedOff.eq ClosedOff.eq rfl (by decide +kernel) ?_
  refine send1_step c 20 (p := k0_cond21 c = 1#1) (by revert c; decide +kernel) _ _ _ _ _ _ _ rfl ClosedOff.eq ClosedOff.eq rfl (by decide +kernel) ?_
  refine send1_step c 21 (p := k0_cond22 c = 1#1) (by revert c; decide +kernel) _ _ _ _ _ _ _ rfl ClosedOff.eq ClosedOff.eq rfl (by decide +kernel) ?_
  refine send1_step c 22 (p := k0_cond23 c = 1#1) (by revert c; decide +kernel) _ _ _ _ _ _ _ rfl ClosedOff.eq ClosedOff.eq rfl (by decide +kernel) ?_
  rfl

set_option maxHeartbeats 800000 in
/-- Part 25 sends the last blocks and takes the first. -/
theorem part25_eq (c : Dev nD) :
    appl (k0_part25 (F := F)) c (mpw c) = seqK (send1Blk c) [23, 24, 25, 26, 27, 28, 29, 30, 31] (seqK (recv1Blk c) [0] (pure (neB c 1#32))) := by
  rw [k0_part25_eq_skeleton]; unfold k0_part25_skel
  refine send1_step c 23 (p := k0_cond24 c = 1#1) (by revert c; decide +kernel) _ _ _ _ _ _ _ rfl ClosedOff.eq ClosedOff.eq rfl (by decide +kernel) ?_
  refine send1_step c 24 (p := k0_cond25 c = 1#1) (by revert c; decide +kernel) _ _ _ _ _ _ _ rfl ClosedOff.eq ClosedOff.eq rfl (by decide +kernel) ?_
  refine send1_step c 25 (p := k0_cond26 c = 1#1) (by revert c; decide +kernel) _ _ _ _ _ _ _ rfl ClosedOff.eq ClosedOff.eq rfl (by decide +kernel) ?_
  refine send1_step c 26 (p := k0_cond27 c = 1#1) (by revert c; decide +kernel) _ _ _ _ _ _ _ rfl ClosedOff.eq ClosedOff.eq rfl (by decide +kernel) ?_
  refine send1_step c 27 (p := k0_cond28 c = 1#1) (by revert c; decide +kernel) _ _ _ _ _ _ _ rfl ClosedOff.eq ClosedOff.eq rfl (by decide +kernel) ?_
  refine send1_step c 28 (p := k0_cond29 c = 1#1) (by revert c; decide +kernel) _ _ _ _ _ _ _ rfl ClosedOff.eq ClosedOff.eq rfl (by decide +kernel) ?_
  refine send1_step c 29 (p := k0_cond30 c = 1#1) (by revert c; decide +kernel) _ _ _ _ _ _ _ rfl ClosedOff.eq ClosedOff.eq rfl (by decide +kernel) ?_
  refine send1_step c 30 (p := k0_cond31 c = 1#1) (by revert c; decide +kernel) _ _ _ _ _ _ _ rfl ClosedOff.eq ClosedOff.eq rfl (by decide +kernel) ?_
  refine send1_step c 31 (p := k0_cond32 c = 1#1) (by revert c; decide +kernel) _ _ _ _ _ _ _ rfl ClosedOff.eq ClosedOff.eq rfl (by decide +kernel) ?_
  refine recv1_step c 0 (p := neB c 0#32 = 1#1) (neB_iff 0#32 0 (by decide +kernel) c) _ _ _ _ _ rfl rfl ?_
  rfl

set_option maxHeartbeats 800000 in
/-- Part 26 of the kernel is the chain of its blocks 1 to 10. -/
theorem part26_eq (c : Dev nD) :
    appl (k0_part26 (F := F)) (mpw c) (neB c 1#32) = seqK (recv1Blk c) [1, 2, 3, 4, 5, 6, 7, 8, 9, 10] (pure (neB c 11#32)) := by
  rw [k0_part26_eq_skeleton]; unfold k0_part26_skel
  refine recv1_step c 1 (p := neB c 1#32 = 1#1) (neB_iff 1#32 1 (by decide +kernel) c) _ _ _ _ _ rfl rfl ?_
  refine recv1_step c 2 (p := neB c 2#32 = 1#1) (neB_iff 2#32 2 (by decide +kernel) c) _ _ _ _ _ rfl rfl ?_
  refine recv1_step c 3 (p := neB c 3#32 = 1#1) (neB_iff 3#32 3 (by decide +kernel) c) _ _ _ _ _ rfl rfl ?_
  refine recv1_step c 4 (p := neB c 4#32 = 1#1) (neB_iff 4#32 4 (by decide +kernel) c) _ _ _ _ _ rfl rfl ?_
  refine recv1_step c 5 (p := neB c 5#32 = 1#1) (neB_iff 5#32 5 (by decide +kernel) c) _ _ _ _ _ rfl rfl ?_
  refine recv1_step c 6 (p := neB c 6#32 = 1#1) (neB_iff 6#32 6 (by decide +kernel) c) _ _ _ _ _ rfl rfl ?_
  refine recv1_step c 7 (p := neB c 7#32 = 1#1) (neB_iff 7#32 7 (by decide +kernel) c) _ _ _ _ _ rfl rfl ?_
  refine recv1_step c 8 (p := neB c 8#32 = 1#1) (neB_iff 8#32 8 (by decide +kernel) c) _ _ _ _ _ rfl rfl ?_
  refine recv1_step c 9 (p := neB c 9#32 = 1#1) (neB_iff 9#32 9 (by decide +kernel) c) _ _ _ _ _ rfl rfl ?_
  refine recv1_step c 10 (p := neB c 10#32 = 1#1) (neB_iff 10#32 10 (by decide +kernel) c) _ _ _ _ _ rfl rfl ?_
  rfl

set_option maxHeartbeats 800000 in
/-- Part 27 of the kernel is the chain of its blocks 11 to 20. -/
theorem part27_eq (c : Dev nD) :
    appl (k0_part27 (F := F)) (mpw c) (neB c 11#32) = seqK (recv1Blk c) [11, 12, 13, 14, 15, 16, 17, 18, 19, 20] (pure (neB c 21#32)) := by
  rw [k0_part27_eq_skeleton]; unfold k0_part27_skel
  refine recv1_step c 11 (p := neB c 11#32 = 1#1) (neB_iff 11#32 11 (by decide +kernel) c) _ _ _ _ _ rfl rfl ?_
  refine recv1_step c 12 (p := neB c 12#32 = 1#1) (neB_iff 12#32 12 (by decide +kernel) c) _ _ _ _ _ rfl rfl ?_
  refine recv1_step c 13 (p := neB c 13#32 = 1#1) (neB_iff 13#32 13 (by decide +kernel) c) _ _ _ _ _ rfl rfl ?_
  refine recv1_step c 14 (p := neB c 14#32 = 1#1) (neB_iff 14#32 14 (by decide +kernel) c) _ _ _ _ _ rfl rfl ?_
  refine recv1_step c 15 (p := neB c 15#32 = 1#1) (neB_iff 15#32 15 (by decide +kernel) c) _ _ _ _ _ rfl rfl ?_
  refine recv1_step c 16 (p := neB c 16#32 = 1#1) (neB_iff 16#32 16 (by decide +kernel) c) _ _ _ _ _ rfl rfl ?_
  refine recv1_step c 17 (p := neB c 17#32 = 1#1) (neB_iff 17#32 17 (by decide +kernel) c) _ _ _ _ _ rfl rfl ?_
  refine recv1_step c 18 (p := neB c 18#32 = 1#1) (neB_iff 18#32 18 (by decide +kernel) c) _ _ _ _ _ rfl rfl ?_
  refine recv1_step c 19 (p := neB c 19#32 = 1#1) (neB_iff 19#32 19 (by decide +kernel) c) _ _ _ _ _ rfl rfl ?_
  refine recv1_step c 20 (p := neB c 20#32 = 1#1) (neB_iff 20#32 20 (by decide +kernel) c) _ _ _ _ _ rfl rfl ?_
  rfl

set_option maxHeartbeats 800000 in
/-- Part 28 of the kernel is the chain of its blocks 21 to 30. -/
theorem part28_eq (c : Dev nD) :
    appl (k0_part28 (F := F)) (mpw c) (neB c 21#32) = seqK (recv1Blk c) [21, 22, 23, 24, 25, 26, 27, 28, 29, 30] (pure (neB c 31#32)) := by
  rw [k0_part28_eq_skeleton]; unfold k0_part28_skel
  refine recv1_step c 21 (p := neB c 21#32 = 1#1) (neB_iff 21#32 21 (by decide +kernel) c) _ _ _ _ _ rfl rfl ?_
  refine recv1_step c 22 (p := neB c 22#32 = 1#1) (neB_iff 22#32 22 (by decide +kernel) c) _ _ _ _ _ rfl rfl ?_
  refine recv1_step c 23 (p := neB c 23#32 = 1#1) (neB_iff 23#32 23 (by decide +kernel) c) _ _ _ _ _ rfl rfl ?_
  refine recv1_step c 24 (p := neB c 24#32 = 1#1) (neB_iff 24#32 24 (by decide +kernel) c) _ _ _ _ _ rfl rfl ?_
  refine recv1_step c 25 (p := neB c 25#32 = 1#1) (neB_iff 25#32 25 (by decide +kernel) c) _ _ _ _ _ rfl rfl ?_
  refine recv1_step c 26 (p := neB c 26#32 = 1#1) (neB_iff 26#32 26 (by decide +kernel) c) _ _ _ _ _ rfl rfl ?_
  refine recv1_step c 27 (p := neB c 27#32 = 1#1) (neB_iff 27#32 27 (by decide +kernel) c) _ _ _ _ _ rfl rfl ?_
  refine recv1_step c 28 (p := neB c 28#32 = 1#1) (neB_iff 28#32 28 (by decide +kernel) c) _ _ _ _ _ rfl rfl ?_
  refine recv1_step c 29 (p := neB c 29#32 = 1#1) (neB_iff 29#32 29 (by decide +kernel) c) _ _ _ _ _ rfl rfl ?_
  refine recv1_step c 30 (p := neB c 30#32 = 1#1) (neB_iff 30#32 30 (by decide +kernel) c) _ _ _ _ _ rfl rfl ?_
  rfl

set_option maxHeartbeats 800000 in
/-- Part 30 of the kernel is the chain of its blocks 5 to 14. -/
theorem part30_eq (c : Dev nD) :
    appl (k0_part30 (F := F)) c (mpw c) (neW c 5#32) = seqK (send2Blk c) [5, 6, 7, 8, 9, 10, 11, 12, 13, 14] (pure (neW c 15#32)) := by
  rw [k0_part30_eq_skeleton]; unfold k0_part30_skel
  refine send2_step c 5 (p := k0_cond70 c = 1#1) (by revert c; decide +kernel) _ _ _ _ _ _ rfl ClosedOff.eq ClosedOff.eq (by decide +kernel) ?_
  refine send2_step c 6 (p := k0_cond71 c = 1#1) (by revert c; decide +kernel) _ _ _ _ _ _ rfl ClosedOff.eq ClosedOff.eq (by decide +kernel) ?_
  refine send2_step c 7 (p := k0_cond72 c = 1#1) (by revert c; decide +kernel) _ _ _ _ _ _ rfl ClosedOff.eq ClosedOff.eq (by decide +kernel) ?_
  refine send2_step c 8 (p := k0_cond73 c = 1#1) (by revert c; decide +kernel) _ _ _ _ _ _ rfl ClosedOff.eq ClosedOff.eq (by decide +kernel) ?_
  refine send2_step c 9 (p := k0_cond74 c = 1#1) (by revert c; decide +kernel) _ _ _ _ _ _ rfl ClosedOff.eq ClosedOff.eq (by decide +kernel) ?_
  refine send2_step c 10 (p := k0_cond75 c = 1#1) (by revert c; decide +kernel) _ _ _ _ _ _ rfl ClosedOff.eq ClosedOff.eq (by decide +kernel) ?_
  refine send2_step c 11 (p := k0_cond76 c = 1#1) (by revert c; decide +kernel) _ _ _ _ _ _ rfl ClosedOff.eq ClosedOff.eq (by decide +kernel) ?_
  refine send2_step c 12 (p := k0_cond77 c = 1#1) (by revert c; decide +kernel) _ _ _ _ _ _ rfl ClosedOff.eq ClosedOff.eq (by decide +kernel) ?_
  refine send2_step c 13 (p := k0_cond78 c = 1#1) (by revert c; decide +kernel) _ _ _ _ _ _ rfl ClosedOff.eq ClosedOff.eq (by decide +kernel) ?_
  refine send2_step c 14 (p := k0_cond79 c = 1#1) (by revert c; decide +kernel) _ _ _ _ _ _ rfl ClosedOff.eq ClosedOff.eq (by decide +kernel) ?_
  rfl

set_option maxHeartbeats 800000 in
/-- Part 31 of the kernel is the chain of its blocks 15 to 24. -/
theorem part31_eq (c : Dev nD) :
    appl (k0_part31 (F := F)) c (mpw c) (neW c 15#32) = seqK (send2Blk c) [15, 16, 17, 18, 19, 20, 21, 22, 23, 24] (pure (neW c 25#32)) := by
  rw [k0_part31_eq_skeleton]; unfold k0_part31_skel
  refine send2_step c 15 (p := k0_cond80 c = 1#1) (by revert c; decide +kernel) _ _ _ _ _ _ rfl ClosedOff.eq ClosedOff.eq (by decide +kernel) ?_
  refine send2_step c 16 (p := k0_cond81 c = 1#1) (by revert c; decide +kernel) _ _ _ _ _ _ rfl ClosedOff.eq ClosedOff.eq (by decide +kernel) ?_
  refine send2_step c 17 (p := k0_cond82 c = 1#1) (by revert c; decide +kernel) _ _ _ _ _ _ rfl ClosedOff.eq ClosedOff.eq (by decide +kernel) ?_
  refine send2_step c 18 (p := k0_cond83 c = 1#1) (by revert c; decide +kernel) _ _ _ _ _ _ rfl ClosedOff.eq ClosedOff.eq (by decide +kernel) ?_
  refine send2_step c 19 (p := k0_cond84 c = 1#1) (by revert c; decide +kernel) _ _ _ _ _ _ rfl ClosedOff.eq ClosedOff.eq (by decide +kernel) ?_
  refine send2_step c 20 (p := k0_cond85 c = 1#1) (by revert c; decide +kernel) _ _ _ _ _ _ rfl ClosedOff.eq ClosedOff.eq (by decide +kernel) ?_
  refine send2_step c 21 (p := k0_cond86 c = 1#1) (by revert c; decide +kernel) _ _ _ _ _ _ rfl ClosedOff.eq ClosedOff.eq (by decide +kernel) ?_
  refine send2_step c 22 (p := k0_cond87 c = 1#1) (by revert c; decide +kernel) _ _ _ _ _ _ rfl ClosedOff.eq ClosedOff.eq (by decide +kernel) ?_
  refine send2_step c 23 (p := k0_cond88 c = 1#1) (by revert c; decide +kernel) _ _ _ _ _ _ rfl ClosedOff.eq ClosedOff.eq (by decide +kernel) ?_
  refine send2_step c 24 (p := k0_cond89 c = 1#1) (by revert c; decide +kernel) _ _ _ _ _ _ rfl ClosedOff.eq ClosedOff.eq (by decide +kernel) ?_
  rfl

set_option maxHeartbeats 800000 in
/-- Part 32 sends the last blocks of the second round and takes the first three. -/
theorem part32_eq (c : Dev nD) :
    appl (k0_part32 (F := F)) c (mpw c) (neW c 25#32) = seqK (send2Blk c) [25, 26, 27, 28, 29, 30, 31] (seqK (recv2Blk c) [0, 1, 2] (pure (neW c 3#32))) := by
  rw [k0_part32_eq_skeleton]; unfold k0_part32_skel
  refine send2_step c 25 (p := k0_cond90 c = 1#1) (by revert c; decide +kernel) _ _ _ _ _ _ rfl ClosedOff.eq ClosedOff.eq (by decide +kernel) ?_
  refine send2_step c 26 (p := k0_cond91 c = 1#1) (by revert c; decide +kernel) _ _ _ _ _ _ rfl ClosedOff.eq ClosedOff.eq (by decide +kernel) ?_
  refine send2_step c 27 (p := k0_cond92 c = 1#1) (by revert c; decide +kernel) _ _ _ _ _ _ rfl ClosedOff.eq ClosedOff.eq (by decide +kernel) ?_
  refine send2_step c 28 (p := k0_cond93 c = 1#1) (by revert c; decide +kernel) _ _ _ _ _ _ rfl ClosedOff.eq ClosedOff.eq (by decide +kernel) ?_
  refine send2_step c 29 (p := k0_cond94 c = 1#1) (by revert c; decide +kernel) _ _ _ _ _ _ rfl ClosedOff.eq ClosedOff.eq (by decide +kernel) ?_
  refine send2_step c 30 (p := k0_cond95 c = 1#1) (by revert c; decide +kernel) _ _ _ _ _ _ rfl ClosedOff.eq ClosedOff.eq (by decide +kernel) ?_
  refine send2_step c 31 (p := k0_cond96 c = 1#1) (by revert c; decide +kernel) _ _ _ _ _ _ rfl ClosedOff.eq ClosedOff.eq (by decide +kernel) ?_
  refine recv2_step c 0 (p := neB c 0#32 = 1#1) (neB_iff 0#32 0 (by decide +kernel) c) _ _ _ _ rfl rfl ?_
  refine recv2_step c 1 (p := neB c 1#32 = 1#1) (neB_iff 1#32 1 (by decide +kernel) c) _ _ _ _ rfl rfl ?_
  refine recv2_step c 2 (p := neB c 2#32 = 1#1) (neB_iff 2#32 2 (by decide +kernel) c) _ _ _ _ rfl rfl ?_
  rfl

set_option maxHeartbeats 800000 in
/-- Part 33 of the kernel is the chain of its blocks 3 to 12. -/
theorem part33_eq (c : Dev nD) :
    appl (k0_part33 (F := F)) (mpw c) (neW c 3#32) = seqK (recv2Blk c) [3, 4, 5, 6, 7, 8, 9, 10, 11, 12] (pure (neW c 13#32)) := by
  rw [k0_part33_eq_skeleton]; unfold k0_part33_skel
  refine recv2_step c 3 (p := neB c 3#32 = 1#1) (neB_iff 3#32 3 (by decide +kernel) c) _ _ _ _ rfl rfl ?_
  refine recv2_step c 4 (p := neB c 4#32 = 1#1) (neB_iff 4#32 4 (by decide +kernel) c) _ _ _ _ rfl rfl ?_
  refine recv2_step c 5 (p := neB c 5#32 = 1#1) (neB_iff 5#32 5 (by decide +kernel) c) _ _ _ _ rfl rfl ?_
  refine recv2_step c 6 (p := neB c 6#32 = 1#1) (neB_iff 6#32 6 (by decide +kernel) c) _ _ _ _ rfl rfl ?_
  refine recv2_step c 7 (p := neB c 7#32 = 1#1) (neB_iff 7#32 7 (by decide +kernel) c) _ _ _ _ rfl rfl ?_
  refine recv2_step c 8 (p := neB c 8#32 = 1#1) (neB_iff 8#32 8 (by decide +kernel) c) _ _ _ _ rfl rfl ?_
  refine recv2_step c 9 (p := neB c 9#32 = 1#1) (neB_iff 9#32 9 (by decide +kernel) c) _ _ _ _ rfl rfl ?_
  refine recv2_step c 10 (p := neB c 10#32 = 1#1) (neB_iff 10#32 10 (by decide +kernel) c) _ _ _ _ rfl rfl ?_
  refine recv2_step c 11 (p := neB c 11#32 = 1#1) (neB_iff 11#32 11 (by decide +kernel) c) _ _ _ _ rfl rfl ?_
  refine recv2_step c 12 (p := neB c 12#32 = 1#1) (neB_iff 12#32 12 (by decide +kernel) c) _ _ _ _ rfl rfl ?_
  rfl

set_option maxHeartbeats 800000 in
/-- Part 34 of the kernel is the chain of its blocks 13 to 22. -/
theorem part34_eq (c : Dev nD) :
    appl (k0_part34 (F := F)) (mpw c) (neW c 13#32) = seqK (recv2Blk c) [13, 14, 15, 16, 17, 18, 19, 20, 21, 22] (pure (neW c 23#32)) := by
  rw [k0_part34_eq_skeleton]; unfold k0_part34_skel
  refine recv2_step c 13 (p := neB c 13#32 = 1#1) (neB_iff 13#32 13 (by decide +kernel) c) _ _ _ _ rfl rfl ?_
  refine recv2_step c 14 (p := neB c 14#32 = 1#1) (neB_iff 14#32 14 (by decide +kernel) c) _ _ _ _ rfl rfl ?_
  refine recv2_step c 15 (p := neB c 15#32 = 1#1) (neB_iff 15#32 15 (by decide +kernel) c) _ _ _ _ rfl rfl ?_
  refine recv2_step c 16 (p := neB c 16#32 = 1#1) (neB_iff 16#32 16 (by decide +kernel) c) _ _ _ _ rfl rfl ?_
  refine recv2_step c 17 (p := neB c 17#32 = 1#1) (neB_iff 17#32 17 (by decide +kernel) c) _ _ _ _ rfl rfl ?_
  refine recv2_step c 18 (p := neB c 18#32 = 1#1) (neB_iff 18#32 18 (by decide +kernel) c) _ _ _ _ rfl rfl ?_
  refine recv2_step c 19 (p := neB c 19#32 = 1#1) (neB_iff 19#32 19 (by decide +kernel) c) _ _ _ _ rfl rfl ?_
  refine recv2_step c 20 (p := neB c 20#32 = 1#1) (neB_iff 20#32 20 (by decide +kernel) c) _ _ _ _ rfl rfl ?_
  refine recv2_step c 21 (p := neB c 21#32 = 1#1) (neB_iff 21#32 21 (by decide +kernel) c) _ _ _ _ rfl rfl ?_
  refine recv2_step c 22 (p := neB c 22#32 = 1#1) (neB_iff 22#32 22 (by decide +kernel) c) _ _ _ _ rfl rfl ?_
  rfl

set_option maxHeartbeats 800000 in
/-- Part 37 of the kernel is the chain of its blocks 8 to 17. -/
theorem part37_eq (c : Dev nD) :
    appl (k0_part37 (F := F)) (mpw c) (neB c 8#32) = seqK (finBlk c) [8, 9, 10, 11, 12, 13, 14, 15, 16, 17] (pure (neB c 18#32)) := by
  rw [k0_part37_eq_skeleton]; unfold k0_part37_skel
  refine fin_step c 8 (p := neB c 8#32 = 1#1) (neB_iff 8#32 8 (by decide +kernel) c) _ _ _ _ _ _ _ _ _ rfl rfl rfl rfl rfl ?_
  refine fin_step c 9 (p := neB c 9#32 = 1#1) (neB_iff 9#32 9 (by decide +kernel) c) _ _ _ _ _ _ _ _ _ rfl rfl rfl rfl rfl ?_
  refine fin_step c 10 (p := neB c 10#32 = 1#1) (neB_iff 10#32 10 (by decide +kernel) c) _ _ _ _ _ _ _ _ _ rfl rfl rfl rfl rfl ?_
  refine fin_step c 11 (p := neB c 11#32 = 1#1) (neB_iff 11#32 11 (by decide +kernel) c) _ _ _ _ _ _ _ _ _ rfl rfl rfl rfl rfl ?_
  refine fin_step c 12 (p := neB c 12#32 = 1#1) (neB_iff 12#32 12 (by decide +kernel) c) _ _ _ _ _ _ _ _ _ rfl rfl rfl rfl rfl ?_
  refine fin_step c 13 (p := neB c 13#32 = 1#1) (neB_iff 13#32 13 (by decide +kernel) c) _ _ _ _ _ _ _ _ _ rfl rfl rfl rfl rfl ?_
  refine fin_step c 14 (p := neB c 14#32 = 1#1) (neB_iff 14#32 14 (by decide +kernel) c) _ _ _ _ _ _ _ _ _ rfl rfl rfl rfl rfl ?_
  refine fin_step c 15 (p := neB c 15#32 = 1#1) (neB_iff 15#32 15 (by decide +kernel) c) _ _ _ _ _ _ _ _ _ rfl rfl rfl rfl rfl ?_
  refine fin_step c 16 (p := neB c 16#32 = 1#1) (neB_iff 16#32 16 (by decide +kernel) c) _ _ _ _ _ _ _ _ _ rfl rfl rfl rfl rfl ?_
  refine fin_step c 17 (p := neB c 17#32 = 1#1) (neB_iff 17#32 17 (by decide +kernel) c) _ _ _ _ _ _ _ _ _ rfl rfl rfl rfl rfl ?_
  rfl

set_option maxHeartbeats 800000 in
/-- Part 38 of the kernel is the chain of its blocks 18 to 27. -/
theorem part38_eq (c : Dev nD) :
    appl (k0_part38 (F := F)) (mpw c) (neB c 18#32) = seqK (finBlk c) [18, 19, 20, 21, 22, 23, 24, 25, 26, 27] (pure (neB c 28#32)) := by
  rw [k0_part38_eq_skeleton]; unfold k0_part38_skel
  refine fin_step c 18 (p := neB c 18#32 = 1#1) (neB_iff 18#32 18 (by decide +kernel) c) _ _ _ _ _ _ _ _ _ rfl rfl rfl rfl rfl ?_
  refine fin_step c 19 (p := neB c 19#32 = 1#1) (neB_iff 19#32 19 (by decide +kernel) c) _ _ _ _ _ _ _ _ _ rfl rfl rfl rfl rfl ?_
  refine fin_step c 20 (p := neB c 20#32 = 1#1) (neB_iff 20#32 20 (by decide +kernel) c) _ _ _ _ _ _ _ _ _ rfl rfl rfl rfl rfl ?_
  refine fin_step c 21 (p := neB c 21#32 = 1#1) (neB_iff 21#32 21 (by decide +kernel) c) _ _ _ _ _ _ _ _ _ rfl rfl rfl rfl rfl ?_
  refine fin_step c 22 (p := neB c 22#32 = 1#1) (neB_iff 22#32 22 (by decide +kernel) c) _ _ _ _ _ _ _ _ _ rfl rfl rfl rfl rfl ?_
  refine fin_step c 23 (p := neB c 23#32 = 1#1) (neB_iff 23#32 23 (by decide +kernel) c) _ _ _ _ _ _ _ _ _ rfl rfl rfl rfl rfl ?_
  refine fin_step c 24 (p := neB c 24#32 = 1#1) (neB_iff 24#32 24 (by decide +kernel) c) _ _ _ _ _ _ _ _ _ rfl rfl rfl rfl rfl ?_
  refine fin_step c 25 (p := neB c 25#32 = 1#1) (neB_iff 25#32 25 (by decide +kernel) c) _ _ _ _ _ _ _ _ _ rfl rfl rfl rfl rfl ?_
  refine fin_step c 26 (p := neB c 26#32 = 1#1) (neB_iff 26#32 26 (by decide +kernel) c) _ _ _ _ _ _ _ _ _ rfl rfl rfl rfl rfl ?_
  refine fin_step c 27 (p := neB c 27#32 = 1#1) (neB_iff 27#32 27 (by decide +kernel) c) _ _ _ _ _ _ _ _ _ rfl rfl rfl rfl rfl ?_
  rfl

end Cert.KProof
-- ==== Proof.SigParts.lean ====
/-
# The handshake's parts as runs of its loop

The words these parts compute and pass on only name the next part's neighbours again; nothing depends on them.
-/
module

public import proofs.«01_k».proof.Proof.Steps
public import proofs.«01_k».proof.Proof.Parts

@[expose] public section

set_option backward.proofsInPublic true

noncomputable section

namespace Cert.KProof

open Cert.KernelIdeal Cert.KernelIdeal.Gen Idealize.ShloMosaic Idealize.SL.Sem

variable {F : FTy → Type} [FloatOps F]

/-- The barrier's semaphore, as the parts pass it on. -/
abbrev barA : Sems sig S_ := SemArray.scalar (sig.barrier 0 rfl)

theorem sig_step_eq {β : Type} (c o : Dev nD) (ho : (0 : Dev nD) ≠ o) {n : ℕ} (hn : n < nD) (e : n = (c.val + o.val) % 32)
    {R R' : Prog (TpuEff nD τ sig (Elt F) Λ₀ .tc) β} {l : List (Dev nD)} (hR : R = seqK (sigBlk c) l R') :
    (semSignalWord (⟨n, hn⟩ : Dev nD) barA.sem 1#32 >>= fun _ => R) = seqK (sigBlk c) (o :: l) R' := by
  subst e; rw [hR]
  show _ = (sigBlk c o >>= fun _ => seqK (sigBlk c) l R')
  unfold sigBlk; rw [if_pos ho]; rfl

/-- Part 2: signals to the devices 1 to 3 places on. -/
theorem sig2_eq (c : Dev nD) (v w : BitVec 32) : ∃ r, appl (k0_part2 (F := F)) c v barA w = seqK (sigBlk c) [1, 2, 3] (pure r) := by
  apply Exists.intro
  rw [k0_part2_eq_skeleton]; unfold k0_part2_skel
  refine sig_step_eq c 1 (by decide) (k0_dev1_lt c) (by revert c; decide +kernel) ?_
  refine sig_step_eq c 2 (by decide) (k0_dev2_lt c) (by revert c; decide +kernel) ?_
  refine sig_step_eq c 3 (by decide) (k0_dev3_lt c) (by revert c; decide +kernel) ?_
  rfl

/-- Part 3: signals to the devices 4 to 5 places on. -/
theorem sig3_eq (c : Dev nD) (v w w' w'' : BitVec 32) : ∃ r, appl (k0_part3 (F := F)) c v barA w w' w'' = seqK (sigBlk c) [4, 5] (pure r) := by
  apply Exists.intro
  rw [k0_part3_eq_skeleton]; unfold k0_part3_skel
  refine sig_step_eq c 4 (by decide) (k0_dev4_lt c) (by revert c; decide +kernel) ?_
  refine sig_step_eq c 5 (by decide) (k0_dev5_lt c) (by revert c; decide +kernel) ?_
  rfl

/-- Part 4: signals to the devices 6 to 8 places on. -/
theorem sig4_eq (c : Dev nD) (v w : BitVec 32) : ∃ r, appl (k0_part4 (F := F)) c v barA w = seqK (sigBlk c) [6, 7, 8] (pure r) := by
  apply Exists.intro
  rw [k0_part4_eq_skeleton]; unfold k0_part4_skel
  refine sig_step_eq c 6 (by decide) (k0_dev6_lt c) (by revert c; decide +kernel) ?_
  refine sig_step_eq c 7 (by decide) (k0_dev7_lt c) (by revert c; decide +kernel) ?_
  refine sig_step_eq c 8 (by decide) (k0_dev8_lt c) (by revert c; decide +kernel) ?_
  rfl

/-- Part 5: signals to the devices 9 to 10 places on. -/
theorem sig5_eq (c : Dev nD) (v w w' w'' : BitVec 32) : ∃ r, appl (k0_part5 (F := F)) c v barA w w' w'' = seqK (sigBlk c) [9, 10] (pure r) := by
  apply Exists.intro
  rw [k0_part5_eq_skeleton]; unfold k0_part5_skel
  refine sig_step_eq c 9 (by decide) (k0_dev9_lt c) (by revert c; decide +kernel) ?_
  refine sig_step_eq c 10 (by decide) (k0_dev10_lt c) (by revert c; decide +kernel) ?_
  rfl

/-- Part 6: signals to the devices 11 to 13 places on. -/
theorem sig6_eq (c : Dev nD) (v w : BitVec 32) : ∃ r, appl (k0_part6 (F := F)) c v barA w = seqK (sigBlk c) [11, 12, 13] (pure r) := by
  apply Exists.intro
  rw [k0_part6_eq_skeleton]; unfold k0_part6_skel
  refine sig_step_eq c 11 (by decide) (k0_dev11_lt c) (by revert c; decide +kernel) ?_
  refine sig_step_eq c 12 (by decide) (k0_dev12_lt c) (by revert c; decide +kernel) ?_
  refine sig_step_eq c 13 (by decide) (k0_dev13_lt c) (by revert c; decide +kernel) ?_
  rfl

/-- Part 7: signals to the devices 14 to 15 places on. -/
theorem sig7_eq (c : Dev nD) (v w w' w'' : BitVec 32) : ∃ r, appl (k0_part7 (F := F)) c v barA w w' w'' = seqK (sigBlk c) [14, 15] (pure r) := by
  apply Exists.intro
  rw [k0_part7_eq_skeleton]; unfold k0_part7_skel
  refine sig_step_eq c 14 (by decide) (k0_dev14_lt c) (by revert c; decide +kernel) ?_
  refine sig_step_eq c 15 (by decide) (k0_dev15_lt c) (by revert c; decide +kernel) ?_
  rfl

/-- Part 8: signals to the devices 16 to 18 places on. -/
theorem sig8_eq (c : Dev nD) (v w : BitVec 32) : ∃ r, appl (k0_part8 (F := F)) c v barA w = seqK (sigBlk c) [16, 17, 18] (pure r) := by
  apply Exists.intro
  rw [k0_part8_eq_skeleton]; unfold k0_part8_skel
  refine sig_step_eq c 16 (by decide) (k0_dev16_lt c) (by revert c; decide +kernel) ?_
  refine sig_step_eq c 17 (by decide) (k0_dev17_lt c) (by revert c; decide +kernel) ?_
  refine sig_step_eq c 18 (by decide) (k0_dev18_lt c) (by revert c; decide +kernel) ?_
  rfl

/-- Part 9: signals to the devices 19 to 20 places on. -/
theorem sig9_eq (c : Dev nD) (v w w' w'' : BitVec 32) : ∃ r, appl (k0_part9 (F := F)) c v barA w w' w'' = seqK (sigBlk c) [19, 20] (pure r) := by
  apply Exists.intro
  rw [k0_part9_eq_skeleton]; unfold k0_part9_skel
  refine sig_step_eq c 19 (by decide) (k0_dev19_lt c) (by revert c; decide +kernel) ?_
  refine sig_step_eq c 20 (by decide) (k0_dev20_lt c) (by revert c; decide +kernel) ?_
  rfl

/-- Part 10: signals to the devices 21 to 23 places on. -/
theorem sig10_eq (c : Dev nD) (v w : BitVec 32) : ∃ r, appl (k0_part10 (F := F)) c v barA w = seqK (sigBlk c) [21, 22, 23] (pure r) := by
  apply Exists.intro
  rw [k0_part10_eq_skeleton]; unfold k0_part10_skel
  refine sig_step_eq c 21 (by decide) (k0_dev21_lt c) (by revert c; decide +kernel) ?_
  refine sig_step_eq c 22 (by decide) (k0_dev22_lt c) (by revert c; decide +kernel) ?_
  refine sig_step_eq c 23 (by decide) (k0_dev23_lt c) (by revert c; decide +kernel) ?_
  rfl

/-- Part 11: signals to the devices 24 to 25 places on. -/
theorem sig11_eq (c : Dev nD) (v w w' w'' : BitVec 32) : ∃ r, appl (k0_part11 (F := F)) c v barA w w' w'' = seqK (sigBlk c) [24, 25] (pure r) := by
  apply Exists.intro
  rw [k0_part11_eq_skeleton]; unfold k0_part11_skel
  refine sig_step_eq c 24 (by decide) (k0_dev24_lt c) (by revert c; decide +kernel) ?_
  refine sig_step_eq c 25 (by decide) (k0_dev25_lt c) (by revert c; decide +kernel) ?_
  rfl

/-- Part 12: signals to the devices 26 to 28 places on. -/
theorem sig12_eq (c : Dev nD) (v w : BitVec 32) : ∃ r, appl (k0_part12 (F := F)) c v barA w = seqK (sigBlk c) [26, 27, 28] (pure r) := by
  apply Exists.intro
  rw [k0_part12_eq_skeleton]; unfold k0_part12_skel
  refine sig_step_eq c 26 (by decide) (k0_dev26_lt c) (by revert c; decide +kernel) ?_
  refine sig_step_eq c 27 (by decide) (k0_dev27_lt c) (by revert c; decide +kernel) ?_
  refine sig_step_eq c 28 (by decide) (k0_dev28_lt c) (by revert c; decide +kernel) ?_
  rfl

/-- Part 13: signals to the devices 29 to 30 places on. -/
theorem sig13_eq (c : Dev nD) (v w w' w'' : BitVec 32) : ∃ r, appl (k0_part13 (F := F)) c v barA w w' w'' = seqK (sigBlk c) [29, 30] (pure r) := by
  apply Exists.intro
  rw [k0_part13_eq_skeleton]; unfold k0_part13_skel
  refine sig_step_eq c 29 (by decide) (k0_dev29_lt c) (by revert c; decide +kernel) ?_
  refine sig_step_eq c 30 (by decide) (k0_dev30_lt c) (by revert c; decide +kernel) ?_
  rfl

end Cert.KProof
-- ==== Proof.Compute.lean ====
/-
# The parts that compute

Fetching the operands; the attention of the eight head-and-batch blocks, one after another; the output projection; adding up
the received rows; putting the result together. Each printed part is restated in this file's own loads and stores and then run.
-/
module

public import proofs.«01_k».proof.Proof.SigParts

@[expose] public section

set_option backward.proofsInPublic true

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## Loads and stores -/

theorem load_run {s : Shape} {e : EltTy} (M : Memref sig .tc .vmem s e) (r : LoadRect s) (hl : M.view.LoadsAt r) (f : Buf (Elt F) (M.view.loc (c : Thread nD τ))) (Q) :
    iprop((M.view.loc (c : Thread nD τ) ↦{fullShare} f) ∗ ((M.view.loc (c : Thread nD τ) ↦{fullShare} f) -∗ Q (M.view.readAt (Elt F) r f)))
      ⊢ WP c (Prog.lift (.load M r hl)) Q := by
  have key := wp_load (Q := Q) (defs := defs₀ (F := F)) (Γ := .empty) (k := fun x => .ret x) 𝒱₀ (c : Thread nD τ) none Set.univ (m := M) (r := r) (hl := hl) (f := f) (q := fullShare) (Ix := Unit) (Name := ℕ) (U := UU) (Lvl := ℕ) (Finset.subset_univ _)
  iintro ⟨H, Hk⟩
  iapply key $$ H
  iintro H
  rw [wp_ret]; imodintro
  iapply Hk; iexact H

theorem store_run {s : Shape} {e : EltTy} (M : Memref sig .tc .vmem s e) (r : Rect s) (w : r.shape.Idx → Elt F e) (hx : (M.access r).Stores Finset.univ) (hm)
    (f : Buf (Elt F) (M.view.loc (c : Thread nD τ))) (Q) :
    iprop((M.view.loc (c : Thread nD τ) ↦{fullShare} f) ∗ ((M.view.loc (c : Thread nD τ) ↦{fullShare} ((M.access r).write (Elt F) f w Finset.univ)) -∗ Q ⟨⟩))
      ⊢ WP c (Prog.lift (.store M r w Finset.univ hx hm)) Q := by
  have key := wp_store (Q := Q) (defs := defs₀ (F := F)) (Γ := .empty) (k := fun x => .ret x) 𝒱₀ (c : Thread nD τ) none Set.univ (m := M) (r := r) (w := w) (hx := hx) (hm := hm) (f := f) (Ix := Unit) (Name := ℕ) (U := UU) (Lvl := ℕ) (Finset.subset_univ _)
  iintro ⟨H, Hk⟩
  iapply key $$ H
  iintro H
  rw [wp_ret]; imodintro
  iapply Hk; iexact H

/-- The head of a program, and its end. -/
theorem bnd {α β : Type} {p : Prog (TpuEff nD τ sig (Elt F) Λ₀ .tc) α} {k : α → Prog (TpuEff nD τ sig (Elt F) Λ₀ .tc) β} {Q : β → sProp 𝕄} :
    WP c p (fun x => WP c (k x) Q) ⊢ WP c (p >>= k) Q := by unfold WP; rw [wp_bind]
theorem ret_run {α : Type} {a : α} {Q : α → sProp 𝕄} : Q a ⊢ WP c (pure a : Prog (TpuEff nD τ sig (Elt F) Λ₀ .tc) α) Q := by
  show Q a ⊢ wp frame (wpE (defs₀ (F := F)) 𝒱₀ (c : Thread nD τ) none) Set.univ (.ret a) Q
  rw [wp_ret]; iintro H; imodintro; iexact H

/-! ## The attention blocks -/

def ldK (b : Fin 2) (h : Fin 4) : Prog (TpuEff nD τ sig (Elt F) Λ₀ .tc) (Vec F S1x128x1x64 .f32) := Prog.lift (.load kM (kvRect b h).toLoadRect (View.loadsAt_vmem h_S1x128x1x64))
def ldV (b : Fin 2) (h : Fin 4) : Prog (TpuEff nD τ sig (Elt F) Λ₀ .tc) (Vec F S1x128x1x64 .f32) := Prog.lift (.load vM (kvRect b h).toLoadRect (View.loadsAt_vmem h_S1x128x1x64))
def ldC (b : Fin 2) (h : Fin 4) : Prog (TpuEff nD τ sig (Elt F) Λ₀ .tc) (Vec F S128x64 .f32) := Prog.lift (.load ctxM (blkRect b h).toLoadRect (View.loadsAt_vmem h_S128x64))
def stC (b : Fin 2) (h : Fin 4) (w : FVec F S128x64 .f32) : Prog (TpuEff nD τ sig (Elt F) Λ₀ .tc) PUnit :=
  Prog.lift (.store ctxM (blkRect b h) w Finset.univ (View.stores_vmem_bits_univ h_S128x64 rfl) (.inl rfl))

/-- The attention after its first `n` blocks. -/
def At (n : ℕ) : sProp 𝕄 :=
  iprop(pt c cc0_scratch3 (kV m c) ∗ pt c cc0_scratch4 (vV m c) ∗ ∃ f, pt c cc0_scratch5 f ∗ ⌜Agree m c n f⌝)

theorem ldK_run (n : ℕ) (b h) (Q) : iprop(At m c n ∗ (At m c n -∗ Q (kBlk m c b h))) ⊢ WP c (ldK b h) Q := by
  unfold At ldK
  iintro ⟨⟨H1, H2⟩, Hk⟩
  unfold kBlk
  iapply (load_run c kM _ _ (kV m c) Q)
  isplitl [H1]; · iexact H1
  iintro H1
  iapply Hk
  isplitl [H1]; · iexact H1
  iexact H2
theorem ldV_run (n : ℕ) (b h) (Q) : iprop(At m c n ∗ (At m c n -∗ Q (vBlk m c b h))) ⊢ WP c (ldV b h) Q := by
  unfold At ldV
  iintro ⟨⟨H1, H2, H3⟩, Hk⟩
  unfold vBlk
  iapply (load_run c vM _ _ (vV m c) Q)
  isplitl [H2]; · iexact H2
  iintro H2
  iapply Hk
  isplitl [H1]; · iexact H1
  isplitl [H2]; · iexact H2
  iexact H3
theorem ldC_run (n : ℕ) (b h) (Q) : iprop(At m c n ∗ (∀ w, At m c n -∗ Q w)) ⊢ WP c (ldC (F := F) b h) Q := by
  unfold At ldC
  iintro ⟨⟨H1, H2, %f, H3, %hf⟩, Hk⟩
  iapply (load_run c ctxM _ _ f Q)
  isplitl [H3]; · iexact H3
  iintro H3
  iapply Hk
  isplitl [H1]; · iexact H1
  isplitl [H2]; · iexact H2
  iexists f
  isplitl [H3]; · iexact H3
  ipureintro; exact hf
theorem stC_run (n : ℕ) (b h) (w) (hw : w = attnV m c b h) (hn : n = 4 * b.val + h.val) (Q) : iprop(At m c n ∗ (At m c (n + 1) -∗ Q ⟨⟩)) ⊢ WP c (stC (F := F) b h w) Q := by
  subst hw
  unfold At stC
  iintro ⟨⟨H1, H2, %f, H3, %hf⟩, Hk⟩
  iapply (store_run c ctxM (blkRect b h) (attnV m c b h) _ _ f Q)
  isplitl [H3]; · iexact H3
  iintro H3
  iapply Hk
  isplitl [H1]; · iexact H1
  isplitl [H2]; · iexact H2
  iexists _
  isplitl [H3]; · iexact H3
  ipureintro; exact agree_store m c b h hn hf

theorem part17_eq (q k x) : appl (k0_part17 (F := F)) q k x = (do
    stC 0 0 (k0_pay9 x); let a ← ldK 0 1; let b ← ldV 0 1; let _ ← ldC 0 1; stC 0 1 (k0_pay10 q k a b); let a ← ldK 0 2; pure (k0_pay11 q a)) := rfl
theorem part18_eq (q k x) : appl (k0_part18 (F := F)) q k x = (do
    let b ← ldV 0 2; let _ ← ldC 0 2; stC 0 2 (k0_pay12 k x b); let a ← ldK 0 3; pure (k0_pay13 q k a)) := rfl
theorem part19_eq (q k x) : appl (k0_part19 (F := F)) q k x = (do
    let b ← ldV 0 3; let _ ← ldC 0 3; stC 0 3 (k0_pay14 x b); let a ← ldK 1 0; let b ← ldV 1 0; let _ ← ldC 1 0; stC 1 0 (k0_pay15 q k a b); pure (k0_pay16 q)) := rfl
theorem part20_eq (q k x) : appl (k0_part20 (F := F)) q k x = (do
    let a ← ldK 1 1; let b ← ldV 1 1; let _ ← ldC 1 1; stC 1 1 (k0_pay17 k x a b); let a ← ldK 1 2; pure (k0_pay18 q k a)) := rfl
theorem part21_eq (q k x) : appl (k0_part21 (F := F)) q k x = (do
    let b ← ldV 1 2; let _ ← ldC 1 2; stC 1 2 (k0_pay19 x b); let a ← ldK 1 3; let b ← ldV 1 3; pure ⟨k0_pay20 q k a, b⟩) := rfl

theorem part17_run (Q) : iprop(At m c 0 ∗ (At m c 2 -∗ Q (k0_pay11 (qV m c) (kBlk m c 0 2))))
    ⊢ WP c (appl (k0_part17 (F := F)) (qV m c) msk (k0_pay8 (qV m c) mskA mskR k0_pay6 (kBlk m c 0 0) (vBlk m c 0 0))) Q := by
  rw [part17_eq]
  iintro ⟨H, Hk⟩
  iapply (bnd c); iapply (stC_run m c 0 0 0 _ (pay_00 m c) rfl); isplitl [H]; · iexact H
  iintro H
  iapply (bnd c); iapply (ldK_run m c 1 0 1); isplitl [H]; · iexact H
  iintro H
  iapply (bnd c); iapply (ldV_run m c 1 0 1); isplitl [H]; · iexact H
  iintro H
  iapply (bnd c); iapply (ldC_run m c 1 0 1); isplitl [H]; · iexact H
  iintro %w H
  iapply (bnd c); iapply (stC_run m c 1 0 1 _ (pay_01 m c) rfl); isplitl [H]; · iexact H
  iintro H
  iapply (bnd c); iapply (ldK_run m c 2 0 2); isplitl [H]; · iexact H
  iintro H
  iapply (ret_run c)
  iapply Hk; iexact H

theorem part18_run (Q) : iprop(At m c 2 ∗ (At m c 3 -∗ Q (k0_pay13 (qV m c) msk (kBlk m c 0 3))))
    ⊢ WP c (appl (k0_part18 (F := F)) (qV m c) msk (k0_pay11 (qV m c) (kBlk m c 0 2))) Q := by
  rw [part18_eq]
  iintro ⟨H, Hk⟩
  iapply (bnd c); iapply (ldV_run m c 2 0 2); isplitl [H]; · iexact H
  iintro H
  iapply (bnd c); iapply (ldC_run m c 2 0 2); isplitl [H]; · iexact H
  iintro %w H
  iapply (bnd c); iapply (stC_run m c 2 0 2 _ (pay_02 m c) rfl); isplitl [H]; · iexact H
  iintro H
  iapply (bnd c); iapply (ldK_run m c 3 0 3); isplitl [H]; · iexact H
  iintro H
  iapply (ret_run c)
  iapply Hk; iexact H

theorem part19_run (Q) : iprop(At m c 3 ∗ (At m c 5 -∗ Q (k0_pay16 (qV m c))))
    ⊢ WP c (appl (k0_part19 (F := F)) (qV m c) msk (k0_pay13 (qV m c) msk (kBlk m c 0 3))) Q := by
  rw [part19_eq]
  iintro ⟨H, Hk⟩
  iapply (bnd c); iapply (ldV_run m c 3 0 3); isplitl [H]; · iexact H
  iintro H
  iapply (bnd c); iapply (ldC_run m c 3 0 3); isplitl [H]; · iexact H
  iintro %w H
  iapply (bnd c); iapply (stC_run m c 3 0 3 _ (pay_03 m c) rfl); isplitl [H]; · iexact H
  iintro H
  iapply (bnd c); iapply (ldK_run m c 4 1 0); isplitl [H]; · iexact H
  iintro H
  iapply (bnd c); iapply (ldV_run m c 4 1 0); isplitl [H]; · iexact H
  iintro H
  iapply (bnd c); iapply (ldC_run m c 4 1 0); isplitl [H]; · iexact H
  iintro %w H
  iapply (bnd c); iapply (stC_run m c 4 1 0 _ (pay_10 m c) rfl); isplitl [H]; · iexact H
  iintro H
  iapply (ret_run c)
  iapply Hk; iexact H

theorem part20_run (Q) : iprop(At m c 5 ∗ (At m c 6 -∗ Q (k0_pay18 (qV m c) msk (kBlk m c 1 2))))
    ⊢ WP c (appl (k0_part20 (F := F)) (qV m c) msk (k0_pay16 (qV m c))) Q := by
  rw [part20_eq]
  iintro ⟨H, Hk⟩
  iapply (bnd c); iapply (ldK_run m c 5 1 1); isplitl [H]; · iexact H
  iintro H
  iapply (bnd c); iapply (ldV_run m c 5 1 1); isplitl [H]; · iexact H
  iintro H
  iapply (bnd c); iapply (ldC_run m c 5 1 1); isplitl [H]; · iexact H
  iintro %w H
  iapply (bnd c); iapply (stC_run m c 5 1 1 _ (pay_11 m c) rfl); isplitl [H]; · iexact H
  iintro H
  iapply (bnd c); iapply (ldK_run m c 6 1 2); isplitl [H]; · iexact H
  iintro H
  iapply (ret_run c)
  iapply Hk; iexact H

theorem part21_run (Q) : iprop(At m c 6 ∗ (At m c 7 -∗ Q ⟨k0_pay20 (qV m c) msk (kBlk m c 1 3), vBlk m c 1 3⟩))
    ⊢ WP c (appl (k0_part21 (F := F)) (qV m c) msk (k0_pay18 (qV m c) msk (kBlk m c 1 2))) Q := by
  rw [part21_eq]
  iintro ⟨H, Hk⟩
  iapply (bnd c); iapply (ldV_run m c 6 1 2); isplitl [H]; · iexact H
  iintro H
  iapply (bnd c); iapply (ldC_run m c 6 1 2); isplitl [H]; · iexact H
  iintro %w H
  iapply (bnd c); iapply (stC_run m c 6 1 2 _ (pay_12 m c) rfl); isplitl [H]; · iexact H
  iintro H
  iapply (bnd c); iapply (ldK_run m c 7 1 3); isplitl [H]; · iexact H
  iintro H
  iapply (bnd c); iapply (ldV_run m c 7 1 3); isplitl [H]; · iexact H
  iintro H
  iapply (ret_run c)
  iapply Hk; iexact H

/-! ## The operands -/

theorem dev_run (Q : Dev nD → sProp 𝕄) : Q c ⊢ WP c (Prog.lift (TpuEff.deviceId)) Q := by
  show _ ⊢ wp frame (wpE (defs₀ (F := F)) 𝒱₀ (c : Thread nD τ) none) Set.univ (.op .deviceId fun x => .ret x) Q
  rw [wp_deviceId, wp_ret]
  iintro H; imodintro; iexact H

/-- What `c` owes, the record of its waits left open. -/
def OwE (O : CellTallies nD τ sig Unit) : sProp 𝕄 := iprop(∃ W, owes (c : Thread nD τ) O W)
/-- A local copy in flight; its cell when it has landed. -/
abbrev lfly (k : Fin 5) : sProp 𝕄 := iprop(cred (tallyAt (kcell (c, kLoc k)) () (locN k)) ∗ atPos ER (kcell (c, kLoc k)) 0 ∅ 0)
abbrev lend (k : Fin 5) : sProp 𝕄 := atPos ER (kcell (c, kLoc k)) 1 ∅ 0

theorem loc_wait (k : Fin 5) (q : DmaSem sig) (hq : dsem (dLoc k) = q) (A : sProp 𝕄) (hA : locPay m c k ⊢ A)
    {sp sp' : Space} {s s' : Shape} {e e' : EltTy} {κ : Kind} (src : Memref sig .tc sp' s' e') (dst : Memref sig κ sp s e) (hsrc) (hdst)
    (hN : dst.view.dmaCredit = locN k) (O : CellTallies nD τ sig Unit) (hO : OwesTo O 0) (Q : PUnit → sProp 𝕄) :
    iprop(recs m K ∗ OwE c O ∗ lfly c k ∗ (OwE c O -∗ A -∗ lend c k -∗ Q ⟨⟩)) ⊢ WP c (Prog.lift (.waitDma2 q src dst hsrc hdst)) Q := by
  unfold OwE
  iintro ⟨#HR, ⟨%W, HO⟩, ⟨Hc, Ha⟩, Hk⟩
  iapply (wait_dma m K c (dLoc k) c rfl q hq A hA src dst hsrc hdst (locN k) hN rfl 0 (Nat.le_refl _) O hO W Q)
  isplitr; · iexact HR
  isplitl [HO]; · iexact HO
  isplitl [Hc]; · iexact Hc
  isplitl [Ha]; · iexact Ha
  iexact Hk

theorem whole_pt {b : Ref sig .tc} (q : PosShare TreeShare) (f : Buf (Elt F) ((c : Thread nD τ).loc b)) :
    ((View.whole b : View sig .tc _ _ _).loc (c : Thread nD τ) ↦[(View.whole b : View sig .tc _ _ _).set]{q} f : sProp 𝕄) = (((c : Thread nD τ).loc b) ↦{q} f) := by
  rw [View.set_whole]

/-- A whole buffer copied to a whole buffer. -/
theorem loc_copy (k : Fin 5) (q : DmaSem sig) (hq : dsem (dLoc k) = q) {s : Shape} {e : EltTy} (src : Memref sig .tc .hbm s e) (dst : Memref sig .tc .vmem s e)
    (hsrc : src.view.WordExact) (hdst : dst.view.WordExact) (hsem : DmaTarget.Typed (nD := nD) (p := .tc) .hbm (.dma q) (.here dst))
    (fs : Buf (Elt F) (src.view.loc (c : Thread nD τ))) (hN : dst.view.dmaCredit = locN k) (A : sProp 𝕄) (hA : A ⊢ (src.view.loc (c : Thread nD τ) ↦[src.view.set]{fullShare} fs))
    (B : Buf (Elt F) (dst.view.loc (c : Thread nD τ)) → sProp 𝕄) (hB : ∀ f, B f ⊢ (dst.view.loc (c : Thread nD τ) ↦[dst.view.set]{fullShare} f))
    (hpay : ∀ fd, iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ locPay m c k) (Q : PUnit → sProp 𝕄) :
    iprop(recs m K ∗ A ∗ (∃ f, B f) ∗ (dutyTok ER (kcell (c, kLoc k)) 0 c ∗ atPos ER (kcell (c, kLoc k)) 0 ∅ 0) ∗ (lfly c k -∗ Q ⟨⟩))
      ⊢ WP c (Prog.lift (.enqueueDma src (.here dst) (.dma q) hsrc hdst hsem)) Q := by
  iintro ⟨#HR, Hs, ⟨%f, Hd⟩, ⟨Ht, Ha⟩, Hk⟩
  iapply (copy_loc m K c k q hq src dst hsrc hdst hsem fs f hN (hpay f) Q)
  isplitr; · iexact HR
  isplitl [Hs]; · iapply hA; iexact Hs
  isplitl [Hd]; · iapply (hB f); iexact Hd
  isplitl [Ht]; · iexact Ht
  iintro Hc
  iapply Hk
  isplitl [Hc]; · iexact Hc
  iexact Ha

/-- A token and a cell of a local copy, before it is issued. -/
abbrev lbeg (k : Fin 5) : sProp 𝕄 := iprop(dutyTok ER (kcell (c, kLoc k)) 0 c ∗ atPos ER (kcell (c, kLoc k)) 0 ∅ 0)

theorem part1_eq : ∃ w : Dev nD → BitVec 32, appl (k0_part1 (F := F)) = (do
    let d ← Prog.lift .deviceId
    Prog.lift (.enqueueDma (Memref.whole main_arg0 : Memref sig .tc .hbm S2x128x512 .f32) (.here (Memref.whole cc0_scratch0 : Memref sig .tc .vmem S2x128x512 .f32)) (.dma (locS 0))
      (Memref.isWhole_whole _ : (Memref.whole main_arg0 : Memref sig .tc .hbm S2x128x512 .f32).IsWhole).wordExact (Memref.isWhole_whole _ : (Memref.whole cc0_scratch0 : Memref sig .tc .vmem S2x128x512 .f32).IsWhole).wordExact ⟨Or.inl rfl, trivial⟩)
    Prog.lift (.enqueueDma (Memref.whole main_arg1 : Memref sig .tc .hbm S512x256 .f32) (.here (Memref.whole cc0_scratch1 : Memref sig .tc .vmem S512x256 .f32)) (.dma (locS 1))
      (Memref.isWhole_whole _ : (Memref.whole main_arg1 : Memref sig .tc .hbm S512x256 .f32).IsWhole).wordExact (Memref.isWhole_whole _ : (Memref.whole cc0_scratch1 : Memref sig .tc .vmem S512x256 .f32).IsWhole).wordExact ⟨Or.inl rfl, trivial⟩)
    Prog.lift (.enqueueDma (Memref.whole main_arg4 : Memref sig .tc .hbm S256x512 .f32) (.here (Memref.whole cc0_scratch2 : Memref sig .tc .vmem S256x512 .f32)) (.dma (locS 2))
      (Memref.isWhole_whole _ : (Memref.whole main_arg4 : Memref sig .tc .hbm S256x512 .f32).IsWhole).wordExact (Memref.isWhole_whole _ : (Memref.whole cc0_scratch2 : Memref sig .tc .vmem S256x512 .f32).IsWhole).wordExact ⟨Or.inl rfl, trivial⟩)
    Prog.lift (.enqueueDma (kSrc d) (.here kM) (.dma (locS 3)) (View.wordExact_bits rfl) (Memref.isWhole_whole _ : kM.IsWhole).wordExact ⟨Or.inl rfl, trivial⟩)
    Prog.lift (.enqueueDma (vSrc d) (.here vM) (.dma (locS 4)) (View.wordExact_bits rfl) (Memref.isWhole_whole _ : vM.IsWhole).wordExact ⟨Or.inl rfl, trivial⟩)
    pure ⟨d, mpw d, barA, w d⟩) := ⟨_, rfl⟩

theorem part1_run (Q : (Σ' (_ : Dev nD) (_ : BitVec 32) (_ : Sems sig S_), BitVec 32) → sProp 𝕄) :
    iprop(recs m K ∗ pt c main_arg0 (m ((c : Thread nD τ).loc main_arg0)) ∗ pt c main_arg1 (m ((c : Thread nD τ).loc main_arg1)) ∗ pt c main_arg4 (m ((c : Thread nD τ).loc main_arg4))
      ∗ kPt m c ∗ vPt m c ∗ (∃ f, pt c cc0_scratch0 f) ∗ (∃ f, pt c cc0_scratch1 f) ∗ (∃ f, pt c cc0_scratch2 f) ∗ (∃ f, pt c cc0_scratch3 f) ∗ (∃ f, pt c cc0_scratch4 f)
      ∗ lbeg c 0 ∗ lbeg c 1 ∗ lbeg c 2 ∗ lbeg c 3 ∗ lbeg c 4
      ∗ (∀ w, lfly c 0 -∗ lfly c 1 -∗ lfly c 2 -∗ lfly c 3 -∗ lfly c 4 -∗ Q ⟨c, mpw c, barA, w⟩))
      ⊢ WP c (appl (k0_part1 (F := F))) Q := by
  obtain ⟨w, e⟩ := part1_eq (F := F)
  rw [e]
  iintro ⟨#HR, H0, H1, H4, H2, H3, D0, D1, D4, D2, D3, L0, L1, L4, L2, L3, Hk⟩
  iapply (bnd c)
  iapply (dev_run c)
  iapply (bnd c)
  iapply (loc_copy m K c 0 _ rfl (Memref.whole main_arg0 : Memref sig .tc .hbm S2x128x512 .f32) (Memref.whole cc0_scratch0 : Memref sig .tc .vmem S2x128x512 .f32) _ _ _ (m ((c : Thread nD τ).loc main_arg0)) rfl (pt c main_arg0 (m ((c : Thread nD τ).loc main_arg0))) (Entails.of_eq (whole_pt c _ _).symm)
    (fun f => pt c cc0_scratch0 f) (fun f => Entails.of_eq (whole_pt c _ _).symm)
    (fun fd => BIClass.sep_mono ((Entails.of_eq (whole_pt c _ _)).trans (Entails.of_eq (by rw [View.write_whole_univ]; rfl))) (Entails.of_eq (whole_pt c _ _))))
  isplitr; · iexact HR
  isplitl [H0]; · iexact H0
  isplitl [D0]; · iexact D0
  isplitl [L0]; · iexact L0
  iintro L0
  iapply (bnd c)
  iapply (loc_copy m K c 1 _ rfl (Memref.whole main_arg1 : Memref sig .tc .hbm S512x256 .f32) (Memref.whole cc0_scratch1 : Memref sig .tc .vmem S512x256 .f32) _ _ _ (m ((c : Thread nD τ).loc main_arg1)) rfl (pt c main_arg1 (m ((c : Thread nD τ).loc main_arg1))) (Entails.of_eq (whole_pt c _ _).symm)
    (fun f => pt c cc0_scratch1 f) (fun f => Entails.of_eq (whole_pt c _ _).symm)
    (fun fd => BIClass.sep_mono ((Entails.of_eq (whole_pt c _ _)).trans (Entails.of_eq (by rw [View.write_whole_univ]; rfl))) (Entails.of_eq (whole_pt c _ _))))
  isplitr; · iexact HR
  isplitl [H1]; · iexact H1
  isplitl [D1]; · iexact D1
  isplitl [L1]; · iexact L1
  iintro L1
  iapply (bnd c)
  iapply (loc_copy m K c 2 _ rfl (Memref.whole main_arg4 : Memref sig .tc .hbm S256x512 .f32) (Memref.whole cc0_scratch2 : Memref sig .tc .vmem S256x512 .f32) _ _ _ (m ((c : Thread nD τ).loc main_arg4)) rfl (pt c main_arg4 (m ((c : Thread nD τ).loc main_arg4))) (Entails.of_eq (whole_pt c _ _).symm)
    (fun f => pt c cc0_scratch2 f) (fun f => Entails.of_eq (whole_pt c _ _).symm)
    (fun fd => BIClass.sep_mono ((Entails.of_eq (whole_pt c _ _)).trans (Entails.of_eq (by rw [View.write_whole_univ]; rfl))) (Entails.of_eq (whole_pt c _ _))))
  isplitr; · iexact HR
  isplitl [H4]; · iexact H4
  isplitl [D4]; · iexact D4
  isplitl [L4]; · iexact L4
  iintro L4
  iapply (bnd c)
  iapply (loc_copy m K c 3 _ rfl (kSrc c) kM _ _ _ (m ((c : Thread nD τ).loc main_arg2)) rfl (kPt m c) .rfl
    (fun f => pt c cc0_scratch3 f) (fun f => Entails.of_eq (whole_pt c _ _).symm)
    (fun fd => BIClass.sep_mono ((Entails.of_eq (whole_pt c _ _)).trans (Entails.of_eq (by rw [View.write_whole_univ]; rfl))) .rfl))
  isplitr; · iexact HR
  isplitl [H2]; · iexact H2
  isplitl [D2]; · iexact D2
  isplitl [L2]; · iexact L2
  iintro L2
  iapply (bnd c)
  iapply (loc_copy m K c 4 _ rfl (vSrc c) vM _ _ _ (m ((c : Thread nD τ).loc main_arg3)) rfl (vPt m c) .rfl
    (fun f => pt c cc0_scratch4 f) (fun f => Entails.of_eq (whole_pt c _ _).symm)
    (fun fd => BIClass.sep_mono ((Entails.of_eq (whole_pt c _ _)).trans (Entails.of_eq (by rw [View.write_whole_univ]; rfl))) .rfl))
  isplitr; · iexact HR
  isplitl [H3]; · iexact H3
  isplitl [D3]; · iexact D3
  isplitl [L3]; · iexact L3
  iintro L3
  iapply (ret_run c)
  iapply Hk $$ L0 L1 L4 L2 L3

theorem part16_eq (q a b d) : appl (k0_part16 (F := F)) c q a b d = (do
    Prog.lift (.waitDma2 (locS 3) (kSrc c) kM (View.wordExact_bits rfl) (Memref.isWhole_whole _ : kM.IsWhole).wordExact)
    Prog.lift (.waitDma2 (locS 4) (vSrc c) vM (View.wordExact_bits rfl) (Memref.isWhole_whole _ : vM.IsWhole).wordExact)
    let x ← ldK 0 0; let y ← ldV 0 0; let _ ← ldC 0 0; pure ⟨k0_pay7 a b d, k0_pay8 q a b d x y⟩) := rfl

theorem part16_run (O : CellTallies nD τ sig Unit) (hO : OwesTo O 0) (Q : (Σ' (_ : IVec S128x128 1), FVec F S128x64 .f32) → sProp 𝕄) :
    iprop(recs m K ∗ OwE c O ∗ lfly c 3 ∗ lfly c 4 ∗ (∃ f, pt c cc0_scratch5 f)
      ∗ (OwE c O -∗ lend c 3 -∗ lend c 4 -∗ kPt m c -∗ vPt m c -∗ At m c 0 -∗ Q ⟨msk, k0_pay8 (qV m c) mskA mskR k0_pay6 (kBlk m c 0 0) (vBlk m c 0 0)⟩))
      ⊢ WP c (appl (k0_part16 (F := F)) c (qV m c) mskA mskR k0_pay6) Q := by
  rw [part16_eq]; unfold msk
  iintro ⟨#HR, HO, L3, L4, ⟨%f, H5⟩, Hk⟩
  iapply (bnd c)
  iapply (loc_wait m K c 3 (locS 3) rfl iprop(pt c cc0_scratch3 (kV m c) ∗ kPt m c) .rfl _ _ _ _ rfl O hO)
  isplitr; · iexact HR
  isplitl [HO]; · iexact HO
  isplitl [L3]; · iexact L3
  iintro HO ⟨H3, HK⟩ L3
  iapply (bnd c)
  iapply (loc_wait m K c 4 (locS 4) rfl iprop(pt c cc0_scratch4 (vV m c) ∗ vPt m c) .rfl _ _ _ _ rfl O hO)
  isplitr; · iexact HR
  isplitl [HO]; · iexact HO
  isplitl [L4]; · iexact L4
  iintro HO ⟨H4, HV⟩ L4
  ihave H := (show iprop(pt c cc0_scratch3 (kV m c) ∗ pt c cc0_scratch4 (vV m c) ∗ ∃ f, pt c cc0_scratch5 f ∗ ⌜Agree m c 0 f⌝) ⊢ At m c 0 from .rfl) $$ [H3 H4 H5]
  · isplitl [H3]; · iexact H3
    isplitl [H4]; · iexact H4
    iexists f
    isplitl [H5]; · iexact H5
    ipureintro; exact agree_zero m c f
  iapply (bnd c); iapply (ldK_run m c 0 0 0); isplitl [H]; · iexact H
  iintro H
  iapply (bnd c); iapply (ldV_run m c 0 0 0); isplitl [H]; · iexact H
  iintro H
  iapply (bnd c); iapply (ldC_run m c 0 0 0); isplitl [H]; · iexact H
  iintro %w H
  iapply (ret_run c)
  iapply Hk $$ HO L3 L4 HK HV H

end Cert.KProof
-- ==== Proof.Regions.lean ====
/-
# Buffers cut into their slots and put together again

A receive buffer is its slots, the sums sent out are their groups of eight rows; a slot nobody fills holds what it held, and what is computed
does not depend on it.
-/
module

public import proofs.«01_k».proof.Proof.Steps

@[expose] public section

set_option backward.proofsInPublic true

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Sums over the devices -/

theorem univ_others (c : Dev nD) : (Finset.univ : Finset (Dev nD)) = insert c (others c) := by
  ext x; simp only [Finset.mem_univ, Finset.mem_insert, Finset.mem_filter, true_and, true_iff]
  by_cases h : x = c
  · exact .inl h
  · exact .inr fun e => h e.symm
theorem self_not_mem (c : Dev nD) : c ∉ others c := fun h => (Finset.mem_filter.mp h).2 rfl
/-- One for each device: `c`'s, and the others'. -/
theorem bs_others (c : Dev nD) (Φ : Dev nD → sProp 𝕄) : bigSep Finset.univ Φ = iprop(Φ c ∗ bigSep (others c) Φ) := by
  rw [univ_others c, bs_insert (self_not_mem c)]

theorem shift_injective (c : Dev nD) : Function.Injective (shift c) := by
  intro a b; revert c a b; decide +kernel
theorem shift_image : ∀ c : Dev nD, steps.image (shift c) = others c := by decide +kernel
/-- The devices reached by the steps of the handshake are the others. -/
theorem bs_shift (c : Dev nD) (Φ : Dev nD → sProp 𝕄) : bigSep (others c) Φ = bigSep steps fun o => Φ (shift c o) := by
  have e := bigSep_map (s := steps) ⟨shift c, shift_injective c⟩ (Φ := Φ)
  rw [Finset.map_eq_image] at e
  rw [← shift_image c]; exact e

/-! ## A buffer and its parts -/

section Parts

variable {ℓ : Loc nD τ sig} (S : Dev nD → Finset (Idx ℓ)) (idx : Idx ℓ → Dev nD) (hS : ∀ j i, i ∈ S j ↔ idx i = j)
include hS

theorem part_split (q : PosShare TreeShare) (f : Buf (Elt F) ℓ) : (ℓ ↦{q} f : sProp 𝕄) = bigSep Finset.univ fun j => ℓ ↦[S j]{q} f := by
  classical
  rw [← pointsTo_biUnion Finset.univ S (fun t _ t' _ h => Finset.disjoint_left.mpr fun i hi hi' => h (((hS t i).mp hi).symm.trans ((hS t' i).mp hi')))]
  congr 1
  ext i
  simp only [Finset.mem_univ, Finset.mem_biUnion, true_and, true_iff]
  exact ⟨idx i, (hS _ i).mpr rfl⟩

/-- The parts put together: the contents off `c`'s are known. -/
theorem part_join (c : Dev nD) (q : PosShare TreeShare) (f f' : Buf (Elt F) ℓ) :
    iprop(bigSep (others c) (fun j => ℓ ↦[S j]{q} f) ∗ (ℓ ↦[S c]{q} f')) ⊢ (iprop(∃ g, (ℓ ↦{q} g) ∗ ⌜∀ i, idx i ≠ c → g i = f i⌝) : sProp 𝕄) := by
  classical
  have e : (ℓ ↦{q} (fun i => if idx i = c then f' i else f i) : sProp 𝕄) = iprop((ℓ ↦[S c]{q} f') ∗ bigSep (others c) (fun j => ℓ ↦[S j]{q} f)) := by
    rw [part_split S idx hS, bs_others c]
    congr 1
    · exact pointsTo_congr fun i hi => if_pos ((hS c i).mp hi)
    · refine bigSep_congr fun j hj => pointsTo_congr fun i hi => if_neg fun h => ?_
      exact (Finset.mem_filter.mp hj).2 (h.symm.trans ((hS j i).mp hi))
  iintro ⟨H, H'⟩
  iexists fun i => if idx i = c then f' i else f i
  isplitl [H H']
  · iapply (Entails.of_eq e.symm)
    isplitl [H']; · iexact H'
    iexact H
  · ipureintro; exact fun i hi => if_neg hi

end Parts

theorem row_lt (i : S256x512.Idx) : (i 0).val / 8 < 32 := by have h : (i 0).val < 256 := (i 0).isLt; omega
/-- the device whose group of eight a row is in. -/
def rowDev (i : S256x512.Idx) : Dev nD := ⟨(i 0).val / 8, row_lt i⟩
theorem mem_row' (j : Dev nD) (i : S256x512.Idx) : i ∈ (abRow j).view.set ↔ rowDev i = j := (mem_row j i).trans ⟨fun h => Fin.ext h, fun h => congrArg Fin.val h⟩

variable (c : Dev nD)

theorem rows_split (f : Vec F S256x512 .bf16) : (pt c cc0_scratch7 f : sProp 𝕄) = iprop(rowPt c c f ∗ bigSep (others c) fun j => rowPt c j f) :=
  (part_split (ℓ := (c : Thread nD τ).loc cc0_scratch7) (fun j => (abRow j).view.set) rowDev mem_row' fullShare f).trans (bs_others c _)
theorem comm_split (f : Vec F S32x8x512 .bf16) : (pt c cc0_scratch9 f : sProp 𝕄) = iprop(commPt c c f ∗ bigSep (others c) fun j => commPt c j f) :=
  (part_split (ℓ := (c : Thread nD τ).loc cc0_scratch9) (fun j => (commSlot j).view.set) (fun i => i 0) mem_comm fullShare f).trans (bs_others c _)
theorem gat_split (f : Vec F S32x8x512 .bf16) : (pt c cc0_scratch10 f : sProp 𝕄) = iprop(gatPt c c f ∗ bigSep (others c) fun j => gatPt c j f) :=
  (part_split (ℓ := (c : Thread nD τ).loc cc0_scratch10) (fun j => (gatSlot j).view.set) (fun i => i 0) mem_gat fullShare f).trans (bs_others c _)
theorem comm_join (f f' : Vec F S32x8x512 .bf16) : iprop(bigSep (others c) (fun j => commPt c j f) ∗ commPt c c f')
    ⊢ (iprop(∃ g, pt c cc0_scratch9 g ∗ ⌜∀ i : S32x8x512.Idx, i 0 ≠ c → g i = f i⌝) : sProp 𝕄) :=
  part_join (ℓ := (c : Thread nD τ).loc cc0_scratch9) (fun j => (commSlot j).view.set) (fun i => i 0) mem_comm c fullShare f f'
theorem gat_join (f f' : Vec F S32x8x512 .bf16) : iprop(bigSep (others c) (fun j => gatPt c j f) ∗ gatPt c c f')
    ⊢ (iprop(∃ g, pt c cc0_scratch10 g ∗ ⌜∀ i : S32x8x512.Idx, i 0 ≠ c → g i = f i⌝) : sProp 𝕄) :=
  part_join (ℓ := (c : Thread nD τ).loc cc0_scratch10) (fun j => (gatSlot j).view.set) (fun i => i 0) mem_gat c fullShare f f'
theorem red_split (f : Vec F S8x512 .bf16) : (pt c cc0_scratch8 f : sProp 𝕄) = iprop(redPt c c f ∗ bigSep (others c) fun j => redPt c j f) := by
  rw [← bs_others c (fun j => redPt c j f)]
  have e := ShareLeaves.pointsTo_leaves (Ix := Unit) (Val := Elt F) (Name := ℕ) (U := UU) (Lvl := ℕ) (ℓ := (c : Thread nD τ).loc cc0_scratch8) redM.view.set f 5 fullShare
  refine Eq.trans ?_ e
  rw [show redM.view.set = Finset.univ from View.set_whole _]

/-! ## What is computed from a receive buffer does not depend on the slot nobody fills -/

theorem own_word (c : Dev nD) : BitVec.ofNat 32 c.val = mpw c := by revert c; decide +kernel
theorem other_word : ∀ j c : Dev nD, j ≠ c → IntOp.cmpi .eq (BitVec.ofNat 32 j.val) (mpw c) = 0#1 := by decide +kernel
theorem same_word : ∀ c : Dev nD, IntOp.cmpi .eq (BitVec.ofNat 32 c.val) (mpw c) = 1#1 := by decide +kernel

theorem sum_indep {g f : Vec F S32x8x512 .bf16} (h : ∀ i : S32x8x512.Idx, i 0 ≠ c → g i = f i) (x : Vec F S8x512 .f32) :
    k0_pay25 (mpw c) g x = k0_pay25 (mpw c) f x := by
  have e : select (cmpi .eq (iota .tc S32x8x512 32 [0] iota_S32x8x512_d0_w32) (broadcast S32x8x512 (mpw c))) (broadcast S32x8x512 (Scalar.ofBits .f32 0x00000000#32)) (extf .f32 g bitsLt_bf16_f32)
      = select (cmpi .eq (iota .tc S32x8x512 32 [0] iota_S32x8x512_d0_w32) (broadcast S32x8x512 (mpw c))) (broadcast S32x8x512 (Scalar.ofBits .f32 0x00000000#32 : F .f32)) (extf .f32 f bitsLt_bf16_f32) := by
    funext i
    have hi : cmpi .eq (iota .tc S32x8x512 32 [0] iota_S32x8x512_d0_w32) (broadcast S32x8x512 (mpw c)) i = IntOp.cmpi .eq (BitVec.ofNat 32 (i 0).val) (mpw c) := by
      show IntOp.cmpi .eq (iota .tc S32x8x512 32 [0] iota_S32x8x512_d0_w32 i) (mpw c) = _
      rw [show iota .tc S32x8x512 32 [0] iota_S32x8x512_d0_w32 i = BitVec.ofNat 32 (0 * S32x8x512.size 0 + (i 0).val) from rfl, Nat.zero_mul, Nat.zero_add]
    rw [select_apply, select_apply, hi]
    by_cases hc : i 0 = c
    · rw [hc, same_word c]; rfl
    · rw [other_word _ _ hc]
      show FloatOps.extf .f32 bitsLt_bf16_f32 (g i) = FloatOps.extf .f32 bitsLt_bf16_f32 (f i)
      rw [h i hc]
  unfold k0_pay25
  dsimp only
  rw [e]

theorem red_indep {g f : Vec F S32x8x512 .bf16} (h : ∀ i : S32x8x512.Idx, i 0 ≠ c → g i = f i) (x : Vec F S8x512 .f32) :
    k0_pay26 (mpw c) g x = k0_pay26 (mpw c) f x := by
  unfold k0_pay26; rw [sum_indep c h x]

/-- A row of the result before its own rows are stored. -/
theorem fan_apply (g : Vec F S32x8x512 .bf16) (i : S256x512.Idx) :
    k0_pay27 g i = FloatOps.extf .f32 bitsLt_bf16_f32 (g (ix3 (n0 := 32) (n1 := 8) (n2 := 512) (rowDev i) ⟨(i 0).val % 8, Nat.mod_lt _ (by decide)⟩ (i 1))) := by
  unfold k0_pay27
  show FloatOps.extf .f32 bitsLt_bf16_f32 (shapeCast S256x512 g shapeCasts_S32x8x512_S256x512 i) = _
  rw [shapeCast_apply g _ i (ix3 (n0 := 32) (n1 := 8) (n2 := 512) (rowDev i) ⟨(i 0).val % 8, Nat.mod_lt _ (by decide)⟩ (i 1))]
  rw [Shape.rowMajor_val_three, Shape.rowMajor_val_two]
  show (((i 0).val / 8) * 8 + (i 0).val % 8) * 512 + (i 1).val = (i 0).val * 512 + (i 1).val
  omega

theorem out_emb (x : S8x512.Idx) : (outM.access (rowRect c) : View sig .tc _ _ _).emb x = rowIx c (x 0) (x 1) := by
  have ho : k0_off66 c = ![8 * c.val, 0] := ClosedOff.eq
  funext a
  match a with
  | ⟨0, _⟩ => exact Fin.ext (by show k0_off66 c 0 + 1 * (x 0).val = 8 * c.val + (x 0).val; rw [ho, Nat.one_mul]; rfl)
  | ⟨1, _⟩ => exact Fin.ext (by show k0_off66 c 1 + 1 * (x 1).val = (x 1).val; rw [ho, Nat.one_mul]; exact Nat.zero_add _)

theorem out_indep (m : (ℓ : Loc nD τ sig) → Buf (Elt F) ℓ) {g : Vec F S32x8x512 .bf16} (h : ∀ i : S32x8x512.Idx, i 0 ≠ c → g i = gatV m i) :
    (outM.access (rowRect c) : View sig .tc _ _ _).write (Elt F) (k0_pay27 g) (sumV m c) Finset.univ = outV m c := by
  unfold outV
  funext i
  by_cases hi : i ∈ (outM.access (rowRect c) : View sig .tc _ _ _).setOn Finset.univ
  · obtain ⟨x, -, rfl⟩ := Finset.mem_map.mp hi
    rw [View.write_emb_of_mem _ _ (Finset.mem_univ _), View.write_emb_of_mem _ _ (Finset.mem_univ _)]
  · rw [View.write_of_not_mem _ _ _ hi, View.write_of_not_mem _ _ _ hi]
    rw [fan_apply, fan_apply, h]
    intro e
    apply hi
    have e' : (i 0).val / 8 = c.val := congrArg Fin.val (show rowDev i = c from e)
    have hx : (outM.access (rowRect c) : View sig .tc _ _ _).emb (ix2 ⟨(i 0).val % 8, Nat.mod_lt _ (by decide)⟩ (i 1)) = i := by
      rw [out_emb]
      funext a
      match a with
      | ⟨0, _⟩ => exact Fin.ext (by show 8 * c.val + (i 0).val % 8 = (i 0).val; omega)
      | ⟨1, _⟩ => rfl
    rw [← hx]; exact Finset.mem_map.mpr ⟨_, Finset.mem_univ _, rfl⟩

end Cert.KProof
-- ==== Proof.Stages.lean ====
/-
# The stages of the kernel that move data through the vector unit

The parts of the kernel that are more than a run of one loop, and the whole body, as chains of named operations.
-/
module

public import proofs.«01_k».proof.Proof.Compute
public import proofs.«01_k».proof.Proof.Regions

@[expose] public section

set_option backward.proofsInPublic true

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's operands in vector memory. -/
abbrev xM : Memref sig .tc .vmem S2x128x512 .f32 := Memref.whole cc0_scratch0
abbrev wqM : Memref sig .tc .vmem S512x256 .f32 := Memref.whole cc0_scratch1
abbrev woM : Memref sig .tc .vmem S256x512 .f32 := Memref.whole cc0_scratch2

/-- A load of a whole buffer; of a device's eight rows; the stores. -/
def ldW {s : Shape} {e : EltTy} (M : Memref sig .tc .vmem s e) (off : Fin s.rank → ℕ) (inb : ∀ a, off a + s.size a ≤ s.size a) (hl : M.view.LoadsAt (Rect.unit off s.size inb).toLoadRect) :
    Prog (TpuEff nD τ sig (Elt F) Λ₀ .tc) (Vec F s e) := Prog.lift (.load M (Rect.unit off s.size inb).toLoadRect hl)
def ldR (c : Dev nD) (M : Memref sig .tc .vmem S256x512 .f32) (hl : M.view.LoadsAt (rowRect c).toLoadRect) :
    Prog (TpuEff nD τ sig (Elt F) Λ₀ .tc) (Vec F S8x512 .f32) := Prog.lift (.load M (rowRect c).toLoadRect hl)
def stR (c : Dev nD) (w : Vec F S8x512 .f32) : Prog (TpuEff nD τ sig (Elt F) Λ₀ .tc) PUnit :=
  Prog.lift (.store outM (rowRect c) w Finset.univ (View.stores_vmem_bits_univ h_S8x512 rfl) (.inl rfl))
def stW (M : Memref sig .tc .vmem S256x512 .f32) (w : Vec F S256x512 .f32) : Prog (TpuEff nD τ sig (Elt F) Λ₀ .tc) PUnit :=
  Prog.lift (.store M (Rect.unit (s := S256x512) ![0, 0] S256x512.size inb_S256x512_S256x512_0_0) w Finset.univ (View.stores_vmem_bits_univ h_S256x512 rfl) (.inl rfl))
def stAb (w : Vec F S256x512 .bf16) : Prog (TpuEff nD τ sig (Elt F) Λ₀ .tc) PUnit :=
  Prog.lift (.store abM (Rect.unit (s := S256x512) ![0, 0] S256x512.size inb_S256x512_S256x512_0_0) w Finset.univ
    (View.stores_vmem h_S256x512 ((Memref.isWhole_whole _ : abM.IsWhole).storeExact_slice rfl _ packedbf16_S256x512_S256x512_0_0) (fun _ => rfl)) (.inl rfl))
def stRed (w : Vec F S8x512 .bf16) : Prog (TpuEff nD τ sig (Elt F) Λ₀ .tc) PUnit :=
  Prog.lift (.store redM (Rect.unit (s := S8x512) ![0, 0] S8x512.size inb_S8x512_S8x512_0_0) w Finset.univ
    (View.stores_vmem h_S8x512 ((Memref.isWhole_whole _ : redM.IsWhole).storeExact_slice rfl _ packedbf16_S8x512_S8x512_0_0) (fun _ => rfl)) (.inl rfl))

theorem bindc {α β : Type} {p : Prog (TpuEff nD τ sig (Elt F) Λ₀ .tc) α} {k k' : α → Prog (TpuEff nD τ sig (Elt F) Λ₀ .tc) β} (h : ∀ x, k x = k' x) : (p >>= k) = (p >>= k') :=
  congrArg (p >>= ·) (funext h)

/-- The wait for a local copy of a whole operand. -/
def wtW (k : Fin 5) {s : Shape} (src : Memref sig .tc .hbm s .f32) (h : src.view.WordExact) (dst : Memref sig .tc .vmem s .f32) (h' : dst.view.WordExact) :
    Prog (TpuEff nD τ sig (Elt F) Λ₀ .tc) PUnit := Prog.lift (.waitDma2 (locS k) src dst h h')

/-- Part 14: the last signal, the handshake's wait, the activations and the query projection. -/
theorem part14_eq (c : Dev nD) (v : BitVec 32) : appl (k0_part14 (F := F)) c barA v = seqK (sigBlk c) [31] (do
    semWaitWord barS 31#32
    wtW 0 (Memref.whole main_arg0) (Memref.isWhole_whole _ : (Memref.whole main_arg0 : Memref sig .tc .hbm S2x128x512 .f32).IsWhole).wordExact xM (Memref.isWhole_whole _ : xM.IsWhole).wordExact
    wtW 1 (Memref.whole main_arg1) (Memref.isWhole_whole _ : (Memref.whole main_arg1 : Memref sig .tc .hbm S512x256 .f32).IsWhole).wordExact wqM (Memref.isWhole_whole _ : wqM.IsWhole).wordExact
    let x ← ldW xM ![0, 0, 0] inb_S2x128x512_S2x128x512_0_0_0 (View.loadsAt_vmem h_S2x128x512)
    let w ← ldW wqM ![0, 0] inb_S512x256_S512x256_0_0 (View.loadsAt_vmem h_S512x256)
    pure ⟨k0_pay1 x w, k0_pay2, iota .tc S128x128 32 [1] iota_S128x128_d1_w32, 64#32⟩) := by
  rw [k0_part14_eq_skeleton]; unfold k0_part14_skel
  refine sig_step_eq c 31 (by decide) (k0_dev31_lt c) (by revert c; decide +kernel) ?_
  rfl

theorem part15_eq (a b : IVec S128x128 32) (w : BitVec 32) : appl (k0_part15 (F := F)) a b w = pure ⟨k0_pay4 a b w, k0_pay5 a b w, k0_pay6⟩ := rfl

set_option maxHeartbeats 800000 in
/-- Part 22: the last block of attention, the output projection, the first copies. -/
theorem part22_eq (c : Dev nD) (v : BitVec 32) (q : FVec F S128x128 .bf16) (y : Vec F S1x128x1x64 .f32) : appl (k0_part22 (F := F)) c v q y = (do
    let _ ← ldC 1 3
    stC 1 3 (k0_pay21 q y)
    wtW 2 (Memref.whole main_arg4) (Memref.isWhole_whole _ : (Memref.whole main_arg4 : Memref sig .tc .hbm S256x512 .f32).IsWhole).wordExact woM (Memref.isWhole_whole _ : woM.IsWhole).wordExact
    let a ← ldW woM ![0, 0] inb_S256x512_S256x512_0_0 (View.loadsAt_vmem h_S256x512)
    let b ← ldW ctxM ![0, 0] inb_S256x256_S256x256_0_0 (View.loadsAt_vmem h_S256x256)
    let _ ← ldW accM ![0, 0] inb_S256x512_S256x512_0_0 (View.loadsAt_vmem h_S256x512)
    stW accM (k0_pay23 a b)
    let _ ← ldW abM ![0, 0] inb_S256x512_S256x512_0_0 (View.loadsAt_vmem h_S256x512)
    stAb (k0_pay24 a b)
    seqK (send1Blk c) [0, 1, 2] (pure ⟨⟩)) := by
  rw [k0_part22_eq_skeleton]; unfold k0_part22_skel
  refine bindc fun _ => bindc fun _ => bindc fun _ => bindc fun a => bindc fun b => bindc fun _ => bindc fun _ => bindc fun _ => bindc fun _ => ?_
  refine send1_step c 0 (p := k0_cond1 c = 1#1) (by revert c; decide +kernel) _ _ _ _ _ _ _ rfl ClosedOff.eq ClosedOff.eq rfl (by decide +kernel) ?_
  refine send1_step c 1 (p := k0_cond2 c = 1#1) (by revert c; decide +kernel) _ _ _ _ _ _ _ rfl ClosedOff.eq ClosedOff.eq rfl (by decide +kernel) ?_
  refine send1_step c 2 (p := k0_cond3 c = 1#1) (by revert c; decide +kernel) _ _ _ _ _ _ _ rfl ClosedOff.eq ClosedOff.eq rfl (by decide +kernel) ?_
  rfl

set_option maxHeartbeats 800000 in
/-- Part 29: the last receipt, the sum of the eight rows, the second copies. -/
theorem part29_eq (c : Dev nD) : appl (k0_part29 (F := F)) c (mpw c) (neB c 31#32) = seqK (recv1Blk c) [31] (do
    let g ← ldW commM ![0, 0, 0] inb_S32x8x512_S32x8x512_0_0_0 (View.loadsAt_vmem h_S32x8x512)
    let x ← ldR c accM (View.loadsAt_vmem h_S8x512)
    let _ ← ldW redM ![0, 0] inb_S8x512_S8x512_0_0 (View.loadsAt_vmem h_S8x512)
    stRed (k0_pay26 (mpw c) g x)
    seqK (send2Blk c) [0, 1, 2, 3, 4] (pure ⟨k0_pay25 (mpw c) g x, neW c 5#32⟩)) := by
  rw [k0_part29_eq_skeleton]; unfold k0_part29_skel
  refine recv1_step c 31 (p := neB c 31#32 = 1#1) (neB_iff 31#32 31 (by decide +kernel) c) _ _ _ _ _ rfl rfl ?_
  refine bindc fun g => bindc fun x => bindc fun _ => bindc fun _ => ?_
  refine send2_step c 0 (p := k0_cond65 c = 1#1) (by revert c; decide +kernel) _ _ _ _ _ _ rfl ClosedOff.eq ClosedOff.eq (by decide +kernel) ?_
  refine send2_step c 1 (p := k0_cond66 c = 1#1) (by revert c; decide +kernel) _ _ _ _ _ _ rfl ClosedOff.eq ClosedOff.eq (by decide +kernel) ?_
  refine send2_step c 2 (p := k0_cond67 c = 1#1) (by revert c; decide +kernel) _ _ _ _ _ _ rfl ClosedOff.eq ClosedOff.eq (by decide +kernel) ?_
  refine send2_step c 3 (p := k0_cond68 c = 1#1) (by revert c; decide +kernel) _ _ _ _ _ _ rfl ClosedOff.eq ClosedOff.eq (by decide +kernel) ?_
  refine send2_step c 4 (p := k0_cond69 c = 1#1) (by revert c; decide +kernel) _ _ _ _ _ _ rfl ClosedOff.eq ClosedOff.eq (by decide +kernel) ?_
  rfl

set_option maxHeartbeats 800000 in
/-- Part 35: the last receipts of finished rows. -/
theorem part35_eq (c : Dev nD) : appl (k0_part35 (F := F)) (mpw c) (neW c 23#32) = seqK (recv2Blk c) [23, 24, 25, 26, 27, 28, 29, 30, 31] (do
    let g ← ldW gatM ![0, 0, 0] inb_S32x8x512_S32x8x512_0_0_0 (View.loadsAt_vmem h_S32x8x512)
    let _ ← ldW outM ![0, 0] inb_S256x512_S256x512_0_0 (View.loadsAt_vmem h_S256x512)
    pure (k0_pay27 g)) := by
  rw [k0_part35_eq_skeleton]; unfold k0_part35_skel
  refine recv2_step c 23 (p := neB c 23#32 = 1#1) (neB_iff 23#32 23 (by decide +kernel) c) _ _ _ _ rfl rfl ?_
  refine recv2_step c 24 (p := neB c 24#32 = 1#1) (neB_iff 24#32 24 (by decide +kernel) c) _ _ _ _ rfl rfl ?_
  refine recv2_step c 25 (p := neB c 25#32 = 1#1) (neB_iff 25#32 25 (by decide +kernel) c) _ _ _ _ rfl rfl ?_
  refine recv2_step c 26 (p := neB c 26#32 = 1#1) (neB_iff 26#32 26 (by decide +kernel) c) _ _ _ _ rfl rfl ?_
  refine recv2_step c 27 (p := neB c 27#32 = 1#1) (neB_iff 27#32 27 (by decide +kernel) c) _ _ _ _ rfl rfl ?_
  refine recv2_step c 28 (p := neB c 28#32 = 1#1) (neB_iff 28#32 28 (by decide +kernel) c) _ _ _ _ rfl rfl ?_
  refine recv2_step c 29 (p := neB c 29#32 = 1#1) (neB_iff 29#32 29 (by decide +kernel) c) _ _ _ _ rfl rfl ?_
  refine recv2_step c 30 (p := neB c 30#32 = 1#1) (neB_iff 30#32 30 (by decide +kernel) c) _ _ _ _ rfl rfl ?_
  refine recv2_step c 31 (p := neB c 31#32 = 1#1) (neB_iff 31#32 31 (by decide +kernel) c) _ _ _ _ rfl rfl ?_
  rfl

set_option maxHeartbeats 800000 in
/-- Part 36: the result stored, the first waits for the copies sent. -/
theorem part36_eq (c : Dev nD) (s : FVec F S8x512 .f32) (v : FVec F S256x512 .f32) : appl (k0_part36 (F := F)) c (mpw c) s v = (do
    stW outM v
    let _ ← ldR c outM (View.loadsAt_vmem h_S8x512)
    stR c s
    seqK (finBlk c) [0, 1, 2, 3, 4, 5, 6, 7] (pure (neB c 8#32))) := by
  rw [k0_part36_eq_skeleton]; unfold k0_part36_skel
  refine bindc fun _ => bindc fun _ => bindc fun _ => ?_
  refine fin_step c 0 (p := neB c 0#32 = 1#1) (neB_iff 0#32 0 (by decide +kernel) c) _ _ _ _ _ _ _ _ _ rfl rfl rfl rfl rfl ?_
  refine fin_step c 1 (p := neB c 1#32 = 1#1) (neB_iff 1#32 1 (by decide +kernel) c) _ _ _ _ _ _ _ _ _ rfl rfl rfl rfl rfl ?_
  refine fin_step c 2 (p := neB c 2#32 = 1#1) (neB_iff 2#32 2 (by decide +kernel) c) _ _ _ _ _ _ _ _ _ rfl rfl rfl rfl rfl ?_
  refine fin_step c 3 (p := neB c 3#32 = 1#1) (neB_iff 3#32 3 (by decide +kernel) c) _ _ _ _ _ _ _ _ _ rfl rfl rfl rfl rfl ?_
  refine fin_step c 4 (p := neB c 4#32 = 1#1) (neB_iff 4#32 4 (by decide +kernel) c) _ _ _ _ _ _ _ _ _ rfl rfl rfl rfl rfl ?_
  refine fin_step c 5 (p := neB c 5#32 = 1#1) (neB_iff 5#32 5 (by decide +kernel) c) _ _ _ _ _ _ _ _ _ rfl rfl rfl rfl rfl ?_
  refine fin_step c 6 (p := neB c 6#32 = 1#1) (neB_iff 6#32 6 (by decide +kernel) c) _ _ _ _ _ _ _ _ _ rfl rfl rfl rfl rfl ?_
  refine fin_step c 7 (p := neB c 7#32 = 1#1) (neB_iff 7#32 7 (by decide +kernel) c) _ _ _ _ _ _ _ _ _ rfl rfl rfl rfl rfl ?_
  rfl

/-- The end of the body: the last four waits for the copies sent. -/
def tailP (v2 : BitVec 32) (v1234 : BitVec 1) : Prog (TpuEff nD τ sig (Elt F) Λ₀ .tc) PUnit := do
  if k0_h157 : v1234 = 1#1 then do
    let v1244 : DmaSems sig S1 := (cc0_scratch13 : DmaSems sig S32).slice (Rect.unit (s := S32) ![28] S1.size inb_S32_S1_28)
    let v1245 : DmaSems sig S_ := v1244.squeeze S_ squeezes_S1_S_
    let v1246 : Memref sig .tc .vmem S8x512 .bf16 := abM.slice (Rect.unit (s := S256x512) ![224, 0] S8x512.size inb_S256x512_S8x512_224_0) (fun _ => rfl)
    let v1247 : Memref sig .tc .vmem S1x8x512 .bf16 := commM.slice (Rect.unit (s := S32x8x512) ![28, 0, 0] S1x8x512.size inb_S32x8x512_S1x8x512_28_0_0) (fun _ => rfl)
    let v1248 : Memref sig .tc .vmem S8x512 .bf16 := v1247.squeeze S8x512 squeezes_S1x8x512_S8x512
    Prog.lift (.waitDma2 v1245.sem v1248 v1246 (((Memref.isWhole_whole _ : commM.IsWhole).wordExact_slice rfl _ wordsbf16_S32x8x512_S1x8x512_28_0_0).reshape _ _) ((Memref.isWhole_whole _ : abM.IsWhole).wordExact_slice rfl _ wordsbf16_S256x512_S8x512_224_0))
    let v1249 : DmaSems sig S1 := (cc0_scratch15 : DmaSems sig S32).slice (Rect.unit (s := S32) ![28] S1.size inb_S32_S1_28)
    let v1250 : DmaSems sig S_ := v1249.squeeze S_ squeezes_S1_S_
    let v1251 : Memref sig .tc .vmem S1x8x512 .bf16 := gatM.slice (Rect.unit (s := S32x8x512) ![28, 0, 0] S1x8x512.size inb_S32x8x512_S1x8x512_28_0_0) (fun _ => rfl)
    let v1252 : Memref sig .tc .vmem S8x512 .bf16 := v1251.squeeze S8x512 squeezes_S1x8x512_S8x512
    Prog.lift (.waitDma2 v1250.sem v1252 redM (((Memref.isWhole_whole _ : gatM.IsWhole).wordExact_slice rfl _ wordsbf16_S32x8x512_S1x8x512_28_0_0).reshape _ _) (Memref.isWhole_whole _ : redM.IsWhole).wordExact)
    pure ⟨⟩
  else do
    pure ⟨⟩
  let v1235 : BitVec 1 := Scalar.cmpi .ne v2 29#32
  let v1236 : BitVec 32 := Scalar.extui v1235
  let v1237 : BitVec 1 := Scalar.cmpi .ne v1236 0#32
  if k0_h158 : v1237 = 1#1 then do
    let v1244 : DmaSems sig S1 := (cc0_scratch13 : DmaSems sig S32).slice (Rect.unit (s := S32) ![29] S1.size inb_S32_S1_29)
    let v1245 : DmaSems sig S_ := v1244.squeeze S_ squeezes_S1_S_
    let v1246 : Memref sig .tc .vmem S8x512 .bf16 := abM.slice (Rect.unit (s := S256x512) ![232, 0] S8x512.size inb_S256x512_S8x512_232_0) (fun _ => rfl)
    let v1247 : Memref sig .tc .vmem S1x8x512 .bf16 := commM.slice (Rect.unit (s := S32x8x512) ![29, 0, 0] S1x8x512.size inb_S32x8x512_S1x8x512_29_0_0) (fun _ => rfl)
    let v1248 : Memref sig .tc .vmem S8x512 .bf16 := v1247.squeeze S8x512 squeezes_S1x8x512_S8x512
    Prog.lift (.waitDma2 v1245.sem v1248 v1246 (((Memref.isWhole_whole _ : commM.IsWhole).wordExact_slice rfl _ wordsbf16_S32x8x512_S1x8x512_29_0_0).reshape _ _) ((Memref.isWhole_whole _ : abM.IsWhole).wordExact_slice rfl _ wordsbf16_S256x512_S8x512_232_0))
    let v1249 : DmaSems sig S1 := (cc0_scratch15 : DmaSems sig S32).slice (Rect.unit (s := S32) ![29] S1.size inb_S32_S1_29)
    let v1250 : DmaSems sig S_ := v1249.squeeze S_ squeezes_S1_S_
    let v1251 : Memref sig .tc .vmem S1x8x512 .bf16 := gatM.slice (Rect.unit (s := S32x8x512) ![29, 0, 0] S1x8x512.size inb_S32x8x512_S1x8x512_29_0_0) (fun _ => rfl)
    let v1252 : Memref sig .tc .vmem S8x512 .bf16 := v1251.squeeze S8x512 squeezes_S1x8x512_S8x512
    Prog.lift (.waitDma2 v1250.sem v1252 redM (((Memref.isWhole_whole _ : gatM.IsWhole).wordExact_slice rfl _ wordsbf16_S32x8x512_S1x8x512_29_0_0).reshape _ _) (Memref.isWhole_whole _ : redM.IsWhole).wordExact)
    pure ⟨⟩
  else do
    pure ⟨⟩
  let v1238 : BitVec 1 := Scalar.cmpi .ne v2 30#32
  let v1239 : BitVec 32 := Scalar.extui v1238
  let v1240 : BitVec 1 := Scalar.cmpi .ne v1239 0#32
  if k0_h159 : v1240 = 1#1 then do
    let v1244 : DmaSems sig S1 := (cc0_scratch13 : DmaSems sig S32).slice (Rect.unit (s := S32) ![30] S1.size inb_S32_S1_30)
    let v1245 : DmaSems sig S_ := v1244.squeeze S_ squeezes_S1_S_
    let v1246 : Memref sig .tc .vmem S8x512 .bf16 := abM.slice (Rect.unit (s := S256x512) ![240, 0] S8x512.size inb_S256x512_S8x512_240_0) (fun _ => rfl)
    let v1247 : Memref sig .tc .vmem S1x8x512 .bf16 := commM.slice (Rect.unit (s := S32x8x512) ![30, 0, 0] S1x8x512.size inb_S32x8x512_S1x8x512_30_0_0) (fun _ => rfl)
    let v1248 : Memref sig .tc .vmem S8x512 .bf16 := v1247.squeeze S8x512 squeezes_S1x8x512_S8x512
    Prog.lift (.waitDma2 v1245.sem v1248 v1246 (((Memref.isWhole_whole _ : commM.IsWhole).wordExact_slice rfl _ wordsbf16_S32x8x512_S1x8x512_30_0_0).reshape _ _) ((Memref.isWhole_whole _ : abM.IsWhole).wordExact_slice rfl _ wordsbf16_S256x512_S8x512_240_0))
    let v1249 : DmaSems sig S1 := (cc0_scratch15 : DmaSems sig S32).slice (Rect.unit (s := S32) ![30] S1.size inb_S32_S1_30)
    let v1250 : DmaSems sig S_ := v1249.squeeze S_ squeezes_S1_S_
    let v1251 : Memref sig .tc .vmem S1x8x512 .bf16 := gatM.slice (Rect.unit (s := S32x8x512) ![30, 0, 0] S1x8x512.size inb_S32x8x512_S1x8x512_30_0_0) (fun _ => rfl)
    let v1252 : Memref sig .tc .vmem S8x512 .bf16 := v1251.squeeze S8x512 squeezes_S1x8x512_S8x512
    Prog.lift (.waitDma2 v1250.sem v1252 redM (((Memref.isWhole_whole _ : gatM.IsWhole).wordExact_slice rfl _ wordsbf16_S32x8x512_S1x8x512_30_0_0).reshape _ _) (Memref.isWhole_whole _ : redM.IsWhole).wordExact)
    pure ⟨⟩
  else do
    pure ⟨⟩
  let v1241 : BitVec 1 := Scalar.cmpi .ne v2 31#32
  let v1242 : BitVec 32 := Scalar.extui v1241
  let v1243 : BitVec 1 := Scalar.cmpi .ne v1242 0#32
  if k0_h160 : v1243 = 1#1 then do
    let v1244 : DmaSems sig S1 := (cc0_scratch13 : DmaSems sig S32).slice (Rect.unit (s := S32) ![31] S1.size inb_S32_S1_31)
    let v1245 : DmaSems sig S_ := v1244.squeeze S_ squeezes_S1_S_
    let v1246 : Memref sig .tc .vmem S8x512 .bf16 := abM.slice (Rect.unit (s := S256x512) ![248, 0] S8x512.size inb_S256x512_S8x512_248_0) (fun _ => rfl)
    let v1247 : Memref sig .tc .vmem S1x8x512 .bf16 := commM.slice (Rect.unit (s := S32x8x512) ![31, 0, 0] S1x8x512.size inb_S32x8x512_S1x8x512_31_0_0) (fun _ => rfl)
    let v1248 : Memref sig .tc .vmem S8x512 .bf16 := v1247.squeeze S8x512 squeezes_S1x8x512_S8x512
    Prog.lift (.waitDma2 v1245.sem v1248 v1246 (((Memref.isWhole_whole _ : commM.IsWhole).wordExact_slice rfl _ wordsbf16_S32x8x512_S1x8x512_31_0_0).reshape _ _) ((Memref.isWhole_whole _ : abM.IsWhole).wordExact_slice rfl _ wordsbf16_S256x512_S8x512_248_0))
    let v1249 : DmaSems sig S1 := (cc0_scratch15 : DmaSems sig S32).slice (Rect.unit (s := S32) ![31] S1.size inb_S32_S1_31)
    let v1250 : DmaSems sig S_ := v1249.squeeze S_ squeezes_S1_S_
    let v1251 : Memref sig .tc .vmem S1x8x512 .bf16 := gatM.slice (Rect.unit (s := S32x8x512) ![31, 0, 0] S1x8x512.size inb_S32x8x512_S1x8x512_31_0_0) (fun _ => rfl)
    let v1252 : Memref sig .tc .vmem S8x512 .bf16 := v1251.squeeze S8x512 squeezes_S1x8x512_S8x512
    Prog.lift (.waitDma2 v1250.sem v1252 redM (((Memref.isWhole_whole _ : gatM.IsWhole).wordExact_slice rfl _ wordsbf16_S32x8x512_S1x8x512_31_0_0).reshape _ _) (Memref.isWhole_whole _ : redM.IsWhole).wordExact)
    pure ⟨⟩
  else do
    pure ⟨⟩
  pure ⟨⟩

set_option maxHeartbeats 800000 in
theorem tail_eq (c : Dev nD) : tailP (F := F) (mpw c) (neB c 28#32) = seqK (finBlk c) [28, 29, 30, 31] (pure ⟨⟩) := by
  unfold tailP
  refine fin_step c 28 (p := neB c 28#32 = 1#1) (neB_iff 28#32 28 (by decide +kernel) c) _ _ _ _ _ _ _ _ _ rfl rfl rfl rfl rfl ?_
  refine fin_step c 29 (p := neB c 29#32 = 1#1) (neB_iff 29#32 29 (by decide +kernel) c) _ _ _ _ _ _ _ _ _ rfl rfl rfl rfl rfl ?_
  refine fin_step c 30 (p := neB c 30#32 = 1#1) (neB_iff 30#32 30 (by decide +kernel) c) _ _ _ _ _ _ _ _ _ rfl rfl rfl rfl rfl ?_
  refine fin_step c 31 (p := neB c 31#32 = 1#1) (neB_iff 31#32 31 (by decide +kernel) c) _ _ _ _ _ _ _ _ _ rfl rfl rfl rfl rfl ?_
  rfl

/-- The body as the chain of its parts. -/
def bodyP : Prog (TpuEff nD τ sig (Elt F) Λ₀ .tc) PUnit := do
  let r1 ← appl (k0_part1 (F := F))
  let r2 ← appl (k0_part2 (F := F)) r1.1 r1.2.1 r1.2.2.1 r1.2.2.2
  let r3 ← appl (k0_part3 (F := F)) r1.1 r1.2.1 r1.2.2.1 r2.1 r2.2.1 r2.2.2
  let r4 ← appl (k0_part4 (F := F)) r1.1 r1.2.1 r1.2.2.1 r3
  let r5 ← appl (k0_part5 (F := F)) r1.1 r1.2.1 r1.2.2.1 r4.1 r4.2.1 r4.2.2
  let r6 ← appl (k0_part6 (F := F)) r1.1 r1.2.1 r1.2.2.1 r5
  let r7 ← appl (k0_part7 (F := F)) r1.1 r1.2.1 r1.2.2.1 r6.1 r6.2.1 r6.2.2
  let r8 ← appl (k0_part8 (F := F)) r1.1 r1.2.1 r1.2.2.1 r7
  let r9 ← appl (k0_part9 (F := F)) r1.1 r1.2.1 r1.2.2.1 r8.1 r8.2.1 r8.2.2
  let r10 ← appl (k0_part10 (F := F)) r1.1 r1.2.1 r1.2.2.1 r9
  let r11 ← appl (k0_part11 (F := F)) r1.1 r1.2.1 r1.2.2.1 r10.1 r10.2.1 r10.2.2
  let r12 ← appl (k0_part12 (F := F)) r1.1 r1.2.1 r1.2.2.1 r11
  let r13 ← appl (k0_part13 (F := F)) r1.1 r1.2.1 r1.2.2.1 r12.1 r12.2.1 r12.2.2
  let r14 ← appl (k0_part14 (F := F)) r1.1 r1.2.2.1 r13
  let r15 ← appl (k0_part15 (F := F)) r14.2.1 r14.2.2.1 r14.2.2.2
  let r16 ← appl (k0_part16 (F := F)) r1.1 r14.1 r15.1 r15.2.1 r15.2.2
  let r17 ← appl (k0_part17 (F := F)) r14.1 r16.1 r16.2
  let r18 ← appl (k0_part18 (F := F)) r14.1 r16.1 r17
  let r19 ← appl (k0_part19 (F := F)) r14.1 r16.1 r18
  let r20 ← appl (k0_part20 (F := F)) r14.1 r16.1 r19
  let r21 ← appl (k0_part21 (F := F)) r14.1 r16.1 r20
  appl (k0_part22 (F := F)) r1.1 r1.2.1 r21.1 r21.2
  appl (k0_part23 (F := F)) r1.1 r1.2.1
  appl (k0_part24 (F := F)) r1.1 r1.2.1
  let r25 ← appl (k0_part25 (F := F)) r1.1 r1.2.1
  let r26 ← appl (k0_part26 (F := F)) r1.2.1 r25
  let r27 ← appl (k0_part27 (F := F)) r1.2.1 r26
  let r28 ← appl (k0_part28 (F := F)) r1.2.1 r27
  let r29 ← appl (k0_part29 (F := F)) r1.1 r1.2.1 r28
  let r30 ← appl (k0_part30 (F := F)) r1.1 r1.2.1 r29.2
  let r31 ← appl (k0_part31 (F := F)) r1.1 r1.2.1 r30
  let r32 ← appl (k0_part32 (F := F)) r1.1 r1.2.1 r31
  let r33 ← appl (k0_part33 (F := F)) r1.2.1 r32
  let r34 ← appl (k0_part34 (F := F)) r1.2.1 r33
  let r35 ← appl (k0_part35 (F := F)) r1.2.1 r34
  let r36 ← appl (k0_part36 (F := F)) r1.1 r1.2.1 r29.1 r35
  let r37 ← appl (k0_part37 (F := F)) r1.2.1 r36
  let r38 ← appl (k0_part38 (F := F)) r1.2.1 r37
  tailP r1.2.1 r38

set_option maxRecDepth 20000 in
set_option maxHeartbeats 4000000 in
theorem body_eq : appl (cc0_body (F := F)) = bodyP := rfl

end Cert.KProof
-- ==== Proof.Phases.lean ====
/-
# The six loops, and what is held between them

A run of each loop over consecutive devices; how the pieces one loop leaves are what the next one takes.
-/
module

public import proofs.«01_k».proof.Proof.Stages

@[expose] public section

set_option backward.proofsInPublic true

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- The handshake before its step `n`; the first copies, the first receipts, the second copies, the second receipts, the waits for what was sent. -/
abbrev PhB (n : ℕ) : sProp 𝕄 := Ph (fun o => (0 : Dev nD) ≠ o) c (OBn c) (ΨB c) (fun _ => iprop(emp)) n
abbrev PhS1 (n : ℕ) : sProp 𝕄 := Ph (fun j => c ≠ j) c (O1n c) (ΨS1 m c) (ΨS1' c) n
abbrev PhR1 (n : ℕ) : sProp 𝕄 := Ph (fun j => c ≠ j) c (fun _ => O2 c (others c)) (ΨR1 c) (ΨR1' m c) n
abbrev PhS2 (n : ℕ) : sProp 𝕄 := Ph (fun j => c ≠ j) c (O2n c) (ΨS2 m c) (ΨS2' c) n
abbrev PhR2 (n : ℕ) : sProp 𝕄 := Ph (fun j => c ≠ j) c (fun _ => 0) (ΨR2 c) (ΨR2' m c) n
abbrev PhF (n : ℕ) : sProp 𝕄 := Ph (fun j => c ≠ j) c (fun _ => 0) (ΨF c) (ΨF' m c) n

section Runs
variable {β : Type} (l : List (Dev nD)) (n k : ℕ) (h : l.map (fun o => o.val) = List.range' n k) (Kp : Prog (TpuEff nD τ sig (Elt F) Λ₀ .tc) β) (Q : β → sProp (MT nD τ sig Unit (Elt F) ℕ UU ℕ))
include h

theorem runB : iprop(recs m K ∗ PhB c n ∗ (PhB c (n + k) -∗ WP c Kp Q)) ⊢ WP c (seqK (sigBlk c) l Kp) Q :=
  phase (fun o => (0 : Dev nD) ≠ o) c (OBn c) (ΨB c) (fun _ => iprop(emp)) (recs m K) (sigBlk c) (fun o ho => by unfold sigBlk; exact if_neg ho) (fun o ho => by unfold OBn; rw [TS_skip _ ho])
    (fun o ho W Q => sig_step m K c o ho W Q) Kp Q l n k h

theorem runS1 : iprop(recs m K ∗ PhS1 m c n ∗ (PhS1 m c (n + k) -∗ WP c Kp Q)) ⊢ WP c (seqK (send1Blk c) l Kp) Q :=
  phase (fun o => c ≠ o) c (O1n c) (ΨS1 m c) (ΨS1' c) (recs m K) (send1Blk c) (fun o ho => by unfold send1Blk; exact if_neg ho) (fun o ho => by unfold O1n; rw [TS_skip _ ho])
    (fun o ho W Q => send1_run m K c o ho W Q) Kp Q l n k h

theorem runR1 : iprop(recs m K ∗ PhR1 m c n ∗ (PhR1 m c (n + k) -∗ WP c Kp Q)) ⊢ WP c (seqK (recv1Blk c) l Kp) Q :=
  phase (fun o => c ≠ o) c (fun _ => O2 c (others c)) (ΨR1 c) (ΨR1' m c) (recs m K) (recv1Blk c) (fun o ho => by unfold recv1Blk; exact if_neg ho) (fun _ _ => rfl)
    (fun o ho W Q => recv1_run m K c o ho W Q) Kp Q l n k h

theorem runS2 : iprop(recs m K ∗ PhS2 m c n ∗ (PhS2 m c (n + k) -∗ WP c Kp Q)) ⊢ WP c (seqK (send2Blk c) l Kp) Q :=
  phase (fun o => c ≠ o) c (O2n c) (ΨS2 m c) (ΨS2' c) (recs m K) (send2Blk c) (fun o ho => by unfold send2Blk; exact if_neg ho) (fun o ho => by unfold O2n; rw [TS_skip _ ho])
    (fun o ho W Q => send2_run m K c o ho W Q) Kp Q l n k h

theorem runR2 : iprop(recs m K ∗ PhR2 m c n ∗ (PhR2 m c (n + k) -∗ WP c Kp Q)) ⊢ WP c (seqK (recv2Blk c) l Kp) Q :=
  phase (fun o => c ≠ o) c (fun _ => 0) (ΨR2 c) (ΨR2' m c) (recs m K) (recv2Blk c) (fun o ho => by unfold recv2Blk; exact if_neg ho) (fun _ _ => rfl)
    (fun o ho W Q => recv2_run m K c o ho W Q) Kp Q l n k h

theorem runF : iprop(recs m K ∗ PhF m c n ∗ (PhF m c (n + k) -∗ WP c Kp Q)) ⊢ WP c (seqK (finBlk c) l Kp) Q :=
  phase (fun o => c ≠ o) c (fun _ => 0) (ΨF c) (ΨF' m c) (recs m K) (finBlk c) (fun o ho => by unfold finBlk; exact if_neg ho) (fun _ _ => rfl)
    (fun o ho W Q => fin_run m K c o ho W Q) Kp Q l n k h

end Runs

/-! ## Between the loops -/

theorem bs_pair {Φ Ψ : Dev nD → sProp 𝕄} (S : Finset (Dev nD)) : iprop(bigSep S Φ ∗ bigSep S Ψ) ⊢ bigSep S fun j => iprop(Φ j ∗ Ψ j) :=
  Entails.of_eq (bigSep_sep' S Φ Ψ).symm
theorem bs_unpair {Φ Ψ : Dev nD → sProp 𝕄} (S : Finset (Dev nD)) : bigSep S (fun j => iprop(Φ j ∗ Ψ j)) ⊢ iprop(bigSep S Φ ∗ bigSep S Ψ) :=
  Entails.of_eq (bigSep_sep' S Φ Ψ)
theorem bs_some {α : Type} {Φ : Dev nD → α → sProp 𝕄} (S : Finset (Dev nD)) (f : α) : bigSep S (fun j => Φ j f) ⊢ bigSep S fun j => iprop(∃ f, Φ j f) :=
  bigSep_mono fun j _ => by show Φ j f ⊢ iprop(∃ f, Φ j f); iintro H; iexists f; iexact H

/-- A debt, the record of the waits left open. -/
theorem owE_eq {O O' : CellTallies nD τ sig Unit} (h : O = O') : OwE c O ⊢ (iprop(∃ W, owes (c : Thread nD τ) O' W) : sProp 𝕄) := by subst h; unfold OwE; exact .rfl

/-- The slots of its receive buffers a device offers the others at the handshake. -/
theorem slots_give (f g : Vec F S32x8x512 .bf16) : iprop(bigSep (others c) (fun j => commPt c j f) ∗ bigSep (others c) (fun j => gatPt c j g))
    ⊢ bigSep steps fun o => slots (F := F) c (shift c o) := by
  rw [← bs_shift c (fun d => slots c d)]
  iintro ⟨H, H'⟩
  ihave H := (bs_some (Φ := fun j f => commPt c j f) (others c) f) $$ H
  ihave H' := (bs_some (Φ := fun j f => gatPt c j f) (others c) g) $$ H'
  iapply (bs_pair (others c))
  isplitl [H]; · iexact H
  iexact H'

theorem startB : iprop(OwE c (O₀ c) ∗ bigSep steps (fun o => slots (F := F) c (shift c o)) ∗ bigSep steps (fun o => dutyTok ER (kcell (shift c o, kBar)) 0 c)) ⊢ PhB c 1 := by
  have hT : TS (fun o => (0 : Dev nD) ≠ o) 1 = steps := by decide +kernel
  have hD : DS (fun o => (0 : Dev nD) ≠ o) 1 = ∅ := by decide +kernel
  unfold PhB Ph OBn
  rw [hT, hD, bigSep_empty]
  iintro ⟨HO, H, H'⟩
  isplitl [HO]; · iapply (owE_eq c rfl); iexact HO
  isplitl [H H']
  · iapply (bs_pair steps)
    isplitl [H]; · iexact H
    iexact H'
  · iempintro
theorem endB : PhB c 32 ⊢ OwE (F := F) c (O1 c (others c) + O2 c (others c)) := by
  unfold OwE PhB OBn OB; rw [Ph_end]
  rw [TS_end, Finset.sum_empty, zero_add]
  iintro ⟨H, -⟩; iexact H

abbrev T1 (j : Dev nD) : sProp 𝕄 := iprop(dutyTok ER (kcell (c, kS1 j)) 0 c ∗ dutyTok ER (kcell (j, kR1 c)) 0 c)
abbrev T2 (j : Dev nD) : sProp 𝕄 := iprop(dutyTok ER (kcell (c, kS2 j)) 0 c ∗ dutyTok ER (kcell (j, kR2 c)) 0 c)

theorem startS1 : iprop(OwE c (O1 c (others c) + O2 c (others c)) ∗ bigSep (others c) (fun j => rowPt c j (accbV m c)) ∗ bigSep (others c) (fun j => iprop(∃ f, commPt j c f))
    ∗ bigSep (others c) (T1 c)) ⊢ PhS1 m c 0 := by
  unfold OwE PhS1 O1n; rw [Ph_zero]
  rw [TS_zero]
  iintro ⟨HO, H1, H2, H3⟩
  isplitl [HO]; · iexact HO
  isplitr []
  · iapply (bs_pair (others c))
    isplitl [H1]; · iexact H1
    iapply (bs_pair (others c))
    isplitl [H2]; · iexact H2
    iexact H3
  · iempintro
theorem endS1 : PhS1 m c 32 ⊢ iprop(OwE c (O2 c (others c)) ∗ bigSep (others c) (ΨS1' c)) := by
  unfold OwE PhS1 O1n O1; rw [Ph_end]
  rw [TS_end, Finset.sum_empty, zero_add]
  iintro ⟨H, -, H'⟩
  isplitl [H]; · iexact H
  iexact H'

theorem startR1 : iprop(OwE c (O2 c (others c)) ∗ bigSep (others c) (ΨR1 c)) ⊢ PhR1 m c 0 := by
  unfold OwE PhR1; rw [Ph_zero]
  iintro ⟨HO, H⟩
  isplitl [HO]; · iexact HO
  isplitl [H]; · iexact H
  iempintro
theorem endR1 : PhR1 m c 32 ⊢ iprop(OwE c (O2 c (others c)) ∗ bigSep (others c) (fun j => commPt c j (commV m c)) ∗ bigSep (others c) (fun j => atPos ER (kcell (c, kR1 j)) 1 ∅ 0)) := by
  unfold OwE PhR1; rw [Ph_end]
  iintro ⟨H, -, H'⟩
  isplitl [H]; · iexact H
  iapply (bs_unpair (others c)); iexact H'

theorem startS2 : iprop(OwE c (O2 c (others c)) ∗ bigSep (others c) (fun j => redPt c j (redV m c)) ∗ bigSep (others c) (fun j => iprop(∃ f, gatPt j c f))
    ∗ bigSep (others c) (T2 c)) ⊢ PhS2 m c 0 := by
  unfold OwE PhS2 O2n; rw [Ph_zero]
  rw [TS_zero]
  iintro ⟨HO, H1, H2, H3⟩
  isplitl [HO]; · iexact HO
  isplitr []
  · iapply (bs_pair (others c))
    isplitl [H1]; · iexact H1
    iapply (bs_pair (others c))
    isplitl [H2]; · iexact H2
    iexact H3
  · iempintro
theorem endS2 : PhS2 m c 32 ⊢ iprop(OwE c 0 ∗ bigSep (others c) (ΨS2' c)) := by
  unfold OwE PhS2 O2n O2; rw [Ph_end]
  rw [TS_end, Finset.sum_empty]
  iintro ⟨H, -, H'⟩
  isplitl [H]; · iexact H
  iexact H'

theorem startR2 : iprop(OwE c 0 ∗ bigSep (others c) (ΨR2 c)) ⊢ PhR2 m c 0 := by
  unfold OwE PhR2; rw [Ph_zero]
  iintro ⟨HO, H⟩
  isplitl [HO]; · iexact HO
  isplitl [H]; · iexact H
  iempintro
theorem endR2 : PhR2 m c 32 ⊢ iprop(OwE c 0 ∗ bigSep (others c) (fun j => gatPt c j (gatV m)) ∗ bigSep (others c) (fun j => atPos ER (kcell (c, kR2 j)) 1 ∅ 0)) := by
  unfold OwE PhR2; rw [Ph_end]
  iintro ⟨H, -, H'⟩
  isplitl [H]; · iexact H
  iapply (bs_unpair (others c)); iexact H'

/-- The cells of the copies sent, before their waits. -/
abbrev AF (j : Dev nD) : sProp 𝕄 := iprop(atPos ER (kcell (c, kS1 j)) 0 ∅ 0 ∗ atPos ER (kcell (c, kS2 j)) 0 ∅ 0)
theorem startF : iprop(OwE c 0 ∗ bigSep (others c) (ΨS1' c) ∗ bigSep (others c) (ΨS2' c) ∗ bigSep (others c) (AF c)) ⊢ PhF m c 0 := by
  unfold OwE PhF; rw [Ph_zero]
  iintro ⟨HO, H1, H2, H3⟩
  ihave ⟨H3, H4⟩ := (bs_unpair (others c)) $$ H3
  isplitl [HO]; · iexact HO
  isplitr []
  · iapply (bs_pair (others c))
    isplitl [H1 H3]
    · iapply (bs_pair (others c))
      isplitl [H1]; · iexact H1
      iexact H3
    · iapply (bs_pair (others c))
      isplitl [H2]; · iexact H2
      iexact H4
  · iempintro
theorem endF : PhF m c 32 ⊢ iprop(OwE c 0 ∗ (bigSep (others c) (fun j => rowPt c j (accbV m c)) ∗ bigSep (others c) (fun j => atPos ER (kcell (c, kS1 j)) 1 ∅ 0))
    ∗ (bigSep (others c) (fun j => redPt c j (redV m c)) ∗ bigSep (others c) (fun j => atPos ER (kcell (c, kS2 j)) 1 ∅ 0))) := by
  unfold OwE PhF; rw [Ph_end]
  iintro ⟨H, -, H'⟩
  ihave ⟨H1, H2⟩ := (bs_unpair (others c)) $$ H'
  isplitl [H]; · iexact H
  isplitl [H1]
  · iapply (bs_unpair (others c)); iexact H1
  · iapply (bs_unpair (others c)); iexact H2

/-! ## Whole-buffer operations -/

theorem hz2 : (![0, 0] : Fin 2 → ℕ) = fun _ => 0 := by decide
theorem hz3 : (![0, 0, 0] : Fin 3 → ℕ) = fun _ => 0 := by decide

theorem ldW_run {s : Shape} {e : EltTy} (M : Memref sig .tc .vmem s e) (off inb hl) (f : Buf (Elt F) (M.view.loc (c : Thread nD τ))) (g : Vec F s e)
    (hf : M.view.readAt (Elt F) (Rect.unit off s.size inb).toLoadRect f = g) (Q) :
    iprop((M.view.loc (c : Thread nD τ) ↦{fullShare} f) ∗ ((M.view.loc (c : Thread nD τ) ↦{fullShare} f) -∗ Q g)) ⊢ WP c (ldW M off inb hl) Q := by
  subst hf; unfold ldW
  exact load_run c M _ hl f Q
theorem stAcc_run (w f : Vec F S256x512 .f32) (Q) : iprop(pt c cc0_scratch6 f ∗ (pt c cc0_scratch6 w -∗ Q ⟨⟩)) ⊢ WP c (stW accM w) Q := by
  have e : (accM.access (Rect.unit (s := S256x512) ![0, 0] S256x512.size inb_S256x512_S256x512_0_0) : View sig .tc _ _ _).write (Elt F) f w Finset.univ = w :=
    Memref.write_access_unit_zero_univ (Elt F) cc0_scratch6 hz2 _ f w
  have h := store_run c accM (Rect.unit (s := S256x512) ![0, 0] S256x512.size inb_S256x512_S256x512_0_0) w (View.stores_vmem_bits_univ h_S256x512 rfl) (.inl rfl) f Q
  rw [e] at h; unfold stW; exact h
theorem stOut_run (w f : Vec F S256x512 .f32) (Q) : iprop(pt c cc0_stg0_0 f ∗ (pt c cc0_stg0_0 w -∗ Q ⟨⟩)) ⊢ WP c (stW outM w) Q := by
  have e : (outM.access (Rect.unit (s := S256x512) ![0, 0] S256x512.size inb_S256x512_S256x512_0_0) : View sig .tc _ _ _).write (Elt F) f w Finset.univ = w :=
    Memref.write_access_unit_zero_univ (Elt F) cc0_stg0_0 hz2 _ f w
  have h := store_run c outM (Rect.unit (s := S256x512) ![0, 0] S256x512.size inb_S256x512_S256x512_0_0) w (View.stores_vmem_bits_univ h_S256x512 rfl) (.inl rfl) f Q
  rw [e] at h; unfold stW; exact h
theorem stAb_run (w f : Vec F S256x512 .bf16) (Q) : iprop(pt c cc0_scratch7 f ∗ (pt c cc0_scratch7 w -∗ Q ⟨⟩)) ⊢ WP c (stAb w) Q := by
  have e : (abM.access (Rect.unit (s := S256x512) ![0, 0] S256x512.size inb_S256x512_S256x512_0_0) : View sig .tc _ _ _).write (Elt F) f w Finset.univ = w :=
    Memref.write_access_unit_zero_univ (Elt F) cc0_scratch7 hz2 _ f w
  have h := store_run c abM (Rect.unit (s := S256x512) ![0, 0] S256x512.size inb_S256x512_S256x512_0_0) w
    (View.stores_vmem h_S256x512 ((Memref.isWhole_whole _ : abM.IsWhole).storeExact_slice rfl _ packedbf16_S256x512_S256x512_0_0) (fun _ => rfl)) (.inl rfl) f Q
  rw [e] at h; unfold stAb; exact h
theorem stRed_run (w f : Vec F S8x512 .bf16) (Q) : iprop(pt c cc0_scratch8 f ∗ (pt c cc0_scratch8 w -∗ Q ⟨⟩)) ⊢ WP c (stRed w) Q := by
  have e : (redM.access (Rect.unit (s := S8x512) ![0, 0] S8x512.size inb_S8x512_S8x512_0_0) : View sig .tc _ _ _).write (Elt F) f w Finset.univ = w :=
    Memref.write_access_unit_zero_univ (Elt F) cc0_scratch8 hz2 _ f w
  have h := store_run c redM (Rect.unit (s := S8x512) ![0, 0] S8x512.size inb_S8x512_S8x512_0_0) w
    (View.stores_vmem h_S8x512 ((Memref.isWhole_whole _ : redM.IsWhole).storeExact_slice rfl _ packedbf16_S8x512_S8x512_0_0) (fun _ => rfl)) (.inl rfl) f Q
  rw [e] at h; unfold stRed; exact h

/-- The wait for a local copy of a whole operand. -/
theorem wtW_run (k : Fin 5) {s : Shape} (src : Memref sig .tc .hbm s .f32) (h) (dst : Memref sig .tc .vmem s .f32) (h') (hN : dst.view.dmaCredit = locN k)
    (O : CellTallies nD τ sig Unit) (hO : OwesTo O 0) (A : sProp 𝕄) (hA : locPay m c k ⊢ A) (Q) :
    iprop(recs m K ∗ OwE c O ∗ lfly c k ∗ (OwE c O -∗ A -∗ lend c k -∗ Q ⟨⟩)) ⊢ WP c (wtW k src h dst h') Q := by
  unfold wtW
  exact loc_wait m K c k (locS k) rfl A hA src dst h h' hN O hO Q

end Cert.KProof
-- ==== Proof.Body.lean ====
/-
# The whole body of a device

The parts with more than one loop in them, then all of them in order.
-/
module

public import proofs.«01_k».proof.Proof.Phases

@[expose] public section

set_option backward.proofsInPublic true

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

theorem owesTo_12 : OwesTo (O1 c (others c) + O2 c (others c)) 0 := owesTo_add (owesTo_O1 c _ (by decide)) (owesTo_O2 c _ (by decide))

section Loops
variable {β : Type} {p : Prog (TpuEff nD τ sig (Elt F) Λ₀ .tc) β} (l : List (Dev nD)) (n k n' : ℕ) (h : l.map (fun o => o.val) = List.range' n k) (hn : n + k = n')
include h hn

/-- A part that is a run of the handshake, its result any words. -/
theorem loopB (e : ∃ r, p = seqK (sigBlk c) l (pure r)) (Q : β → sProp (MT nD τ sig Unit (Elt F) ℕ UU ℕ)) :
    iprop(recs m K ∗ PhB c n ∗ (∀ r, PhB c n' -∗ Q r)) ⊢ WP c p Q := by
  obtain ⟨r, e⟩ := e
  subst hn; rw [e]
  iintro ⟨#HR, H, Hk⟩
  iapply (runB m K c l n k h (pure r) Q)
  isplitr; · iexact HR
  isplitl [H]; · iexact H
  iintro H
  iapply (ret_run c)
  iapply Hk; iexact H

/-- A part that is a run of the first copies. -/
theorem loopS1 {r : β} (e : p = seqK (send1Blk c) l (pure r)) (Q : β → sProp (MT nD τ sig Unit (Elt F) ℕ UU ℕ)) :
    iprop(recs m K ∗ PhS1 m c n ∗ (PhS1 m c n' -∗ Q r)) ⊢ WP c p Q := by
  subst hn; rw [e]
  iintro ⟨#HR, H, Hk⟩
  iapply (runS1 m K c l n k h (pure r) Q)
  isplitr; · iexact HR
  isplitl [H]; · iexact H
  iintro H
  iapply (ret_run c)
  iapply Hk; iexact H

/-- A part that is a run of the first receipts. -/
theorem loopR1 {r : β} (e : p = seqK (recv1Blk c) l (pure r)) (Q : β → sProp (MT nD τ sig Unit (Elt F) ℕ UU ℕ)) :
    iprop(recs m K ∗ PhR1 m c n ∗ (PhR1 m c n' -∗ Q r)) ⊢ WP c p Q := by
  subst hn; rw [e]
  iintro ⟨#HR, H, Hk⟩
  iapply (runR1 m K c l n k h (pure r) Q)
  isplitr; · iexact HR
  isplitl [H]; · iexact H
  iintro H
  iapply (ret_run c)
  iapply Hk; iexact H

/-- A part that is a run of the second copies. -/
theorem loopS2 {r : β} (e : p = seqK (send2Blk c) l (pure r)) (Q : β → sProp (MT nD τ sig Unit (Elt F) ℕ UU ℕ)) :
    iprop(recs m K ∗ PhS2 m c n ∗ (PhS2 m c n' -∗ Q r)) ⊢ WP c p Q := by
  subst hn; rw [e]
  iintro ⟨#HR, H, Hk⟩
  iapply (runS2 m K c l n k h (pure r) Q)
  isplitr; · iexact HR
  isplitl [H]; · iexact H
  iintro H
  iapply (ret_run c)
  iapply Hk; iexact H

/-- A part that is a run of the second receipts. -/
theorem loopR2 {r : β} (e : p = seqK (recv2Blk c) l (pure r)) (Q : β → sProp (MT nD τ sig Unit (Elt F) ℕ UU ℕ)) :
    iprop(recs m K ∗ PhR2 m c n ∗ (PhR2 m c n' -∗ Q r)) ⊢ WP c p Q := by
  subst hn; rw [e]
  iintro ⟨#HR, H, Hk⟩
  iapply (runR2 m K c l n k h (pure r) Q)
  isplitr; · iexact HR
  isplitl [H]; · iexact H
  iintro H
  iapply (ret_run c)
  iapply Hk; iexact H

/-- A part that is a run of the waits for the copies sent. -/
theorem loopF {r : β} (e : p = seqK (finBlk c) l (pure r)) (Q : β → sProp (MT nD τ sig Unit (Elt F) ℕ UU ℕ)) :
    iprop(recs m K ∗ PhF m c n ∗ (PhF m c n' -∗ Q r)) ⊢ WP c p Q := by
  subst hn; rw [e]
  iintro ⟨#HR, H, Hk⟩
  iapply (runF m K c l n k h (pure r) Q)
  isplitr; · iexact HR
  isplitl [H]; · iexact H
  iintro H
  iapply (ret_run c)
  iapply Hk; iexact H

end Loops

/-! ## The parts that pass from one loop to the next -/

theorem part14_run (v : BitVec 32) (Q : (Σ' (_ : FVec F S256x256 .f32) (_ : IVec S128x128 32) (_ : IVec S128x128 32), BitVec 32) → sProp 𝕄) :
    iprop(recs m K ∗ PhB c 31 ∗ cred (tallyAt (kcell (c, kBar)) () 31) ∗ atPos ER (kcell (c, kBar)) 0 ∅ 0 ∗ lfly c 0 ∗ lfly c 1
      ∗ (OwE c (O1 c (others c) + O2 c (others c)) -∗ bigSep (others c) (fun d => slots d c) -∗ atPos ER (kcell (c, kBar)) 1 ∅ 0
        -∗ pt c main_arg0 (m ((c : Thread nD τ).loc main_arg0)) -∗ pt c main_arg1 (m ((c : Thread nD τ).loc main_arg1)) -∗ pt c cc0_scratch0 (xV m c) -∗ pt c cc0_scratch1 (wqV m c)
        -∗ lend c 0 -∗ lend c 1 -∗ Q ⟨qV m c, k0_pay2, iota .tc S128x128 32 [1] iota_S128x128_d1_w32, 64#32⟩))
      ⊢ WP c (appl (k0_part14 (F := F)) c barA v) Q := by
  rw [part14_eq]
  iintro ⟨#HR, H, Hc, Ha, L0, L1, Hk⟩
  iapply (runB m K c [31] 31 1 rfl _ Q)
  isplitr; · iexact HR
  isplitl [H]; · iexact H
  iintro H
  ihave ⟨%W, HO⟩ := (show PhB c (31 + 1) ⊢ (iprop(∃ W, owes (c : Thread nD τ) (O1 c (others c) + O2 c (others c)) W) : sProp 𝕄) from (endB c).trans (owE_eq c rfl)) $$ H
  iapply (bnd c)
  iapply (wait_bar m K c W)
  isplitr; · iexact HR
  isplitl [HO]; · iexact HO
  isplitl [Hc]; · iexact Hc
  isplitl [Ha]; · iexact Ha
  iintro HO Hs Ha
  ihave HO := (show (iprop(∃ W, owes (c : Thread nD τ) (O1 c (others c) + O2 c (others c)) W) : sProp 𝕄) ⊢ OwE c (O1 c (others c) + O2 c (others c)) by unfold OwE; exact .rfl) $$ HO
  iapply (bnd c)
  iapply (wtW_run m K c 0 _ _ _ _ rfl (O1 c (others c) + O2 c (others c)) (owesTo_12 c) iprop(pt c cc0_scratch0 (xV m c) ∗ pt c main_arg0 (m ((c : Thread nD τ).loc main_arg0))) .rfl)
  isplitr; · iexact HR
  isplitl [HO]; · iexact HO
  isplitl [L0]; · iexact L0
  iintro HO ⟨X0, A0⟩ L0
  iapply (bnd c)
  iapply (wtW_run m K c 1 _ _ _ _ rfl (O1 c (others c) + O2 c (others c)) (owesTo_12 c) iprop(pt c cc0_scratch1 (wqV m c) ∗ pt c main_arg1 (m ((c : Thread nD τ).loc main_arg1))) .rfl)
  isplitr; · iexact HR
  isplitl [HO]; · iexact HO
  isplitl [L1]; · iexact L1
  iintro HO ⟨X1, A1⟩ L1
  iapply (bnd c)
  iapply (ldW_run c xM _ _ _ (xV m c) (xV m c) (Memref.readAt_unit_zero (Elt F) cc0_scratch0 hz3 _ _))
  isplitl [X0]; · iexact X0
  iintro X0
  iapply (bnd c)
  iapply (ldW_run c wqM _ _ _ (wqV m c) (wqV m c) (Memref.readAt_unit_zero (Elt F) cc0_scratch1 hz2 _ _))
  isplitl [X1]; · iexact X1
  iintro X1
  iapply (ret_run c)
  rw [show k0_pay1 (xV m c) (wqV m c) = qV m c from rfl]
  iapply Hk $$ HO Hs Ha A0 A1 X0 X1 L0 L1

theorem part22_run (v : BitVec 32) (Q : PUnit → sProp 𝕄) :
    iprop(recs m K ∗ OwE c (O1 c (others c) + O2 c (others c)) ∗ At m c 7 ∗ lfly c 2 ∗ (∃ f, pt c cc0_scratch6 f) ∗ (∃ f, pt c cc0_scratch7 f)
      ∗ bigSep (others c) (fun j => iprop(∃ f, commPt j c f)) ∗ bigSep (others c) (T1 c)
      ∗ (PhS1 m c 3 -∗ rowPt c c (accbV m c) -∗ pt c cc0_scratch6 (accV m c) -∗ pt c cc0_scratch5 (ctxV m c) -∗ pt c cc0_scratch4 (vV m c) -∗ pt c cc0_scratch3 (kV m c)
        -∗ pt c cc0_scratch2 (woV m c) -∗ pt c main_arg4 (m ((c : Thread nD τ).loc main_arg4)) -∗ lend c 2 -∗ Q ⟨⟩))
      ⊢ WP c (appl (k0_part22 (F := F)) c v (k0_pay20 (qV m c) msk (kBlk m c 1 3)) (vBlk m c 1 3)) Q := by
  rw [part22_eq]
  iintro ⟨#HR, HO, H, L2, ⟨%f6, X6⟩, ⟨%f7, X7⟩, Hd, Ht, Hk⟩
  iapply (bnd c); iapply (ldC_run m c 7 1 3); isplitl [H]; · iexact H
  iintro %w H
  iapply (bnd c); iapply (stC_run m c 7 1 3 _ (pay_13 m c) rfl); isplitl [H]; · iexact H
  iintro H
  iapply (bnd c)
  iapply (wtW_run m K c 2 _ _ _ _ rfl (O1 c (others c) + O2 c (others c)) (owesTo_12 c) iprop(pt c cc0_scratch2 (woV m c) ∗ pt c main_arg4 (m ((c : Thread nD τ).loc main_arg4))) .rfl)
  isplitr; · iexact HR
  isplitl [HO]; · iexact HO
  isplitl [L2]; · iexact L2
  iintro HO ⟨X2, A4⟩ L2
  iapply (bnd c)
  iapply (ldW_run c woM _ _ _ (woV m c) (woV m c) (Memref.readAt_unit_zero (Elt F) cc0_scratch2 hz2 _ _))
  isplitl [X2]; · iexact X2
  iintro X2
  ihave ⟨X3, X4, X5⟩ := (show At m c (7 + 1) ⊢ iprop(pt c cc0_scratch3 (kV m c) ∗ pt c cc0_scratch4 (vV m c) ∗ pt c cc0_scratch5 (ctxV m c)) by
    unfold At
    iintro ⟨X3, X4, %f, X5, %hf⟩
    isplitl [X3]; · iexact X3
    isplitl [X4]; · iexact X4
    rw [← agree_all m c hf]; iexact X5) $$ H
  iapply (bnd c)
  iapply (ldW_run c ctxM _ _ _ (ctxV m c) (ctxV m c) (Memref.readAt_unit_zero (Elt F) cc0_scratch5 hz2 _ _))
  isplitl [X5]; · iexact X5
  iintro X5
  iapply (bnd c)
  iapply (ldW_run c accM _ _ _ f6 _ rfl)
  isplitl [X6]; · iexact X6
  iintro X6
  iapply (bnd c)
  iapply (stAcc_run c (accV m c) f6)
  isplitl [X6]; · iexact X6
  iintro X6
  iapply (bnd c)
  iapply (ldW_run c abM _ _ _ f7 _ rfl)
  isplitl [X7]; · iexact X7
  iintro X7
  iapply (bnd c)
  iapply (stAb_run c (accbV m c) f7)
  isplitl [X7]; · iexact X7
  iintro X7
  ihave ⟨Y, X7⟩ := (Entails.of_eq (rows_split c (accbV m c))) $$ X7
  iapply (runS1 m K c [0, 1, 2] 0 3 rfl (pure ⟨⟩) Q)
  isplitr; · iexact HR
  isplitl [HO X7 Hd Ht]
  · iapply (startS1 m c)
    isplitl [HO]; · iexact HO
    isplitl [X7]; · iexact X7
    isplitl [Hd]; · iexact Hd
    iexact Ht
  iintro H
  iapply (ret_run c)
  iapply Hk $$ H Y X6 X5 X4 X3 X2 A4 L2

theorem part25_run (Q : BitVec 1 → sProp 𝕄) :
    iprop(recs m K ∗ PhS1 m c 23 ∗ bigSep (others c) (ΨR1 c) ∗ (PhR1 m c 1 -∗ bigSep (others c) (ΨS1' c) -∗ Q (neB c 1#32)))
      ⊢ WP c (appl (k0_part25 (F := F)) c (mpw c)) Q := by
  rw [part25_eq]
  iintro ⟨#HR, H, Hr, Hk⟩
  iapply (runS1 m K c [23, 24, 25, 26, 27, 28, 29, 30, 31] 23 9 rfl _ Q)
  isplitr; · iexact HR
  isplitl [H]; · iexact H
  iintro H
  ihave ⟨HO, HS⟩ := (show PhS1 m c (23 + 9) ⊢ _ from endS1 m c) $$ H
  iapply (runR1 m K c [0] 0 1 rfl (pure (neB c 1#32)) Q)
  isplitr; · iexact HR
  isplitl [HO Hr]
  · iapply (startR1 m c)
    isplitl [HO]; · iexact HO
    iexact Hr
  iintro H
  iapply (ret_run c)
  iapply Hk $$ H HS

theorem part29_run (f9 : Vec F S32x8x512 .bf16) (Q : (Σ' (_ : FVec F S8x512 .f32), BitVec 32) → sProp 𝕄) :
    iprop(recs m K ∗ PhR1 m c 31 ∗ commPt c c f9 ∗ pt c cc0_scratch6 (accV m c) ∗ (∃ f, pt c cc0_scratch8 f)
      ∗ bigSep (others c) (fun j => iprop(∃ f, gatPt j c f)) ∗ bigSep (others c) (T2 c)
      ∗ (PhS2 m c 5 -∗ redPt c c (redV m c) -∗ (∃ f, pt c cc0_scratch9 f) -∗ pt c cc0_scratch6 (accV m c) -∗ bigSep (others c) (fun j => atPos ER (kcell (c, kR1 j)) 1 ∅ 0)
        -∗ Q ⟨sumV m c, neW c 5#32⟩))
      ⊢ WP c (appl (k0_part29 (F := F)) c (mpw c) (neB c 31#32)) Q := by
  rw [part29_eq]
  iintro ⟨#HR, H, Y, X6, ⟨%f8, X8⟩, Hd, Ht, Hk⟩
  iapply (runR1 m K c [31] 31 1 rfl _ Q)
  isplitr; · iexact HR
  isplitl [H]; · iexact H
  iintro H
  ihave ⟨HO, HC, Hp⟩ := (show PhR1 m c (31 + 1) ⊢ _ from endR1 m c) $$ H
  ihave ⟨%g, X9, %hg⟩ := (comm_join c (commV m c) f9) $$ [HC Y]
  · isplitl [HC]; · iexact HC
    iexact Y
  iapply (bnd c)
  iapply (ldW_run c commM _ _ _ g g (Memref.readAt_unit_zero (Elt F) cc0_scratch9 hz3 _ _))
  isplitl [X9]; · iexact X9
  iintro X9
  iapply (bnd c)
  unfold ldR
  iapply (load_run c accM (rowRect c).toLoadRect _ (accV m c))
  isplitl [X6]; · iexact X6
  iintro X6
  iapply (bnd c)
  iapply (ldW_run c redM _ _ _ f8 _ rfl)
  isplitl [X8]; · iexact X8
  iintro X8
  iapply (bnd c)
  iapply (stRed_run c (k0_pay26 (mpw c) g (ownV m c)) f8)
  isplitl [X8]; · iexact X8
  iintro X8
  have er : k0_pay26 (mpw c) g (ownV m c) = redV m c := red_indep c hg _
  have es : k0_pay25 (mpw c) g (accM.view.readAt (Elt F) (rowRect c).toLoadRect (accV m c)) = sumV m c := sum_indep c hg _
  ihave ⟨Y, X8⟩ := ((Entails.of_eq (congrArg (pt c cc0_scratch8) er)).trans (Entails.of_eq (red_split c (redV m c)))) $$ X8
  iapply (runS2 m K c [0, 1, 2, 3, 4] 0 5 rfl _ Q)
  isplitr; · iexact HR
  isplitl [HO X8 Hd Ht]
  · iapply (startS2 m c)
    isplitl [HO]; · iexact HO
    isplitl [X8]; · iexact X8
    isplitl [Hd]; · iexact Hd
    iexact Ht
  iintro H
  iapply (ret_run c)
  rw [es]
  iapply Hk $$ H Y [X9] X6 Hp
  iexists g; iexact X9

theorem part32_run (Q : BitVec 32 → sProp 𝕄) :
    iprop(recs m K ∗ PhS2 m c 25 ∗ bigSep (others c) (ΨR2 c) ∗ (PhR2 m c 3 -∗ bigSep (others c) (ΨS2' c) -∗ Q (neW c 3#32)))
      ⊢ WP c (appl (k0_part32 (F := F)) c (mpw c) (neW c 25#32)) Q := by
  rw [part32_eq]
  iintro ⟨#HR, H, Hr, Hk⟩
  iapply (runS2 m K c [25, 26, 27, 28, 29, 30, 31] 25 7 rfl _ Q)
  isplitr; · iexact HR
  isplitl [H]; · iexact H
  iintro H
  ihave ⟨HO, HS⟩ := (show PhS2 m c (25 + 7) ⊢ _ from endS2 m c) $$ H
  iapply (runR2 m K c [0, 1, 2] 0 3 rfl (pure (neW c 3#32)) Q)
  isplitr; · iexact HR
  isplitl [HO Hr]
  · iapply (startR2 m c)
    isplitl [HO]; · iexact HO
    iexact Hr
  iintro H
  iapply (ret_run c)
  iapply Hk $$ H HS

theorem part35_run (f10 : Vec F S32x8x512 .bf16) (Q : FVec F S256x512 .f32 → sProp 𝕄) :
    iprop(recs m K ∗ PhR2 m c 23 ∗ gatPt c c f10 ∗ (∃ f, pt c cc0_stg0_0 f)
      ∗ (∀ g, OwE c 0 -∗ pt c cc0_scratch10 g -∗ ⌜∀ i : S32x8x512.Idx, i 0 ≠ c → g i = gatV m i⌝ -∗ (∃ f, pt c cc0_stg0_0 f) -∗ bigSep (others c) (fun j => atPos ER (kcell (c, kR2 j)) 1 ∅ 0)
        -∗ Q (k0_pay27 g)))
      ⊢ WP c (appl (k0_part35 (F := F)) (mpw c) (neW c 23#32)) Q := by
  rw [part35_eq]
  iintro ⟨#HR, H, Y, ⟨%f, X⟩, Hk⟩
  iapply (runR2 m K c [23, 24, 25, 26, 27, 28, 29, 30, 31] 23 9 rfl _ Q)
  isplitr; · iexact HR
  isplitl [H]; · iexact H
  iintro H
  ihave ⟨HO, HC, Hp⟩ := (show PhR2 m c (23 + 9) ⊢ _ from endR2 m c) $$ H
  ihave ⟨%g, X9, %hg⟩ := (gat_join c (gatV m) f10) $$ [HC Y]
  · isplitl [HC]; · iexact HC
    iexact Y
  iapply (bnd c)
  iapply (ldW_run c gatM _ _ _ g g (Memref.readAt_unit_zero (Elt F) cc0_scratch10 hz3 _ _))
  isplitl [X9]; · iexact X9
  iintro X9
  iapply (bnd c)
  iapply (ldW_run c outM _ _ _ f _ rfl)
  isplitl [X]; · iexact X
  iintro X
  iapply (ret_run c)
  iapply Hk $$ HO X9 [] [X] Hp
  · ipureintro; exact hg
  · iexists f; iexact X

theorem part36_run (v : FVec F S256x512 .f32) (s : FVec F S8x512 .f32) (Q : BitVec 1 → sProp 𝕄) :
    iprop(recs m K ∗ OwE c 0 ∗ bigSep (others c) (ΨS1' c) ∗ bigSep (others c) (ΨS2' c) ∗ bigSep (others c) (AF c) ∗ (∃ f, pt c cc0_stg0_0 f)
      ∗ (PhF m c 8 -∗ pt c cc0_stg0_0 ((outM.access (rowRect c) : View sig .tc _ _ _).write (Elt F) v s Finset.univ) -∗ Q (neB c 8#32)))
      ⊢ WP c (appl (k0_part36 (F := F)) c (mpw c) s v) Q := by
  rw [part36_eq]
  iintro ⟨#HR, HO, H1, H2, HA, ⟨%f, X⟩, Hk⟩
  iapply (bnd c)
  iapply (stOut_run c v f)
  isplitl [X]; · iexact X
  iintro X
  iapply (bnd c)
  unfold ldR
  iapply (load_run c outM (rowRect c).toLoadRect _ v)
  isplitl [X]; · iexact X
  iintro X
  iapply (bnd c)
  unfold stR
  iapply (store_run c outM (rowRect c) s _ _ v)
  isplitl [X]; · iexact X
  iintro X
  iapply (runF m K c [0, 1, 2, 3, 4, 5, 6, 7] 0 8 rfl _ Q)
  isplitr; · iexact HR
  isplitl [HO H1 H2 HA]
  · iapply (startF m c)
    isplitl [HO]; · iexact HO
    isplitl [H1]; · iexact H1
    isplitl [H2]; · iexact H2
    iexact HA
  iintro H
  iapply (ret_run c)
  iapply Hk $$ H X

/-! ## The body -/

/-- What a device holds of its operands and buffers before and after. -/
def argsH : sProp 𝕄 := iprop(pt c main_arg0 (m ((c : Thread nD τ).loc main_arg0)) ∗ pt c main_arg1 (m ((c : Thread nD τ).loc main_arg1)) ∗ pt c main_arg4 (m ((c : Thread nD τ).loc main_arg4)) ∗ kPt m c ∗ vPt m c)
def scrH : sProp 𝕄 := iprop((∃ f, pt (F := F) c cc0_scratch0 f) ∗ (∃ f, pt (F := F) c cc0_scratch1 f) ∗ (∃ f, pt (F := F) c cc0_scratch2 f) ∗ (∃ f, pt (F := F) c cc0_scratch3 f) ∗ (∃ f, pt (F := F) c cc0_scratch4 f) ∗ (∃ f, pt (F := F) c cc0_scratch5 f)
  ∗ (∃ f, pt (F := F) c cc0_scratch6 f) ∗ (∃ f, pt (F := F) c cc0_scratch7 f) ∗ (∃ f, pt (F := F) c cc0_scratch8 f) ∗ (∃ f, pt (F := F) c cc0_scratch9 f) ∗ (∃ f, pt (F := F) c cc0_scratch10 f))
/-- What it holds of the protocol: its duties, its cells before their first round, its credits. -/
def tokH : sProp 𝕄 := iprop((lbeg (F := F) c 0 ∗ lbeg c 1 ∗ lbeg c 2 ∗ lbeg c 3 ∗ lbeg c 4) ∗ (cred (tallyAt (kcell (c, kBar)) () 31) ∗ atPos ER (kcell (c, kBar)) 0 ∅ 0)
  ∗ bigSep steps (fun o => dutyTok ER (kcell (shift c o, kBar)) 0 c) ∗ bigSep (others c) (T1 c) ∗ bigSep (others c) (T2 c) ∗ bigSep (others c) (ΨR1 c) ∗ bigSep (others c) (ΨR2 c) ∗ bigSep (others c) (AF c))
/-- Its cells after their round. -/
def endH : sProp 𝕄 := iprop((lend (F := F) c 0 ∗ lend c 1 ∗ lend c 2 ∗ lend c 3 ∗ lend c 4) ∗ atPos ER (kcell (c, kBar)) 1 ∅ 0
  ∗ bigSep (others c) (fun j => atPos ER (kcell (c, kS1 j)) 1 ∅ 0) ∗ bigSep (others c) (fun j => atPos ER (kcell (c, kR1 j)) 1 ∅ 0)
  ∗ bigSep (others c) (fun j => atPos ER (kcell (c, kS2 j)) 1 ∅ 0) ∗ bigSep (others c) (fun j => atPos ER (kcell (c, kR2 j)) 1 ∅ 0))

set_option maxHeartbeats 1600000 in
/-- The body runs, hands its operands back and leaves the result in its staging buffer. -/
theorem body_run : iprop(recs m K ∗ OwE c (O₀ c) ∗ argsH m c ∗ scrH c ∗ (∃ f, pt c cc0_stg0_0 f) ∗ tokH c)
    ⊢ WP c (appl (cc0_body (F := F))) fun _ => iprop(OwE c 0 ∗ argsH m c ∗ scrH c ∗ pt c cc0_stg0_0 (outV m c) ∗ endH c) := by
  rw [body_eq]; unfold bodyP argsH scrH tokH endH
  iintro ⟨#HR, HO, ⟨A0, A1, A4, A2, A3⟩, ⟨X0, X1, X2, X3, X4, X5, X6, X7, X8, ⟨%f9, X9⟩, ⟨%f10, X10⟩⟩, XO, ⟨L0, L1, L2, L3, L4⟩, ⟨Cb, Ab⟩, Tb, T1, T2, R1, R2, AF⟩
  iapply (bnd c)
  iapply (part1_run m K c)
  isplitr; · iexact HR
  isplitl [A0]; · iexact A0
  isplitl [A1]; · iexact A1
  isplitl [A4]; · iexact A4
  isplitl [A2]; · iexact A2
  isplitl [A3]; · iexact A3
  isplitl [X0]; · iexact X0
  isplitl [X1]; · iexact X1
  isplitl [X2]; · iexact X2
  isplitl [X3]; · iexact X3
  isplitl [X4]; · iexact X4
  isplitl [L0]; · iexact L0
  isplitl [L1]; · iexact L1
  isplitl [L2]; · iexact L2
  isplitl [L3]; · iexact L3
  isplitl [L4]; · iexact L4
  iintro %w1 L0 L1 L2 L3 L4
  dsimp only
  ihave ⟨Y9, X9⟩ := (Entails.of_eq (comm_split c f9)) $$ X9
  ihave ⟨Y10, X10⟩ := (Entails.of_eq (gat_split c f10)) $$ X10
  ihave H := (startB c) $$ [HO X9 X10 Tb]
  · isplitl [HO]; · iexact HO
    isplitl [X9 X10]
    · iapply (slots_give c f9 f10)
      isplitl [X9]; · iexact X9
      iexact X10
    iexact Tb
  iapply (bnd c)
  iapply (loopB m K c [1, 2, 3] 1 3 4 rfl rfl (sig2_eq c _ _))
  isplitr; · iexact HR
  isplitl [H]; · iexact H
  iintro %r2 H
  iapply (bnd c)
  iapply (loopB m K c [4, 5] 4 2 6 rfl rfl (sig3_eq c _ _ _ _))
  isplitr; · iexact HR
  isplitl [H]; · iexact H
  iintro %r3 H
  iapply (bnd c)
  iapply (loopB m K c [6, 7, 8] 6 3 9 rfl rfl (sig4_eq c _ _))
  isplitr; · iexact HR
  isplitl [H]; · iexact H
  iintro %r4 H
  iapply (bnd c)
  iapply (loopB m K c [9, 10] 9 2 11 rfl rfl (sig5_eq c _ _ _ _))
  isplitr; · iexact HR
  isplitl [H]; · iexact H
  iintro %r5 H
  iapply (bnd c)
  iapply (loopB m K c [11, 12, 13] 11 3 14 rfl rfl (sig6_eq c _ _))
  isplitr; · iexact HR
  isplitl [H]; · iexact H
  iintro %r6 H
  iapply (bnd c)
  iapply (loopB m K c [14, 15] 14 2 16 rfl rfl (sig7_eq c _ _ _ _))
  isplitr; · iexact HR
  isplitl [H]; · iexact H
  iintro %r7 H
  iapply (bnd c)
  iapply (loopB m K c [16, 17, 18] 16 3 19 rfl rfl (sig8_eq c _ _))
  isplitr; · iexact HR
  isplitl [H]; · iexact H
  iintro %r8 H
  iapply (bnd c)
  iapply (loopB m K c [19, 20] 19 2 21 rfl rfl (sig9_eq c _ _ _ _))
  isplitr; · iexact HR
  isplitl [H]; · iexact H
  iintro %r9 H
  iapply (bnd c)
  iapply (loopB m K c [21, 22, 23] 21 3 24 rfl rfl (sig10_eq c _ _))
  isplitr; · iexact HR
  isplitl [H]; · iexact H
  iintro %r10 H
  iapply (bnd c)
  iapply (loopB m K c [24, 25] 24 2 26 rfl rfl (sig11_eq c _ _ _ _))
  isplitr; · iexact HR
  isplitl [H]; · iexact H
  iintro %r11 H
  iapply (bnd c)
  iapply (loopB m K c [26, 27, 28] 26 3 29 rfl rfl (sig12_eq c _ _))
  isplitr; · iexact HR
  isplitl [H]; · iexact H
  iintro %r12 H
  iapply (bnd c)
  iapply (loopB m K c [29, 30] 29 2 31 rfl rfl (sig13_eq c _ _ _ _))
  isplitr; · iexact HR
  isplitl [H]; · iexact H
  iintro %r13 H
  iapply (bnd c)
  iapply (part14_run m K c _)
  isplitr; · iexact HR
  isplitl [H]; · iexact H
  isplitl [Cb]; · iexact Cb
  isplitl [Ab]; · iexact Ab
  isplitl [L0]; · iexact L0
  isplitl [L1]; · iexact L1
  iintro HO Hs Ab A0 A1 X0 X1 L0 L1
  dsimp only
  ihave ⟨Hd, Hd'⟩ := (show bigSep (others c) (fun d => slots (F := F) d c) ⊢ iprop(bigSep (others c) (fun j => iprop(∃ f, commPt j c f)) ∗ bigSep (others c) (fun j => iprop(∃ f, gatPt j c f))) from bs_unpair (others c)) $$ Hs
  iapply (bnd c)
  rw [part15_eq]
  iapply (ret_run c)
  dsimp only
  iapply (bnd c)
  iapply (part16_run m K c _ (owesTo_12 c))
  isplitr; · iexact HR
  isplitl [HO]; · iexact HO
  isplitl [L3]; · iexact L3
  isplitl [L4]; · iexact L4
  isplitl [X5]; · iexact X5
  iintro HO L3 L4 A2 A3 H
  dsimp only
  iapply (bnd c); iapply (part17_run m c); isplitl [H]; · iexact H
  iintro H
  iapply (bnd c); iapply (part18_run m c); isplitl [H]; · iexact H
  iintro H
  iapply (bnd c); iapply (part19_run m c); isplitl [H]; · iexact H
  iintro H
  iapply (bnd c); iapply (part20_run m c); isplitl [H]; · iexact H
  iintro H
  iapply (bnd c); iapply (part21_run m c); isplitl [H]; · iexact H
  iintro H
  dsimp only
  iapply (bnd c)
  iapply (part22_run m K c _)
  isplitr; · iexact HR
  isplitl [HO]; · iexact HO
  isplitl [H]; · iexact H
  isplitl [L2]; · iexact L2
  isplitl [X6]; · iexact X6
  isplitl [X7]; · iexact X7
  isplitl [Hd]; · iexact Hd
  isplitl [T1]; · iexact T1
  iintro H Y7 X6 X5 X4 X3 X2 A4 L2
  iapply (bnd c)
  iapply (loopS1 m K c [3, 4, 5, 6, 7, 8, 9, 10, 11, 12] 3 10 13 rfl rfl (part23_eq c _))
  isplitr; · iexact HR
  isplitl [H]; · iexact H
  iintro H
  iapply (bnd c)
  iapply (loopS1 m K c [13, 14, 15, 16, 17, 18, 19, 20, 21, 22] 13 10 23 rfl rfl (part24_eq c _))
  isplitr; · iexact HR
  isplitl [H]; · iexact H
  iintro H
  iapply (bnd c)
  iapply (part25_run m K c)
  isplitr; · iexact HR
  isplitl [H]; · iexact H
  isplitl [R1]; · iexact R1
  iintro H S1
  iapply (bnd c)
  iapply (loopR1 m K c [1, 2, 3, 4, 5, 6, 7, 8, 9, 10] 1 10 11 rfl rfl (part26_eq c))
  isplitr; · iexact HR
  isplitl [H]; · iexact H
  iintro H
  iapply (bnd c)
  iapply (loopR1 m K c [11, 12, 13, 14, 15, 16, 17, 18, 19, 20] 11 10 21 rfl rfl (part27_eq c))
  isplitr; · iexact HR
  isplitl [H]; · iexact H
  iintro H
  iapply (bnd c)
  iapply (loopR1 m K c [21, 22, 23, 24, 25, 26, 27, 28, 29, 30] 21 10 31 rfl rfl (part28_eq c))
  isplitr; · iexact HR
  isplitl [H]; · iexact H
  iintro H
  iapply (bnd c)
  iapply (part29_run m K c f9)
  isplitr; · iexact HR
  isplitl [H]; · iexact H
  isplitl [Y9]; · iexact Y9
  isplitl [X6]; · iexact X6
  isplitl [X8]; · iexact X8
  isplitl [Hd']; · iexact Hd'
  isplitl [T2]; · iexact T2
  iintro H Y8 X9 X6 R1
  dsimp only
  iapply (bnd c)
  iapply (loopS2 m K c [5, 6, 7, 8, 9, 10, 11, 12, 13, 14] 5 10 15 rfl rfl (part30_eq c))
  isplitr; · iexact HR
  isplitl [H]; · iexact H
  iintro H
  iapply (bnd c)
  iapply (loopS2 m K c [15, 16, 17, 18, 19, 20, 21, 22, 23, 24] 15 10 25 rfl rfl (part31_eq c))
  isplitr; · iexact HR
  isplitl [H]; · iexact H
  iintro H
  iapply (bnd c)
  iapply (part32_run m K c)
  isplitr; · iexact HR
  isplitl [H]; · iexact H
  isplitl [R2]; · iexact R2
  iintro H S2
  iapply (bnd c)
  iapply (loopR2 m K c [3, 4, 5, 6, 7, 8, 9, 10, 11, 12] 3 10 13 rfl rfl (part33_eq c))
  isplitr; · iexact HR
  isplitl [H]; · iexact H
  iintro H
  iapply (bnd c)
  iapply (loopR2 m K c [13, 14, 15, 16, 17, 18, 19, 20, 21, 22] 13 10 23 rfl rfl (part34_eq c))
  isplitr; · iexact HR
  isplitl [H]; · iexact H
  iintro H
  iapply (bnd c)
  iapply (part35_run m K c f10)
  isplitr; · iexact HR
  isplitl [H]; · iexact H
  isplitl [Y10]; · iexact Y10
  isplitl [XO]; · iexact XO
  iintro %g HO X10 %hg XO R2
  iapply (bnd c)
  iapply (part36_run m K c (k0_pay27 g) (sumV m c))
  isplitr; · iexact HR
  isplitl [HO]; · iexact HO
  isplitl [S1]; · iexact S1
  isplitl [S2]; · iexact S2
  isplitl [AF]; · iexact AF
  isplitl [XO]; · iexact XO
  iintro H XO
  iapply (bnd c)
  iapply (loopF m K c [8, 9, 10, 11, 12, 13, 14, 15, 16, 17] 8 10 18 rfl rfl (part37_eq c))
  isplitr; · iexact HR
  isplitl [H]; · iexact H
  iintro H
  iapply (bnd c)
  iapply (loopF m K c [18, 19, 20, 21, 22, 23, 24, 25, 26, 27] 18 10 28 rfl rfl (part38_eq c))
  isplitr; · iexact HR
  isplitl [H]; · iexact H
  iintro H
  iapply (loopF m K c [28, 29, 30, 31] 28 4 32 rfl rfl (tail_eq c))
  isplitr; · iexact HR
  isplitl [H]; · iexact H
  iintro H
  ihave ⟨HO, ⟨X7, P1⟩, X8, P2⟩ := (endF m c) $$ H
  rw [← out_indep c m hg]
  isplitl [HO]; · iexact HO
  isplitl [A0 A1 A2 A3 A4]
  · isplitl [A0]; · iexact A0
    isplitl [A1]; · iexact A1
    isplitl [A4]; · iexact A4
    isplitl [A2]; · iexact A2
    iexact A3
  isplitl [X0 X1 X2 X3 X4 X5 X6 Y7 X7 Y8 X8 X9 X10]
  · isplitl [X0]; · iexists _; iexact X0
    isplitl [X1]; · iexists _; iexact X1
    isplitl [X2]; · iexists _; iexact X2
    isplitl [X3]; · iexists _; iexact X3
    isplitl [X4]; · iexists _; iexact X4
    isplitl [X5]; · iexists _; iexact X5
    isplitl [X6]; · iexists _; iexact X6
    isplitl [Y7 X7]
    · iexists (accbV m c)
      rw [rows_split]
      isplitl [Y7]; · iexact Y7
      iexact X7
    isplitl [Y8 X8]
    · iexists (redV m c)
      rw [red_split]
      isplitl [Y8]; · iexact Y8
      iexact X8
    isplitl [X9]; · iexact X9
    iexists _; iexact X10
  isplitl [XO]; · iexact XO
  isplitl [L0 L1 L2 L3 L4]
  · isplitl [L0]; · iexact L0
    isplitl [L1]; · iexact L1
    isplitl [L2]; · iexact L2
    isplitl [L3]; · iexact L3
    iexact L4
  isplitl [Ab]; · iexact Ab
  isplitl [P1]; · iexact P1
  isplitl [R1]; · iexact R1
  isplitl [P2]; · iexact P2
  iexact R2

end Cert.KProof
-- ==== Proof.Ghost.lean ====
/-
# What the launch deals

The cells, split by kind; the duty tokens, dealt to the device that pays; the credits against what the devices owe at launch.
-/
module

public import proofs.«01_k».proof.Proof.Body
public import Idealize.ShloMosaic.Lib.Pipeline.Launch

@[expose] public section

set_option backward.proofsInPublic true

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Cells by kind -/

theorem bs_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

theorem dk_split (Φ : DK → sProp 𝕄) : bigSep Finset.univ Φ = iprop((Φ (dLoc 0) ∗ Φ (dLoc 1) ∗ Φ (dLoc 2) ∗ Φ (dLoc 3) ∗ Φ (dLoc 4))
    ∗ bigSep Finset.univ (fun j => Φ (dS1 j)) ∗ bigSep Finset.univ (fun j => Φ (dR1 j)) ∗ bigSep Finset.univ (fun j => Φ (dS2 j)) ∗ bigSep Finset.univ (fun j => Φ (dR2 j))) := by
  rw [bigSep_univ_sum, bigSep_univ_sum, bigSep_univ_sum, bigSep_univ_sum, bs_fin5]; rfl
theorem ck_split (Φ : CK → sProp 𝕄) : bigSep Finset.univ Φ = iprop(Φ kBar ∗ bigSep Finset.univ (fun k : DK => Φ (.inr k))) := by
  rw [bigSep_univ_sum, show (bigSep Finset.univ fun a : Unit => Φ (.inl a)) = Φ kBar from bigSep_univ_eq_bigSepL [()] (by decide) (by decide) _]; rfl

/-! ## The tokens -/

/-- The duties of a device: its own copies; towards each device, a signal, a first copy (a cell at each end), a second. -/
abbrev TK : Type := Fin 5 ⊕ (Dev nD ⊕ (Dev nD ⊕ (Dev nD ⊕ (Dev nD ⊕ Dev nD))))
def tokCell (c : Dev nD) : TK → Dev nD × CK
  | .inl k => (c, kLoc k)
  | .inr (.inl j) => (j, kBar)
  | .inr (.inr (.inl j)) => (c, kS1 j)
  | .inr (.inr (.inr (.inl j))) => (j, kR1 c)
  | .inr (.inr (.inr (.inr (.inl j)))) => (c, kS2 j)
  | .inr (.inr (.inr (.inr (.inr j)))) => (j, kR2 c)
theorem tokCell_injective (c : Dev nD) : Function.Injective (tokCell c) := by
  intro a b h
  rcases a with a | a | a | a | a | a <;> rcases b with b | b | b | b | b | b <;> cases h <;> rfl
def tokOf (p : Dev nD × TK) : GSem nD τ sig × ℕ × Dev nD := (kcell (tokCell p.1 p.2), 0, p.1)
theorem tokOf_injective : Function.Injective tokOf := by
  rintro ⟨c, a⟩ ⟨c', a'⟩ h
  have h1 : c = c' := congrArg (fun x : GSem nD τ sig × ℕ × Dev nD => x.2.2) h
  subst h1
  have h2 : a = a' := tokCell_injective c (kcell_injective (congrArg Prod.fst h))
  rw [h2]
def allCells : Finset (GSem nD τ sig) := Finset.univ.map ⟨kcell, kcell_injective⟩
def allToks : Finset (GSem nD τ sig × ℕ × Dev nD) := Finset.univ.map ⟨tokOf, tokOf_injective⟩

/-- The tokens of the duties a device pays. -/
def toks (c : Dev nD) : sProp 𝕄 := bigSep Finset.univ fun a : TK => dutyTok ER (kcell (tokCell c a)) 0 c
theorem toks_eq : (toks c : sProp 𝕄) = iprop((dutyTok ER (kcell (c, kLoc 0)) 0 c ∗ dutyTok ER (kcell (c, kLoc 1)) 0 c ∗ dutyTok ER (kcell (c, kLoc 2)) 0 c ∗ dutyTok ER (kcell (c, kLoc 3)) 0 c ∗ dutyTok ER (kcell (c, kLoc 4)) 0 c)
    ∗ bigSep Finset.univ (fun j => dutyTok ER (kcell (j, kBar)) 0 c)
    ∗ bigSep Finset.univ (fun j => dutyTok ER (kcell (c, kS1 j)) 0 c) ∗ bigSep Finset.univ (fun j => dutyTok ER (kcell (j, kR1 c)) 0 c)
    ∗ bigSep Finset.univ (fun j => dutyTok ER (kcell (c, kS2 j)) 0 c) ∗ bigSep Finset.univ (fun j => dutyTok ER (kcell (j, kR2 c)) 0 c)) := by
  unfold toks
  rw [bigSep_univ_sum, bigSep_univ_sum, bigSep_univ_sum, bigSep_univ_sum, bigSep_univ_sum, bs_fin5]; rfl

def u₀ : UU := (initOf (Pipeline.cells cfgs cellOf_inj) (Pipeline.launchToks cfgs cellOf_inj), initOf allCells allToks)

/-- What the launch element deals a device; what a device then holds. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)
def records (K : Dev nD × CK → ℕ) : sProp 𝕄 :=
  iprop((bigSep Finset.univ fun p : Dev nD × CK => cellInv ER (sched m) (K p) (kcell p)) ∗ bigSep Finset.univ fun p : Dev nD × CK => reached ER (kcell p) 0)
instance records_persistent (K : Dev nD × CK → ℕ) : BI.Persistent (records m K) := by unfold records; infer_instance
def linear (c : Dev nD) : sProp 𝕄 := iprop((bigSep Finset.univ fun k : CK => atPos ER (kcell (c, k)) 0 ∅ 0) ∗ toks c)
def G' (c : Dev nD) : sProp 𝕄 := iprop(∃ K, records m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSemFacts : Pipeline.OwnSemFacts cfg0.spec osem := by decide +kernel

/-- The barrier semaphore is the launch's one unscoped semaphore. -/
theorem unscopedSems0_eq : (unscopedSems0 c : sProp 𝕄) = semVal (kcell (c, kBar)) 0 := by
  unfold unscopedSems0; rw [bigSep_eq_bigSepL_of_eq [SemLoc.reg barS] (by decide +kernel) (by decide)]; rfl
theorem sems0_eq : iprop(Pipeline.ownSems0 (Ix := Unit) (Name := ℕ) (U := UU) (Lvl := ℕ) (Val := Elt F) (τ := τ) osem c ∗ unscopedSems0 c)
    = (bigSep Finset.univ fun k : CK => semVal (kcell (c, k)) 0 : sProp 𝕄) := by
  rw [unscopedSems0_eq, ck_split]
  have e : (Pipeline.ownSems0 (Ix := Unit) (Name := ℕ) (U := UU) (Lvl := ℕ) (Val := Elt F) (τ := τ) osem c : sProp 𝕄) = bigSep Finset.univ (fun k : DK => semVal (kcell (c, .inr k)) 0) := rfl
  rw [e]
  exact BI.equiv_iff.mp ⟨BI.sep_comm, BI.sep_comm⟩

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun p : Dev nD × CK => iprop(∃ κ : ℕ, cellInv ER (sched m) κ (kcell p))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun p : Dev nD × CK => (reached ER (kcell p) 0 : sProp 𝕄))]
  iintro ⟨HI, ⟨Hat, #HR⟩, Htok⟩
  ihave HK := (BI.bigSep_exists_pi Finset.univ (fun (p : Dev nD × CK) (κ : ℕ) => (cellInv ER (sched m) κ (kcell p) : sProp 𝕄))) $$ HI
  icases HK with ⟨%K, #HI⟩
  iapply (bigSep_with (R := records m K) (Φ := fun c => linear c) fun c _ => show iprop(records m K ∗ linear c) ⊢ G' m c by
    unfold G'; iintro H; iexists K; iexact H)
  isplitr
  · unfold records; isplitl; · iexact HI
    iexact HR
  · iapply (show iprop(bigSep Finset.univ (fun c : Dev nD => bigSep Finset.univ fun k : CK => (atPos ER (kcell (c, k)) 0 ∅ 0 : sProp 𝕄)) ∗ bigSep Finset.univ toks) ⊢ bigSep Finset.univ (fun c => linear (F := F) c) from
      Entails.of_eq (bigSep_sep' Finset.univ _ _).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem sum_at (S : Finset (Dev nD)) (f : Dev nD → Dev nD × CK) (n : ℕ) (p : Dev nD × CK) :
    (∑ j ∈ S, tallyAt (kcell (f j)) () n : CellTallies nD τ sig Unit) (kcell p) () = ∑ j ∈ S, if f j = p then n else 0 := by
  induction S using Finset.induction_on with
  | empty => rfl
  | insert a S ha ih =>
    rw [Finset.sum_insert ha, Finset.sum_insert ha, Pi.add_apply, Finsupp.add_apply, ih, tallyAt_apply]
    congr 1
    by_cases h : f a = p
    · subst h; rw [if_pos ⟨rfl, rfl⟩, if_pos rfl]
    · rw [if_neg h, if_neg fun h' => h (kcell_injective h'.1).symm]

theorem OB_eq (d : Dev nD) : OB d steps = ∑ j ∈ others d, tallyAt (kcell (j, kBar)) () 1 := by
  unfold OB
  rw [← shift_image d, Finset.sum_image fun a _ b _ h => shift_injective d h]

theorem owed_bar (d c : Dev nD) : O₀ d (kcell (c, kBar)) () = if d ≠ c then 1 else 0 := by
  unfold O₀ O1 O2
  rw [OB_eq, Pi.add_apply, Finsupp.add_apply, Pi.add_apply, Finsupp.add_apply, sum_at _ (fun j => (j, kBar)), sum_at _ (fun j => (j, kR1 d)), sum_at _ (fun j => (j, kR2 d)),
    Finset.sum_eq_zero (f := fun j => if ((j, kR1 d) : Dev nD × CK) = (c, kBar) then N else 0) (fun j _ => if_neg fun h => by cases h),
    Finset.sum_eq_zero (f := fun j => if ((j, kR2 d) : Dev nD × CK) = (c, kBar) then N else 0) (fun j _ => if_neg fun h => by cases h), Nat.add_zero,
    Finset.sum_congr rfl (g := fun j => if j = c then 1 else 0) (fun j _ => if_congr ⟨fun h => congrArg Prod.fst h, fun h => by rw [h]⟩ rfl rfl), Finset.sum_ite_eq']
  exact if_congr ⟨fun h => (Finset.mem_filter.mp h).2, fun h => Finset.mem_filter.mpr ⟨Finset.mem_univ _, h⟩⟩ rfl rfl
theorem owed_R1 (d c j : Dev nD) (hj : c ≠ j) : O₀ d (kcell (c, kR1 j)) () = if d = j then N else 0 := by
  unfold O₀ O1 O2
  rw [OB_eq, Pi.add_apply, Finsupp.add_apply, Pi.add_apply, Finsupp.add_apply, sum_at _ (fun j => (j, kBar)), sum_at _ (fun j => (j, kR1 d)), sum_at _ (fun j => (j, kR2 d)),
    Finset.sum_eq_zero (f := fun i => if ((i, kBar) : Dev nD × CK) = (c, kR1 j) then 1 else 0) (fun j _ => if_neg fun h => by cases h),
    Finset.sum_eq_zero (f := fun i => if ((i, kR2 d) : Dev nD × CK) = (c, kR1 j) then N else 0) (fun j _ => if_neg fun h => by cases h), Nat.add_zero, Nat.zero_add]
  by_cases h : d = j
  · subst h
    rw [if_pos rfl, Finset.sum_congr rfl (g := fun i => if i = c then N else 0) (fun i _ => if_congr ⟨fun h => congrArg Prod.fst h, fun h => by rw [h]⟩ rfl rfl), Finset.sum_ite_eq',
      if_pos (Finset.mem_filter.mpr ⟨Finset.mem_univ _, hj.symm⟩)]
  · rw [if_neg h]
    exact Finset.sum_eq_zero fun i _ => if_neg fun e => h (by cases e; rfl)
theorem owed_R2 (d c j : Dev nD) (hj : c ≠ j) : O₀ d (kcell (c, kR2 j)) () = if d = j then N else 0 := by
  unfold O₀ O1 O2
  rw [OB_eq, Pi.add_apply, Finsupp.add_apply, Pi.add_apply, Finsupp.add_apply, sum_at _ (fun j => (j, kBar)), sum_at _ (fun j => (j, kR1 d)), sum_at _ (fun j => (j, kR2 d)),
    Finset.sum_eq_zero (f := fun i => if ((i, kBar) : Dev nD × CK) = (c, kR2 j) then 1 else 0) (fun j _ => if_neg fun h => by cases h),
    Finset.sum_eq_zero (f := fun i => if ((i, kR1 d) : Dev nD × CK) = (c, kR2 j) then N else 0) (fun j _ => if_neg fun h => by cases h), Nat.zero_add, Nat.zero_add]
  by_cases h : d = j
  · subst h
    rw [if_pos rfl, Finset.sum_congr rfl (g := fun i => if i = c then N else 0) (fun i _ => if_congr ⟨fun h => congrArg Prod.fst h, fun h => by rw [h]⟩ rfl rfl), Finset.sum_ite_eq',
      if_pos (Finset.mem_filter.mpr ⟨Finset.mem_univ _, hj.symm⟩)]
  · rw [if_neg h]
    exact Finset.sum_eq_zero fun i _ => if_neg fun e => h (by cases e; rfl)

theorem launch_of (p : Dev nD × CK) (n : ℕ) (h : ∑ d, O₀ d (kcell p) () = n) :
    tallyOn (kcell p) (launchCredit (Pipeline.owing O₀) 0 (kcell p)) = (tallyAt (kcell p) () n : CellTallies nD τ sig Unit) := by
  unfold tallyAt; refine congrArg _ (Finsupp.ext fun u => ?_); cases u
  rw [Pipeline.launchCredit_owing, Finsupp.single_eq_same, h]
theorem launch_bar : tallyOn (kcell (c, kBar)) (launchCredit (Pipeline.owing O₀) 0 (kcell (c, kBar))) = (tallyAt (kcell (c, kBar)) () 31 : CellTallies nD τ sig Unit) :=
  launch_of _ _ (by
    rw [Finset.sum_congr rfl fun d _ => owed_bar d c, Finset.sum_ite, Finset.sum_const_zero, Nat.add_zero, Finset.sum_const, smul_eq_mul, Nat.mul_one]
    revert c; decide +kernel)
theorem launch_R1 (j : Dev nD) (hj : c ≠ j) : tallyOn (kcell (c, kR1 j)) (launchCredit (Pipeline.owing O₀) 0 (kcell (c, kR1 j))) = (tallyAt (kcell (c, kR1 j)) () N : CellTallies nD τ sig Unit) :=
  launch_of _ _ (by rw [Finset.sum_congr rfl fun d _ => owed_R1 d c j hj, Finset.sum_ite_eq' Finset.univ j, if_pos (Finset.mem_univ _)])
theorem launch_R2 (j : Dev nD) (hj : c ≠ j) : tallyOn (kcell (c, kR2 j)) (launchCredit (Pipeline.owing O₀) 0 (kcell (c, kR2 j))) = (tallyAt (kcell (c, kR2 j)) () N : CellTallies nD τ sig Unit) :=
  launch_of _ _ (by rw [Finset.sum_congr rfl fun d _ => owed_R2 d c j hj, Finset.sum_ite_eq' Finset.univ j, if_pos (Finset.mem_univ _)])

theorem creds : (Pipeline.launchCred O₀ c : sProp 𝕄) ⊢ iprop(cred (tallyAt (kcell (c, kBar)) () 31)
    ∗ bigSep (others c) (fun j => cred (tallyAt (kcell (c, kR1 j)) () N)) ∗ bigSep (others c) (fun j => cred (tallyAt (kcell (c, kR2 j)) () N))) := by
  classical
  have h1 : (Pipeline.launchCred O₀ c : sProp 𝕄) ⊢ bigSep Finset.univ fun k : CK => cred (tallyOn (kcell (c, k)) (launchCredit (Pipeline.owing O₀) 0 (kcell (c, k)))) := by
    unfold Pipeline.launchCred
    refine (bigSep_subset (Finset.subset_univ (Finset.univ.map ⟨csem, csem_injective⟩))).trans ?_
    rw [bigSep_map]; exact Entails.of_eq (PROP := sProp 𝕄) rfl
  have e1 : bigSep (others c) (fun j => (cred (tallyOn (kcell (c, kR1 j)) (launchCredit (Pipeline.owing O₀) 0 (kcell (c, kR1 j)))) : sProp 𝕄)) = bigSep (others c) (fun j => cred (tallyAt (kcell (c, kR1 j)) () N)) :=
    bigSep_congr fun j hj => by rw [launch_R1 c j (Finset.mem_filter.mp hj).2]
  have e2 : bigSep (others c) (fun j => (cred (tallyOn (kcell (c, kR2 j)) (launchCredit (Pipeline.owing O₀) 0 (kcell (c, kR2 j)))) : sProp 𝕄)) = bigSep (others c) (fun j => cred (tallyAt (kcell (c, kR2 j)) () N)) :=
    bigSep_congr fun j hj => by rw [launch_R2 c j (Finset.mem_filter.mp hj).2]
  refine h1.trans ?_
  rw [ck_split, dk_split, launch_bar, bs_others c (fun j => cred (tallyOn (kcell (c, kR1 j)) (launchCredit (Pipeline.owing O₀) 0 (kcell (c, kR1 j))))),
    bs_others c (fun j => cred (tallyOn (kcell (c, kR2 j)) (launchCredit (Pipeline.owing O₀) 0 (kcell (c, kR2 j))))), e1, e2]
  iintro ⟨H1, -, -, ⟨-, H2⟩, -, -, H3⟩
  isplitl [H1]; · iexact H1
  isplitl [H2]; · iexact H2
  iexact H3

/-- The entries of the send and receive semaphores that are a device's own: nothing is ever copied onto them. -/
def selfH : sProp 𝕄 := iprop(atPos ER (kcell (c, kS1 c)) 0 ∅ 0 ∗ atPos ER (kcell (c, kR1 c)) 0 ∅ 0 ∗ atPos ER (kcell (c, kS2 c)) 0 ∅ 0 ∗ atPos ER (kcell (c, kR2 c)) 0 ∅ 0)

/-- What was dealt to a device is what its body takes. -/
theorem dealt : iprop(linear c ∗ Pipeline.launchCred O₀ c) ⊢ (iprop(tokH c ∗ selfH c) : sProp 𝕄) := by
  unfold linear tokH selfH
  rw [toks_eq, ck_split, dk_split, bs_others c (fun j => atPos ER (kcell (c, kS1 j)) 0 ∅ 0), bs_others c (fun j => atPos ER (kcell (c, kR1 j)) 0 ∅ 0),
    bs_others c (fun j => atPos ER (kcell (c, kS2 j)) 0 ∅ 0), bs_others c (fun j => atPos ER (kcell (c, kR2 j)) 0 ∅ 0),
    bs_others c (fun j => dutyTok ER (kcell (j, kBar)) 0 c), bs_others c (fun j => dutyTok ER (kcell (c, kS1 j)) 0 c), bs_others c (fun j => dutyTok ER (kcell (j, kR1 c)) 0 c),
    bs_others c (fun j => dutyTok ER (kcell (c, kS2 j)) 0 c), bs_others c (fun j => dutyTok ER (kcell (j, kR2 c)) 0 c), bs_shift c (fun j => dutyTok ER (kcell (j, kBar)) 0 c)]
  iintro ⟨⟨⟨PB, ⟨P0, P1, P2, P3, P4⟩, ⟨Ps1, PS1⟩, ⟨Pr1, PR1⟩, ⟨Ps2, PS2⟩, Pr2, PR2⟩, ⟨D0, D1, D2, D3, D4⟩, ⟨-, DB⟩, ⟨-, DS1⟩, ⟨-, DR1⟩, ⟨-, DS2⟩, -, DR2⟩, HC⟩
  ihave ⟨CB, C1, C2⟩ := (creds c) $$ HC
  isplitr [Ps1 Pr1 Ps2 Pr2]
  · isplitl [P0 P1 P2 P3 P4 D0 D1 D2 D3 D4]
    · isplitl [P0 D0]
      · isplitl [D0]; · iexact D0
        iexact P0
      isplitl [P1 D1]
      · isplitl [D1]; · iexact D1
        iexact P1
      isplitl [P2 D2]
      · isplitl [D2]; · iexact D2
        iexact P2
      isplitl [P3 D3]
      · isplitl [D3]; · iexact D3
        iexact P3
      isplitl [D4]; · iexact D4
      iexact P4
    isplitl [CB PB]
    · isplitl [CB]; · iexact CB
      iexact PB
    isplitl [DB]; · iexact DB
    isplitl [DS1 DR1]
    · iapply (bs_pair (others c))
      isplitl [DS1]; · iexact DS1
      iexact DR1
    isplitl [DS2 DR2]
    · iapply (bs_pair (others c))
      isplitl [DS2]; · iexact DS2
      iexact DR2
    isplitl [C1 PR1]
    · iapply (bs_pair (others c))
      isplitl [C1]; · iexact C1
      iexact PR1
    isplitl [C2 PR2]
    · iapply (bs_pair (others c))
      isplitl [C2]; · iexact C2
      iexact PR2
    · iapply (bs_pair (others c))
      isplitl [PS1]; · iexact PS1
      iexact PS2
  · isplitl [Ps1]; · iexact Ps1
    isplitl [Pr1]; · iexact Pr1
    isplitl [Ps2]; · iexact Ps2
    iexact Pr2

end Cert.KProof
-- ==== Proof.Launch.lean ====
/-
# The launch

The body with what a device holds around it; the closing of its cells; the run of the whole mesh.
-/
module

public import proofs.«01_k».proof.Proof.Ghost
public import proofs.«01_k».proof.Proof.Gen.KernelIdeal.Points
public import Idealize.ShloMosaic.Lib.Pipeline.ValueKit.Geometry
public import Idealize.ShloMosaic.Lib.Pipeline.FrameBody
public import Idealize.ShloMosaic.Lib.Pipeline.CollectiveSegs

@[expose] public section

set_option backward.proofsInPublic true

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline

variable (m : (ℓ : Loc nD τ sig) → Buf (Elt F) ℓ) (ρ : Dev nD → PrngReg) (K : Dev nD × CK → ℕ) (c : Dev nD)

/-! ## The argument arrays -/

/-- A device's five argument arrays, whole, as they were. -/
def argsW : sProp 𝕄 := iprop(pt c main_arg0 (m ((c : Thread nD τ).loc main_arg0)) ∗ pt c main_arg1 (m ((c : Thread nD τ).loc main_arg1))
  ∗ pt c main_arg2 (m ((c : Thread nD τ).loc main_arg2)) ∗ pt c main_arg3 (m ((c : Thread nD τ).loc main_arg3)) ∗ pt c main_arg4 (m ((c : Thread nD τ).loc main_arg4)))
/-- The heads of the keys and of the values a device does not fetch. -/
def kvRest : sProp 𝕄 := iprop(((c : Thread nD τ).loc main_arg2 ↦[Finset.univ \ (kSrc c).view.set]{fullShare} m ((c : Thread nD τ).loc main_arg2))
  ∗ ((c : Thread nD τ).loc main_arg3 ↦[Finset.univ \ (vSrc c).view.set]{fullShare} m ((c : Thread nD τ).loc main_arg3)))

theorem k_split : (pt c main_arg2 (m ((c : Thread nD τ).loc main_arg2)) : sProp 𝕄)
    ⊣⊢ iprop(kPt m c ∗ ((c : Thread nD τ).loc main_arg2 ↦[Finset.univ \ (kSrc c).view.set]{fullShare} m ((c : Thread nD τ).loc main_arg2))) :=
  pointsTo_split_subset (Finset.subset_univ (kSrc c).view.set)
theorem v_split : (pt c main_arg3 (m ((c : Thread nD τ).loc main_arg3)) : sProp 𝕄)
    ⊣⊢ iprop(vPt m c ∗ ((c : Thread nD τ).loc main_arg3 ↦[Finset.univ \ (vSrc c).view.set]{fullShare} m ((c : Thread nD τ).loc main_arg3))) :=
  pointsTo_split_subset (Finset.subset_univ (vSrc c).view.set)

theorem args_split : argsW m c ⊢ iprop(argsH m c ∗ kvRest m c) := by
  unfold argsW argsH kvRest
  iintro ⟨A0, A1, A2, A3, A4⟩
  ihave ⟨A2, R2⟩ := (k_split m c).1 $$ A2
  ihave ⟨A3, R3⟩ := (v_split m c).1 $$ A3
  isplitr [R2 R3]
  · isplitl [A0]; · iexact A0
    isplitl [A1]; · iexact A1
    isplitl [A4]; · iexact A4
    isplitl [A2]; · iexact A2
    iexact A3
  isplitl [R2]; · iexact R2
  iexact R3
theorem args_join : iprop(argsH m c ∗ kvRest m c) ⊢ argsW m c := by
  unfold argsW argsH kvRest
  iintro ⟨⟨A0, A1, A4, A2, A3⟩, R2, R3⟩
  isplitl [A0]; · iexact A0
  isplitl [A1]; · iexact A1
  isplitl [A2 R2]
  · iapply (k_split m c).2
    isplitl [A2]; · iexact A2
    iexact R2
  isplitl [A3 R3]
  · iapply (v_split m c).2
    isplitl [A3]; · iexact A3
    iexact R3
  iexact A4

/-! ## Closing the cells -/

/-- A cell whose one round is over gives its counter back, at zero. -/
theorem close1 (k : CK) : iprop(recs m K ∗ atPos ER (kcell (c, k)) 1 ∅ 0) ⊢ (|={Set.univ}=> semVal (kcell (c, k)) 0 : sProp 𝕄) := by
  iintro ⟨#HR, H⟩
  iapply (Rounds.cell_close ER (sched m) (Set.mem_univ (K (c, k))) (fun h => h) (R := 1) (duties_later m _))
  isplitr; · iapply (recs_inv m K (c, k)); iexact HR
  iexact H
/-- So does a cell on which nothing is ever paid. -/
theorem close0 (k : CK) (h : duK c k = ∅) : iprop(recs m K ∗ atPos ER (kcell (c, k)) 0 ∅ 0) ⊢ (|={Set.univ}=> semVal (kcell (c, k)) 0 : sProp 𝕄) := by
  iintro ⟨#HR, H⟩
  iapply (Rounds.cell_close ER (sched m) (Set.mem_univ (K (c, k))) (fun h => h) (R := 0) (duties_none m c k h))
  isplitr; · iapply (recs_inv m K (c, k)); iexact HR
  iexact H
/-- A family of cells over all devices: the device's own entry, on which nothing is paid, and the others. -/
theorem closeF (k : Dev nD → CK) (h : duK c (k c) = ∅) :
    iprop(recs m K ∗ bigSep (others c) (fun j => atPos ER (kcell (c, k j)) 1 ∅ 0) ∗ atPos ER (kcell (c, k c)) 0 ∅ 0)
      ⊢ (|={Set.univ}=> bigSep Finset.univ (fun j => semVal (kcell (c, k j)) 0) : sProp 𝕄) := by
  iintro ⟨#HR, H, H0⟩
  imod (close0 m K c (k c) h) $$ [H0] with H0
  · isplitr; · iexact HR
    iexact H0
  imod ((bigSep_with (R := recs m K) (S := others c) (Φ := fun j => atPos ER (kcell (c, k j)) 1 ∅ 0) fun j _ => close1 m K c (k j)).trans (bigSep_fupd _ _)) $$ [H] with H
  · isplitr; · iexact HR
    iexact H
  imodintro
  rw [bs_others c (fun j => semVal (kcell (c, k j)) 0)]
  isplitl [H0]; · iexact H0
  iexact H

theorem close_all : iprop(recs m K ∗ endH c ∗ selfH c)
    ⊢ (|={Set.univ}=> iprop(unscopedSems0 c ∗ Pipeline.ownSems0 (Ix := Unit) (Name := ℕ) (U := UU) (Lvl := ℕ) (Val := Elt F) (τ := τ) osem c) : sProp 𝕄) := by
  have e : (Pipeline.ownSems0 (Ix := Unit) (Name := ℕ) (U := UU) (Lvl := ℕ) (Val := Elt F) (τ := τ) osem c : sProp 𝕄) = bigSep Finset.univ (fun k : DK => semVal (kcell (c, .inr k)) 0) := rfl
  rw [unscopedSems0_eq, e, dk_split]
  unfold endH selfH
  iintro ⟨#HR, ⟨⟨L0, L1, L2, L3, L4⟩, B, P1, Q1, P2, Q2⟩, p1, q1, p2, q2⟩
  imod (close1 m K c kBar) $$ [B] with B
  · isplitr; · iexact HR
    iexact B
  imod (close1 m K c (kLoc 0)) $$ [L0] with L0
  · isplitr; · iexact HR
    iexact L0
  imod (close1 m K c (kLoc 1)) $$ [L1] with L1
  · isplitr; · iexact HR
    iexact L1
  imod (close1 m K c (kLoc 2)) $$ [L2] with L2
  · isplitr; · iexact HR
    iexact L2
  imod (close1 m K c (kLoc 3)) $$ [L3] with L3
  · isplitr; · iexact HR
    iexact L3
  imod (close1 m K c (kLoc 4)) $$ [L4] with L4
  · isplitr; · iexact HR
    iexact L4
  imod (closeF m K c kS1 (if_pos rfl)) $$ [P1 p1] with P1
  · isplitr; · iexact HR
    isplitl [P1]; · iexact P1
    iexact p1
  imod (closeF m K c kR1 (if_pos rfl)) $$ [Q1 q1] with Q1
  · isplitr; · iexact HR
    isplitl [Q1]; · iexact Q1
    iexact q1
  imod (closeF m K c kS2 (if_pos rfl)) $$ [P2 p2] with P2
  · isplitr; · iexact HR
    isplitl [P2]; · iexact P2
    iexact p2
  imod (closeF m K c kR2 (if_pos rfl)) $$ [Q2 q2] with Q2
  · isplitr; · iexact HR
    isplitl [Q2]; · iexact Q2
    iexact q2
  imodintro
  isplitl [B]; · iexact B
  isplitl [L0 L1 L2 L3 L4]
  · isplitl [L0]; · iexact L0
    isplitl [L1]; · iexact L1
    isplitl [L2]; · iexact L2
    isplitl [L3]; · iexact L3
    iexact L4
  isplitl [P1]; · iexact P1
  isplitl [Q1]; · iexact Q1
  isplitl [P2]; · iexact P2
  iexact Q2

/-! ## The body, with everything a device holds -/

/-- What a device holds when its body starts, scratch apart; what it holds when its body is over. -/
def start : sProp 𝕄 := iprop((∃ K, recs m K) ∗ tokH c ∗ selfH c ∗ argsW m c)
def Φ₀ : sProp 𝕄 := iprop(start m c ∗ scrH c)
def Φ₁ : sProp 𝕄 := iprop(argsW m c ∗ unscopedSems0 c ∗ Pipeline.ownSems0 (Ix := Unit) (Name := ℕ) (U := UU) (Lvl := ℕ) (Val := Elt F) (τ := τ) osem c ∗ scrH c)

theorem body_whole : iprop(Φ₀ m c ∗ OwE c (O₀ c) ∗ (∃ f, pt c cc0_stg0_0 f))
    ⊢ WP c (appl (cc0_body (F := F))) fun _ => iprop(Φ₁ m c ∗ OwE c 0 ∗ pt c cc0_stg0_0 (outV m c)) := by
  have hpost (K) : (iprop((OwE c 0 ∗ argsH m c ∗ scrH c ∗ pt c cc0_stg0_0 (outV m c) ∗ endH c) ∗ recs m K ∗ selfH c ∗ kvRest m c) : sProp 𝕄)
      ⊢ |={Set.univ}=> iprop(Φ₁ m c ∗ OwE c 0 ∗ pt c cc0_stg0_0 (outV m c)) := by
    unfold Φ₁
    iintro ⟨⟨HO, HA, HS, HX, HE⟩, #HR, Hs, Hr⟩
    imod (close_all m K c) $$ [HE Hs] with ⟨H1, H2⟩
    · isplitr; · iexact HR
      isplitl [HE]; · iexact HE
      iexact Hs
    imodintro
    isplitr [HO HX]
    · isplitl [HA Hr]
      · iapply (args_join m c)
        isplitl [HA]; · iexact HA
        iexact Hr
      isplitl [H1]; · iexact H1
      isplitl [H2]; · iexact H2
      iexact HS
    isplitl [HO]; · iexact HO
    iexact HX
  have hrun (K) : iprop((recs m K ∗ OwE c (O₀ c) ∗ argsH m c ∗ scrH c ∗ (∃ f, pt c cc0_stg0_0 f) ∗ tokH c) ∗ (recs m K ∗ selfH c ∗ kvRest m c))
      ⊢ WP c (appl (cc0_body (F := F))) fun _ => iprop(Φ₁ m c ∗ OwE c 0 ∗ pt c cc0_stg0_0 (outV m c)) :=
    (sep_mono_left (body_run m K c)).trans ((wp_frame_r frame _ Set.univ).trans ((wp_mono frame _ Set.univ fun _ => hpost K).trans (wp_fupd frame _ Set.univ _ _)))
  unfold Φ₀ start
  iintro ⟨⟨⟨⟨%K, #HR⟩, HT, Hs, HA⟩, HS⟩, HO, HX⟩
  ihave ⟨HA, Hr⟩ := (args_split m c) $$ HA
  iapply (hrun K)
  isplitr [Hs Hr]
  · isplitr; · iexact HR
    isplitl [HO]; · iexact HO
    isplitl [HA]; · iexact HA
    isplitl [HS]; · iexact HS
    isplitl [HX]; · iexact HX
    iexact HT
  isplitr; · iexact HR
  isplitl [Hs]; · iexact Hs
  iexact Hr

/-! ## The launch's data -/

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_W (Φ : Fin cfg0.W → sProp 𝕄) : bigSep Finset.univ Φ = iprop(Φ (0 : Fin 1)) := bigSep_W0 Φ

set_option maxRecDepth 4000 in
def bodyPre (c : Dev nD) : sProp 𝕄 :=
  iprop(Φ₀ m c ∗ (dats m ρ 0 c).owesAt () t0_0.castSucc ∗ (∃ d, owns (c : Thread nD τ) (Memref.whole cc0_stg0_0) fullShare ((dats m ρ 0 c).before (0 : Fin 1) t0_0 d)))
set_option maxRecDepth 4000 in
def bodyPost (c : Dev nD) : sProp 𝕄 :=
  iprop(Φ₁ m c ∗ (dats m ρ 0 c).owesAt () t0_0.succ ∗ owns (c : Thread nD τ) (Memref.whole cc0_stg0_0) fullShare (outV m c))

set_option maxRecDepth 4000 in
theorem body_pre (c : Dev nD) : bodyPre m ρ c ⊢ iprop(Φ₀ m c ∗ OwE c (O₀ c) ∗ (∃ f, pt c cc0_stg0_0 f)) := by
  unfold bodyPre Dat.owesAt Pipeline.owesWithin OwE
  rw [show (dats m ρ 0 c).owed t0_0.castSucc = O₀ c from rfl]
  iintro ⟨H, ⟨%W, %hW, HO⟩, ⟨%d, HX⟩⟩
  ihave ⟨%f, %hf, HX⟩ := (Entails.of_eq (owns_whole_eq c cc0_stg0_0 _)) $$ HX
  isplitl [H]; · iexact H
  isplitl [HO]; · iexists W; iexact HO
  iexists f; iexact HX
set_option maxRecDepth 4000 in
theorem body_post (c : Dev nD) : iprop(Φ₁ m c ∗ OwE c 0 ∗ pt c cc0_stg0_0 (outV m c)) ⊢ bodyPost m ρ c := by
  unfold bodyPost Dat.owesAt Pipeline.owesWithin OwE
  rw [show (dats m ρ 0 c).owed t0_0.succ = 0 from rfl]
  iintro ⟨H, ⟨%W, HO⟩, HX⟩
  isplitl [H]; · iexact H
  isplitl [HO]
  · iexists W
    isplitr; · ipureintro; exact fun _ _ => Or.inl trivial
    iexact HO
  rw [owns_whole_eq]
  iexists (outV m c)
  isplitr; · ipureintro; rfl
  iexact HX

/-- The body table's row at the point is the body. -/
theorem defs₀_row (t : Fin cfg0.N) : defs₀ (F := F) .tc cfg0.body (cfg0.bodyArgs t (cfg0.slots t)) = bodyAt0 t := by
  unfold defs₀; rw [Defs.onTc_tc]

attribute [local irreducible] outV Φ₀ Φ₁ in
set_option maxRecDepth 4000 in
/-- A device's body, as the launch asks for it. -/
theorem body_obligation (c : Dev nD) : BodyObligation (dats (F := F) m ρ 0 c) (defs₀ (F := F)) 𝒱₀ () Set.univ := fun t => by
  rw [fin_N0 t]
  rw [bigSep_W, bigSep_W, defs₀_row]
  exact triple_restated (body_whole m c) rfl (body_pre m ρ c) fun _ => body_post m ρ c

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  rw [unscopedRestP_none, show cfg0.spec = spec0 from rfl, unscopedRest0_eq]
  unfold start G' argsW
  iintro ⟨HA, Hlev, Hcr, -, ⟨%K, Hrec, Hlin⟩⟩
  ihave ⟨HT, HS⟩ := (dealt (F := F) c) $$ [Hlin Hcr]
  · isplitl [Hlin]; · iexact Hlin
    iexact Hcr
  imodintro
  isplitl
  · isplitl [Hlev Hrec]
    · iexists K
      iapply (show iprop((levAts L lv : sProp 𝕄) ∗ records m K) ⊢ recs m K by unfold records recs; exact .rfl)
      isplitl [Hlev]; · iexact Hlev
      iexact Hrec
    isplitl [HT]; · iexact HT
    isplitl [HS]; · iexact HS
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀ scrH
  iintro ⟨Hs, -, Hr⟩
  isplitl [Hs]; · iexact Hs
  iexact Hr

theorem phi1_exit (c : Dev nD) :
    (dats m ρ 0 c).Φ (Fin.last cfg0.N) ⊢ iprop((argsW m c ∗ unscopedSems0 c) ∗ Pipeline.ownSems0 osem c ∗ Pipeline.scopedRest cfg0.spec c) := by
  rw [show (dats m ρ 0 c).Φ (Fin.last cfg0.N) = Φ₁ m c from rfl, show cfg0.spec = spec0 from rfl, scopedRest0_eq]
  unfold Φ₁ scrH
  iintro ⟨HA, HU, HS, Hr⟩
  isplitl [HA HU]
  · isplitl [HA]; · iexact HA
    iexact HU
  isplitl [HS]; · iexact HS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_of c _ 0 (by fin_cases w; fin_cases s; exact le_of_eq rfl) _ (by
      rcases t with ⟨_ | _, ht⟩
      · exact owesTo_O₀ c
      · exact owesTo_zero 0)

/-! ## The run -/

/-- The five arguments of `c` are what they were. -/
def kept (c : Dev nD) (μ : MemSt nD τ sig (Elt F)) : Prop :=
  μ.mem ((c : Thread nD τ).loc main_arg0) = m ((c : Thread nD τ).loc main_arg0)
  ∧ μ.mem ((c : Thread nD τ).loc main_arg1) = m ((c : Thread nD τ).loc main_arg1)
  ∧ μ.mem ((c : Thread nD τ).loc main_arg2) = m ((c : Thread nD τ).loc main_arg2)
  ∧ μ.mem ((c : Thread nD τ).loc main_arg3) = m ((c : Thread nD τ).loc main_arg3)
  ∧ μ.mem ((c : Thread nD τ).loc main_arg4) = m ((c : Thread nD τ).loc main_arg4)

theorem read1 (b : Ref sig .tc) (f : Buf (Elt F) ((c : Thread nD τ).loc b)) (s' : Phys nD τ sig (Elt F)) :
    iprop(SI s' ∗ pt c b f) ⊢ (⌜s'.mem.mem ((c : Thread nD τ).loc b) = f⌝ : sProp 𝕄) :=
  SI_pointsTo_agree.trans (BI.pure_mono fun h => funext fun i => h i (Finset.mem_univ i))

theorem args_read (c : Dev nD) (s' : Phys nD τ sig (Elt F)) :
    iprop(argsW m c ∗ SI s') ⊢ (<pers> ⌜kept m c s'.mem⌝ : sProp 𝕄) := by
  have h : iprop(argsW m c ∗ SI s') ⊢ (⌜kept m c s'.mem⌝ : sProp 𝕄) := by
    unfold argsW kept
    exact fun x hx => ⟨
      (show iprop((pt c main_arg0 _ ∗ pt c main_arg1 _ ∗ pt c main_arg2 _ ∗ pt c main_arg3 _ ∗ pt c main_arg4 _) ∗ SI s') ⊢ (⌜s'.mem.mem ((c : Thread nD τ).loc main_arg0) = _⌝ : sProp 𝕄) by
        iintro ⟨⟨A, -, -, -, -⟩, H⟩; iapply (read1 c main_arg0 _ s'); isplitl [H] <;> iassumption) x hx,
      (show iprop((pt c main_arg0 _ ∗ pt c main_arg1 _ ∗ pt c main_arg2 _ ∗ pt c main_arg3 _ ∗ pt c main_arg4 _) ∗ SI s') ⊢ (⌜s'.mem.mem ((c : Thread nD τ).loc main_arg1) = _⌝ : sProp 𝕄) by
        iintro ⟨⟨-, A, -, -, -⟩, H⟩; iapply (read1 c main_arg1 _ s'); isplitl [H] <;> iassumption) x hx,
      (show iprop((pt c main_arg0 _ ∗ pt c main_arg1 _ ∗ pt c main_arg2 _ ∗ pt c main_arg3 _ ∗ pt c main_arg4 _) ∗ SI s') ⊢ (⌜s'.mem.mem ((c : Thread nD τ).loc main_arg2) = _⌝ : sProp 𝕄) by
        iintro ⟨⟨-, -, A, -, -⟩, H⟩; iapply (read1 c main_arg2 _ s'); isplitl [H] <;> iassumption) x hx,
      (show iprop((pt c main_arg0 _ ∗ pt c main_arg1 _ ∗ pt c main_arg2 _ ∗ pt c main_arg3 _ ∗ pt c main_arg4 _) ∗ SI s') ⊢ (⌜s'.mem.mem ((c : Thread nD τ).loc main_arg3) = _⌝ : sProp 𝕄) by
        iintro ⟨⟨-, -, -, A, -⟩, H⟩; iapply (read1 c main_arg3 _ s'); isplitl [H] <;> iassumption) x hx,
      (show iprop((pt c main_arg0 _ ∗ pt c main_arg1 _ ∗ pt c main_arg2 _ ∗ pt c main_arg3 _ ∗ pt c main_arg4 _) ∗ SI s') ⊢ (⌜s'.mem.mem ((c : Thread nD τ).loc main_arg4) = _⌝ : sProp 𝕄) by
        iintro ⟨⟨-, -, -, -, A⟩, H⟩; iapply (read1 c main_arg4 _ s'); isplitl [H] <;> iassumption) x hx⟩
  exact h.trans BI.persistently_pure.2

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ kept m c r.2

set_option maxRecDepth 8000 in
theorem run_region : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(argsW m c ∗ unscopedSems0 c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ kept m c s)
    (hY := fun c s' => by
      iintro ⟨⟨HA, Hu⟩, -, HSI⟩
      ihave %h := (args_read m c s') $$ [HA HSI]
      · isplitl [HA] <;> iassumption
      imod (Pipeline.unscopedSems0_read (X := unscopedSems0 c) (c := c) fupd_intro s') $$ [Hu HSI] with ⟨%h', HSI⟩
      · isplitl [Hu] <;> iassumption
      imodintro
      isplitr; · ipureintro; exact ⟨h', h⟩
      iexact HSI)
    (hQ := fun _ h hs => ⟨fun c => ⟨fun w => (h c).1 w, (h c).2.2.2⟩, sem_eq_zero hs fun c => (h c).2.2.1⟩)

attribute [local irreducible] outV in
/-- The result array is written once, whole, with the staged rows. -/
theorem finalA_out (c : Dev nD) : finalA m ρ c (0 : Fin 1) = outV m c := by
  refine (dats (F := F) m ρ 0 c).arrAt_eq_of_after_last (0 : Fin 1) t0_0 (by decide +kernel) (outV m c) (fun j => ?_) (Memref.isWhole_whole _)
  have ha : (dats (F := F) m ρ 0 c).after (0 : Fin 1) t0_0 = outV m c := rfl
  rw [ha]
  generalize outV m c = g
  rfl

/-- On the mesh of 32 devices, for any float values, from any memory with zero counters: every weakly fair execution terminates,
    and at the end each device's result array holds `outV`, its arguments are what they were, and every counter is zero. -/
theorem run_main : θ_run defs (onTc (τ := τ) (main (F := F))) (s₀ m ρ)
    (fun r => (∀ c : Dev nD, r.2.mem ((c : Thread nD τ).loc main_v1) = outV m c ∧ kept m c r.2) ∧ r.2.sem = fun _ => 0) :=
  (θ_run defs _ _).mono (fun r h => ⟨fun c => ⟨((h.1 c).1 (0 : Fin 1)).trans (finalA_out m ρ c), (h.1 c).2⟩, h.2⟩) (run_region m ρ)

end Cert.KProof
-- ==== Proof.Frames.lean ====
/-
# The frames

The two frame claims about the kernel: its run at the bit-exact and at the ideal floats. The printed kernel and its ideal counterpart are
the same text, so one run serves both.
-/
module

public import proofs.«01_k».proof.Defs
public import proofs.«01_k».proof.Proof.Launch
public import proofs.«01_k».proof.Proof.Gen.Kernel

@[expose] public section

noncomputable section

namespace Cert.KProof

open Idealize.ShloMosaic Idealize.SL.Sem

variable {F : FTy → Type} [FloatOps F]

/-- The ideal kernel terminates without a fault, leaves its arguments as they were and every counter at zero. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (run_main (F := Ideal) m g)

/-- The two printed bodies are one program. -/
theorem body_same : @Cert.Kernel.cc0_body F _ Cert.Kernel.Gen.facts = @Cert.KernelIdeal.cc0_body F _ Cert.KernelIdeal.Gen.facts := rfl
/-- So are the two body tables, -/
theorem defs₀_same : @Cert.Kernel.defs₀ F _ Cert.Kernel.Gen.facts = @Cert.KernelIdeal.defs₀ F _ Cert.KernelIdeal.Gen.facts := by
  funext p l a
  unfold Cert.Kernel.defs₀ Cert.KernelIdeal.defs₀
  rcases p with _ | _
  · obtain ⟨_ | l, hl⟩ := l
    · rfl
    · exact absurd hl (Nat.not_lt.2 (Nat.le_add_left _ _))
  all_goals rfl
/-- with the launch's entries added. -/
theorem defs_same : @Cert.Kernel.defs F _ Cert.Kernel.Gen.facts = @Cert.KernelIdeal.defs F _ Cert.KernelIdeal.Gen.facts := by
  unfold Cert.Kernel.defs Cert.KernelIdeal.defs
  exact congrArg (Pipeline.defs (Cert.KernelIdeal.pcfgs (F := F))) defs₀_same

/-- The printed kernel terminates without a fault, leaves its arguments as they were and every counter at zero. -/
theorem frame_bits : Cert.quiescent_Kernel (hKernel := Cert.Kernel.Gen.facts) := fun m g _ => by
  rw [defs_same]
  exact (θ_run (Cert.KernelIdeal.defs (F := Bits)) _ _).mono (fun _ h => ⟨fun c => (h.1 c).2, h.2⟩) (run_main (F := Bits) m g)

end Cert.KProof
-- ==== Proof.Head.lean ====
/-
# The attention of one head, as real arithmetic

What one head computes for one batch entry, over the extended reals, stated once: the kernel's blocks and the reference's slices are both read as this.
-/
module

public import Idealize.ShloMosaic.Lib.Pointwise

@[expose] public section

noncomputable section

namespace Cert.KProof

open Idealize.ShloMosaic

/-- The block mask: query row `i` sees key row `j`. -/
def mk (i j : Fin 128) : BitVec 1 :=
  if i.val / 64 = j.val / 64 ∨ j.val / 64 = 0 ∨ (i.val / 64 + j.val / 64) % 3 = 0 then 1#1 else 0#1

variable (q k v : Fin 128 → Fin 64 → EReal)

/-- The masked score of query row `i` against key row `j`, -/
def sc (i j : Fin 128) : EReal :=
  if mk i j = 1#1 then (∑ d : Fin 64, q i d * k j d) * Ideal.ofBits .f32 0x3E000000#32 else Ideal.ofBits .f32 0xCE6E6B28#32
/-- its exponential, the row's largest score taken off, -/
def ex (i j : Fin 128) : EReal := Ideal.exp (sc q k i j - Finset.univ.fold max (Ideal.ofBits .f32 0xFF800000#32) (sc q k i))
/-- and the head's output: the values weighed by the normalised exponentials. -/
def head (i : Fin 128) (d : Fin 64) : EReal := ∑ j : Fin 128, Ideal.div (ex q k i j) (∑ j' : Fin 128, ex q k i j') * v j d

end Cert.KProof
-- ==== Proof.KerValue.lean ====
/-
# The kernel's value, at an index

The result that the launch theorem names, read in real arithmetic: at row `R` and column `n` it is, on every device, the sum over the devices of their shares of the output projection, each over the 256 columns of its four heads.
-/
module

public import proofs.«01_k».proof.Proof.Head
public import proofs.«01_k».proof.Proof.Regions

@[expose] public section

set_option backward.proofsInPublic true

noncomputable section

namespace Cert.KProof

open Cert.KernelIdeal Cert.KernelIdeal.Gen Idealize.ShloMosaic Idealize.ShloMosaic.TcCoe Idealize.SL.Sem

/-! ## The kernel's stored values at an index -/

/-- The block of a position, as the kernel's integer division spells it. -/
theorem floor_word : ∀ i : Fin 128,
    Scalar.select (IntOp.andi (IntOp.cmpi CmpIPredicate.ne (IntOp.subi (BitVec.setWidth 32 (IntOp.cmpi CmpIPredicate.sgt (BitVec.ofNat 32 i.val) 0#32)) (BitVec.setWidth 32 (IntOp.cmpi CmpIPredicate.slt (BitVec.ofNat 32 i.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 i.val) 64#32) 0#32))
      (IntOp.subi (IntOp.divsi ArithUnit.vector (BitVec.ofNat 32 i.val) 64#32) 1#32) (IntOp.divsi ArithUnit.vector (BitVec.ofNat 32 i.val) 64#32)
    = BitVec.ofNat 32 (i.val / 64) := by decide +kernel

/-- The kernel's mask is the block mask. -/
theorem msk_apply (i j : Fin 128) : msk (ix2 i j) = mk i j := by
  pointwise [msk, k0_pay7, mskA, mskR, k0_pay4, k0_pay5, k0_pay2, k0_pay3, k0_pay6]
  rw [floor_word i, floor_word j]
  unfold mk
  have hi : i.val / 64 = 0 ∨ i.val / 64 = 1 := by omega
  have hj : j.val / 64 = 0 ∨ j.val / 64 = 1 := by omega
  rcases hi with hi | hi <;> rcases hj with hj | hj <;> rw [hi, hj] <;> decide +kernel

/-- One head on one batch entry, from its block of queries, keys and values. -/
theorem pay17_apply (q : FVec Ideal S128x64 .f32) (k v : Vec Ideal S1x128x1x64 .f32) (i : Fin 128) (d : Fin 64) :
    k0_pay17 (F := Ideal) msk q k v (ix2 i d) = head (fun i d => q (ix2 i d)) (fun j d => k (ix4 0 j 0 d)) (fun j d => v (ix4 0 j 0 d)) i d := by
  pointwise [k0_pay17]
  simp only [msk_apply]
  rfl

/-- The queries. -/
theorem pay1_apply (x : Vec Ideal S2x128x512 .f32) (w : Vec Ideal S512x256 .f32) (r : Fin 256) (n : Fin 256) :
    k0_pay1 (F := Ideal) x w (ix2 r n) = ∑ e : Fin 512, x (ix3 ⟨r.val / 128, by omega⟩ ⟨r.val % 128, by omega⟩ e) * w (ix2 e n) := by
  pointwise [k0_pay1]

/-- A device's share of the output projection, as kept and as sent. -/
theorem pay23_apply (w : Vec Ideal S256x512 .f32) (x : Vec Ideal S256x256 .f32) (r : Fin 256) (n : Fin 512) :
    k0_pay23 (F := Ideal) w x (ix2 r n) = ∑ e : Fin 256, x (ix2 r e) * w (ix2 e n) := by
  pointwise [k0_pay23, k0_pay22]
theorem pay24_apply (w : Vec Ideal S256x512 .f32) (x : Vec Ideal S256x256 .f32) (r : Fin 256) (n : Fin 512) :
    k0_pay24 (F := Ideal) w x (ix2 r n) = ∑ e : Fin 256, x (ix2 r e) * w (ix2 e n) := by
  pointwise [k0_pay24, k0_pay22]

/-- The eight rows a device finishes, as kept and as sent. -/
theorem pay25_apply (p : BitVec 32) (x : Vec Ideal S32x8x512 .bf16) (o : Vec Ideal S8x512 .f32) (r : Fin 8) (n : Fin 512) :
    k0_pay25 (F := Ideal) p x o (ix2 r n) = (∑ e : Fin 32, Scalar.select (IntOp.cmpi .eq (BitVec.ofNat 32 e.val) p) (0 : EReal) (x (ix3 e r n))) + o (ix2 r n) := by
  pointwise [k0_pay25]
theorem pay26_apply (p : BitVec 32) (x : Vec Ideal S32x8x512 .bf16) (o : Vec Ideal S8x512 .f32) (r : Fin 8) (n : Fin 512) :
    k0_pay26 (F := Ideal) p x o (ix2 r n) = k0_pay25 (F := Ideal) p x o (ix2 r n) := by
  pointwise [k0_pay26]

/-! ## The buffers at an index -/

variable (m : (ℓ : Loc nD τ sig) → Buf (Elt Ideal) ℓ) (c : Dev nD)

/-- The arguments, as device `c` holds them. -/
abbrev xA : FVec Ideal S2x128x512 .f32 := m ((c : Thread nD τ).loc main_arg0)
abbrev wqA : FVec Ideal S512x256 .f32 := m ((c : Thread nD τ).loc main_arg1)
abbrev kA : FVec Ideal S2x128x128x64 .f32 := m ((c : Thread nD τ).loc main_arg2)
abbrev vA : FVec Ideal S2x128x128x64 .f32 := m ((c : Thread nD τ).loc main_arg3)
abbrev woA : FVec Ideal S256x512 .f32 := m ((c : Thread nD τ).loc main_arg4)

/-- A device's head is a head of the whole problem. -/
abbrev headIx (c : Dev nD) (h : Fin 4) : Fin 128 := ⟨4 * c.val + h.val, by have h' : c.val < 32 := c.isLt; omega⟩

theorem kBlk_apply (b : Fin 2) (h : Fin 4) (j : Fin 128) (d : Fin 64) :
    kBlk m c b h (ix4 0 j 0 d) = kA m c (ix4 b j (headIx c h) d) := by
  have ho : k0_off1 c = ![0, 0, 4 * c.val, 0] := ClosedOff.eq
  refine congrArg (kA m c) ?_
  funext a
  match a with
  | ⟨0, _⟩ => exact Fin.ext (by show k0_off1 c 0 + 1 * (b.val + 1 * 0) = b.val; rw [ho]; show 0 + 1 * (b.val + 1 * 0) = b.val; omega)
  | ⟨1, _⟩ => exact Fin.ext (by show k0_off1 c 1 + 1 * (0 + 1 * j.val) = j.val; rw [ho]; show 0 + 1 * (0 + 1 * j.val) = j.val; omega)
  | ⟨2, _⟩ => exact Fin.ext (by show k0_off1 c 2 + 1 * (h.val + 1 * 0) = 4 * c.val + h.val; rw [ho]; show 4 * c.val + 1 * (h.val + 1 * 0) = 4 * c.val + h.val; omega)
  | ⟨3, _⟩ => exact Fin.ext (by show k0_off1 c 3 + 1 * (0 + 1 * d.val) = d.val; rw [ho]; show 0 + 1 * (0 + 1 * d.val) = d.val; omega)

theorem vBlk_apply (b : Fin 2) (h : Fin 4) (j : Fin 128) (d : Fin 64) :
    vBlk m c b h (ix4 0 j 0 d) = vA m c (ix4 b j (headIx c h) d) := by
  have ho : k0_off1 c = ![0, 0, 4 * c.val, 0] := ClosedOff.eq
  refine congrArg (vA m c) ?_
  funext a
  match a with
  | ⟨0, _⟩ => exact Fin.ext (by show k0_off1 c 0 + 1 * (b.val + 1 * 0) = b.val; rw [ho]; show 0 + 1 * (b.val + 1 * 0) = b.val; omega)
  | ⟨1, _⟩ => exact Fin.ext (by show k0_off1 c 1 + 1 * (0 + 1 * j.val) = j.val; rw [ho]; show 0 + 1 * (0 + 1 * j.val) = j.val; omega)
  | ⟨2, _⟩ => exact Fin.ext (by show k0_off1 c 2 + 1 * (h.val + 1 * 0) = 4 * c.val + h.val; rw [ho]; show 4 * c.val + 1 * (h.val + 1 * 0) = 4 * c.val + h.val; omega)
  | ⟨3, _⟩ => exact Fin.ext (by show k0_off1 c 3 + 1 * (0 + 1 * d.val) = d.val; rw [ho]; show 0 + 1 * (0 + 1 * d.val) = d.val; omega)

/-- The queries of one head on one batch entry. -/
theorem q_apply (b : Fin 2) (h : Fin 4) (i : Fin 128) (d : Fin 64) :
    extractStridedSlice S128x64 ![128 * b.val, 64 * h.val] (qV m c) (slices_blk b h) (ix2 i d)
      = ∑ e : Fin 512, xA m c (ix3 b i e) * wqA m c (ix2 e ⟨64 * h.val + d.val, by omega⟩) := by
  have e1 : extractStridedSlice S128x64 ![128 * b.val, 64 * h.val] (qV m c) (slices_blk b h) (ix2 i d)
      = qV m c (ix2 (n0 := 256) (n1 := 256) ⟨128 * b.val + i.val, by omega⟩ ⟨64 * h.val + d.val, by omega⟩) := by
    refine congrArg (qV m c) ?_
    funext a
    match a with
    | ⟨0, _⟩ => exact Fin.ext rfl
    | ⟨1, _⟩ => exact Fin.ext rfl
  rw [e1]
  refine (pay1_apply (xV m c) (wqV m c) _ _).trans (Finset.sum_congr rfl fun e _ => ?_)
  have eb : (⟨(128 * b.val + i.val) / 128, by omega⟩ : Fin 2) = b := Fin.ext (by show (128 * b.val + i.val) / 128 = b.val; omega)
  have ei : (⟨(128 * b.val + i.val) % 128, by omega⟩ : Fin 128) = i := Fin.ext (by show (128 * b.val + i.val) % 128 = i.val; omega)
  show xV m c (ix3 ⟨(128 * b.val + i.val) / 128, _⟩ ⟨(128 * b.val + i.val) % 128, _⟩ e) * _ = _
  rw [eb, ei]
  rfl

/-- The attention output of one head on one batch entry, from the arguments as device `c` holds them. -/
abbrev headOf (b : Fin 2) (h : Fin 4) : Fin 128 → Fin 64 → EReal :=
  head (fun i d => ∑ e : Fin 512, xA m c (ix3 b i e) * wqA m c (ix2 e ⟨64 * h.val + d.val, by omega⟩))
    (fun j d => kA m c (ix4 b j (headIx c h) d)) (fun j d => vA m c (ix4 b j (headIx c h) d))

theorem attn_apply (b : Fin 2) (h : Fin 4) (i : Fin 128) (d : Fin 64) : attnV m c b h (ix2 i d) = headOf m c b h i d := by
  refine (pay17_apply _ _ _ i d).trans ?_
  simp only [q_apply, kBlk_apply, vBlk_apply]

/-- One element of a device's share of the output projection. -/
abbrev shareOf (r : Fin 256) (n : Fin 512) : EReal :=
  ∑ e : Fin 256, headOf m c ⟨r.val / 128, by omega⟩ ⟨e.val / 64, by omega⟩ ⟨r.val % 128, by omega⟩ ⟨e.val % 64, by omega⟩ * woA m c (ix2 e n)

theorem ctx_apply (r : Fin 256) (e : Fin 256) :
    ctxV m c (ix2 r e) = headOf m c ⟨r.val / 128, by omega⟩ ⟨e.val / 64, by omega⟩ ⟨r.val % 128, by omega⟩ ⟨e.val % 64, by omega⟩ := by
  rw [← attn_apply, ix2_eq_valueIdx (n0 := 128)]
  rfl

theorem acc_apply (r : Fin 256) (n : Fin 512) : accV m c (ix2 r n) = shareOf m c r n := by
  refine (pay23_apply _ _ r n).trans (Finset.sum_congr rfl fun e _ => ?_)
  rw [ctx_apply]; rfl
theorem accb_apply (r : Fin 256) (n : Fin 512) : accbV m c (ix2 r n) = shareOf m c r n := by
  refine (pay24_apply _ _ r n).trans (Finset.sum_congr rfl fun e _ => ?_)
  rw [ctx_apply]; rfl

/-- The row that device `c` finishes as its row `r`. -/
abbrev ownRow (c : Dev nD) (r : Fin 8) : Fin 256 := ⟨8 * c.val + r.val, by have h' : c.val < 32 := c.isLt; omega⟩

/-- A finished row is the sum of all the devices' shares: its own slot is masked out and its own share added. -/
theorem sum_apply (r : Fin 8) (n : Fin 512) : sumV m c (ix2 r n) = ∑ e : Fin 32, shareOf m e (ownRow c r) n := by
  have hown : ownV m c (ix2 r n) = shareOf m c (ownRow c r) n := by
    rw [← acc_apply]
    refine congrArg (accV m c) ((out_emb c (ix2 r n)).trans ?_)
    exact (ix2_eq_valueIdx _ _).symm
  have hcomm : ∀ e : Fin 32, commV m c (ix3 e r n) = shareOf m e (ownRow c r) n := fun e => by
    rw [← accb_apply, ix2_eq_valueIdx]; rfl
  have hsel : ∀ e : Fin 32, Scalar.select (IntOp.cmpi .eq (BitVec.ofNat 32 e.val) (mpw c)) (0 : EReal) (commV m c (ix3 e r n))
      = if e = c then 0 else shareOf m e (ownRow c r) n := fun e => by
    by_cases he : e = c
    · rw [if_pos he, he, same_word c]; rfl
    · rw [if_neg he, other_word e c he, ← hcomm]; rfl
  refine (pay25_apply _ _ _ r n).trans ?_
  rw [hown, Finset.sum_congr rfl fun e _ => hsel e, ← Finset.add_sum_erase _ _ (Finset.mem_univ c), if_pos rfl, zero_add,
    ← Finset.add_sum_erase (Finset.univ : Finset (Fin 32)) (fun e => shareOf m e (ownRow c r) n) (Finset.mem_univ c), add_comm]
  exact congrArg _ (Finset.sum_congr rfl fun e he => if_neg (Finset.ne_of_mem_erase he))

theorem red_apply (r : Fin 8) (n : Fin 512) : redV m c (ix2 r n) = ∑ e : Fin 32, shareOf m e (ownRow c r) n :=
  (pay26_apply _ _ _ r n).trans (sum_apply m c r n)

/-- The result, on every device. -/
theorem out_apply (R : Fin 256) (n : Fin 512) : outV m c (ix2 R n) = ∑ e : Fin 32, shareOf m e R n := by
  unfold outV
  by_cases hi : ix2 R n ∈ (outM.access (rowRect c) : View sig .tc _ _ _).setOn Finset.univ
  · obtain ⟨x, -, hx⟩ := Finset.mem_map.mp hi
    have hR : ownRow c (x 0) = R ∧ x 1 = n := by
      rw [out_emb] at hx
      exact ⟨congrFun hx 0, congrFun hx 1⟩
    rw [← hx, View.write_emb_of_mem _ _ (Finset.mem_univ _)]
    refine (congrArg (sumV m c) (eq_ix2 (n0 := 8) (n1 := 512) x)).trans ((sum_apply m c (x 0) (x 1)).trans ?_)
    refine Finset.sum_congr rfl fun e _ => ?_
    rw [hR.1, hR.2]
  · rw [View.write_of_not_mem _ _ _ hi, fan_apply]
    have hR : ownRow (rowDev (ix2 R n)) ⟨R.val % 8, Nat.mod_lt _ (by decide)⟩ = R := Fin.ext (by show 8 * (R.val / 8) + R.val % 8 = R.val; omega)
    refine Eq.trans ?_ ((red_apply m (rowDev (ix2 R n)) ⟨R.val % 8, Nat.mod_lt _ (by decide)⟩ n).trans (by rw [hR]))
    rw [ix2_eq_valueIdx (n0 := 8)]
    rfl

end Cert.KProof
-- ==== Proof.RefValue.lean ====
/-
# The reference's value, at an index

The reference's composed term cut into named pieces, and each piece read at an index: its result at row `r` and column `n` is the sum over the 8192 columns of the attention outputs, each head's the `head` of Head.lean.
-/
module

public import proofs.«01_k».proof.Proof.Head
public import proofs.«01_k».proof.Proof.Gen.ReferenceIdeal.Run

@[expose] public section

set_option backward.proofsInPublic true

noncomputable section

namespace Cert.KProof.Ref

open Cert.ReferenceIdeal Cert.ReferenceIdeal.Gen Idealize.ShloMosaic Idealize.ShloMosaic.TcCoe Idealize.SL.Sem Idealize.ShloMosaic.StableHlo

/-! ## The pieces -/

/-- The block of each position, as a word; -/
def rFloor : IVec S128 32 := select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))
/-- laid along the rows, and along the columns; -/
def rQb : IVec S128x128 32 := broadcastInDim S128x128 ![0, 1] bcast_S128x1_S128x128_0_1 (broadcastInDim S128x1 ![0] bcast_S128_S128x1_0 rFloor)
def rKb : IVec S128x128 32 := broadcastInDim S128x128 ![0, 1] bcast_S1x128_S128x128_0_1 (broadcastInDim S1x128 ![1] bcast_S128_S1x128_1 rFloor)
/-- the divisor three, and the remainder by it, -/
def rThree : IVec S_ 32 := select (cmpi .eq (id (constantI S_ 32 3#32)) (constantI S_ 32 0#32)) (constantI S_ 32 1#32) (id (constantI S_ 32 3#32))
def rTrunc : IVec S128x128 32 := Host.remsi (addi rQb rKb) (broadcastInDim S128x128 ![] bcast_S_S128x128 rThree)
/-- given the divisor's sign; -/
def rRem : IVec S128x128 32 := select (andi (cmpi .ne (cmpi .slt rTrunc (broadcastInDim S128x128 ![] bcast_S_S128x128 (constantI S_ 32 0#32))) (broadcastInDim S128x128 ![] bcast_S_S128x128 (cmpi .slt rThree (constantI S_ 32 0#32)))) (cmpi .ne rTrunc (broadcastInDim S128x128 ![] bcast_S_S128x128 (constantI S_ 32 0#32)))) (addi rTrunc (broadcastInDim S128x128 ![] bcast_S_S128x128 rThree)) rTrunc
/-- the block mask, and the rows it keeps; -/
def rMask : IVec S128x128 1 := ori (ori (cmpi .eq rQb rKb) (broadcastInDim S128x128 ![0, 1] bcast_S1x128_S128x128_0_1 (cmpi .eq (broadcastInDim S1x128 ![1] bcast_S128_S1x128_1 rFloor) (broadcastInDim S1x128 ![] bcast_S_S1x128 (constantI S_ 32 0#32))))) (cmpi .eq rRem (broadcastInDim S128x128 ![] bcast_S_S128x128 (constantI S_ 32 0#32)))
def rKeep : IVec S128 1 := Host.reduce IntOp.ori rMask (constantI S_ 1 0#1) reducesTo_S128x128_S128_d1 h_S_

variable (x : FVec Ideal S2x128x512 .f32) (wq : FVec Ideal S512x8192 .f32) (k v : FVec Ideal S2x128x128x64 .f32) (wo : FVec Ideal S8192x512 .f32)

/-- the queries, head by head; -/
def rQ : FVec Ideal S2x128x128x64 .f32 := shapeCast _ (Host.dotGeneral (F := Ideal) (φ₁ := .f32) (φ₂ := .f32) dot_S2x128x512_S512x8192_S2x128x8192_2_0_01_1_n_n none x wq) shapeCasts_S2x128x8192_S2x128x128x64
/-- the masked scores, and their exponentials; -/
def rScore (q : FVec Ideal S2x128x128x64 .f32) : FVec Ideal S2x128x128x128 .f32 := select (broadcastInDim S2x128x128x128 ![0, 1, 2, 3] bcast_S1x1x128x128_S2x128x128x128_0_1_2_3 (broadcastInDim S1x1x128x128 ![2, 3] bcast_S128x128_S1x1x128x128_2_3 rMask)) (mulf (Host.dotGeneral (F := Ideal) (φ₁ := .f32) (φ₂ := .f32) dot_S2x128x128x64_S2x128x128x64_S2x128x128x128_3_3_1_1_02_02 none q k) (broadcastInDim S2x128x128x128 ![] bcast_S_S2x128x128x128 (constant S_ .f32 0x3E000000#32))) (broadcastInDim S2x128x128x128 ![] bcast_S_S2x128x128x128 (id (constant S_ .f32 0xCE6E6B28#32)))
def rExp (s : FVec Ideal S2x128x128x128 .f32) : FVec Ideal S2x128x128x128 .f32 := Host.exp (subf s (broadcastInDim S2x128x128x128 ![0, 1, 2, 3] bcast_S2x128x128x1_S2x128x128x128_0_1_2_3 (broadcastInDim S2x128x128x1 ![0, 1, 2] bcast_S2x128x128_S2x128x128x1_0_1_2 (Host.reduce (FloatOps.maximumf (F := Ideal) (φ := .f32)) s (constant S_ .f32 0xFF800000#32) reducesTo_S2x128x128x128_S2x128x128_d3 h_S_))))
/-- the weights; -/
def rWeight (e : FVec Ideal S2x128x128x128 .f32) : FVec Ideal S2x128x128x128 .f32 := select (broadcastInDim S2x128x128x128 ![0, 1, 2, 3] bcast_S1x1x128x1_S2x128x128x128_0_1_2_3 (broadcastInDim S1x1x128x1 ![2] bcast_S128_S1x1x128x1_2 rKeep)) (Host.divf e (broadcastInDim S2x128x128x128 ![0, 1, 2, 3] bcast_S2x128x128x1_S2x128x128x128_0_1_2_3 (select (broadcastInDim S2x128x128x1 ![0, 1, 2, 3] bcast_S1x1x128x1_S2x128x128x1_0_1_2_3 (broadcastInDim S1x1x128x1 ![2] bcast_S128_S1x1x128x1_2 rKeep)) (broadcastInDim S2x128x128x1 ![0, 1, 2] bcast_S2x128x128_S2x128x128x1_0_1_2 (Host.reduceAdd e (constant S_ .f32 0x00000000#32) reducesTo_S2x128x128x128_S2x128x128_d3 h_S_)) (broadcastInDim S2x128x128x1 ![] bcast_S_S2x128x128x1 (id (constant S_ .f32 0x3F800000#32)))))) (broadcastInDim S2x128x128x128 ![] bcast_S_S2x128x128x128 (id (constant S_ .f32 0x00000000#32)))
/-- the attention outputs side by side, and their projection. -/
def rCtx (w : FVec Ideal S2x128x128x128 .f32) : FVec Ideal S2x128x8192 .f32 := shapeCast _ (transpose S2x128x128x64 [0, 3, 1, 2] (Host.dotGeneral (F := Ideal) (φ₁ := .f32) (φ₂ := .f32) dot_S2x128x128x64_S2x128x128x128_S2x128x64x128_1_3_3_2_02_01 none v w) transposes_S2x128x64x128_S2x128x128x64_0_3_1_2) shapeCasts_S2x128x128x64_S2x128x8192
def rOut (y : FVec Ideal S2x128x8192 .f32) : FVec Ideal S256x512 .f32 := shapeCast _ (Host.dotGeneral (F := Ideal) (φ₁ := .f32) (φ₂ := .f32) dot_S2x128x8192_S8192x512_S2x128x512_2_0_01_1_n_n none y wo) shapeCasts_S2x128x512_S256x512

/-- The reference's composed term is these pieces put together. -/
theorem res_eq (m : (ℓ : Loc nD τ sig) → Buf (Elt Ideal) ℓ) (c : Dev nD) :
    Cert.ReferenceIdeal.Value.res_main_v45 m c
      = rOut (m ((c.tc : Thread nD τ).loc main_arg4)) (rCtx (m ((c.tc : Thread nD τ).loc main_arg3)) (rWeight (rExp (rScore (m ((c.tc : Thread nD τ).loc main_arg2))
          (rQ (m ((c.tc : Thread nD τ).loc main_arg0)) (m ((c.tc : Thread nD τ).loc main_arg1))))))) := rfl

/-! ## At an index -/

theorem rFloor_apply : ∀ i : Fin 128, rFloor (ix1 i) = BitVec.ofNat 32 (i.val / 64) := by decide +kernel

/-- The reference's mask is the block mask. -/
theorem rMask_apply (i j : Fin 128) : rMask (ix2 i j) = mk i j := by
  pointwise [rMask, rRem, rTrunc, rThree, rQb, rKb]
  rw [rFloor_apply i, rFloor_apply j]
  unfold mk
  have hi : i.val / 64 = 0 ∨ i.val / 64 = 1 := by omega
  have hj : j.val / 64 = 0 ∨ j.val / 64 = 1 := by omega
  rcases hi with hi | hi <;> rcases hj with hj | hj <;> rw [hi, hj] <;> decide +kernel

theorem ori_one : ∀ b : BitVec 1, IntOp.ori 1#1 b = 1#1 := by decide

/-- Every row is kept: each sees key 0. -/
theorem rKeep_apply (i : Fin 128) : rKeep (ix1 i) = 1#1 := by
  pointwise [rKeep]
  have h0 : rMask (ix2 i 0) = 1#1 := (rMask_apply i 0).trans (if_pos (Or.inr (Or.inl rfl)))
  rw [← Finset.insert_erase (Finset.mem_univ (0 : Fin 128)), Finset.fold_insert (Finset.notMem_erase _ _), h0]
  exact ori_one _

theorem rQ_apply (b : Fin 2) (i h : Fin 128) (d : Fin 64) :
    rQ x wq (ix4 b i h d) = ∑ e : Fin 512, x (ix3 b i e) * wq (ix2 e ⟨h.val * 64 + d.val, by omega⟩) := by
  pointwise [rQ]

theorem rScore_apply (q) (b : Fin 2) (h i j : Fin 128) :
    rScore k q (ix4 b h i j) = sc (fun i d => q (ix4 b i h d)) (fun j d => k (ix4 b j h d)) i j := by
  pointwise [rScore]
  rw [rMask_apply]
  rfl

theorem rExp_apply (s) (b : Fin 2) (h i j : Fin 128) :
    rExp s (ix4 b h i j) = Ideal.exp (s (ix4 b h i j) - Finset.univ.fold max (Ideal.ofBits .f32 0xFF800000#32) (fun j => s (ix4 b h i j))) := by
  pointwise [rExp]

theorem rWeight_apply (e) (b : Fin 2) (h i j : Fin 128) :
    rWeight e (ix4 b h i j) = Ideal.div (e (ix4 b h i j)) (∑ j', e (ix4 b h i j')) := by
  pointwise [rWeight, rKeep_apply]

theorem rCtx_apply (w) (b : Fin 2) (i : Fin 128) (n : Fin 8192) :
    rCtx v w (ix3 b i n) = ∑ j : Fin 128, v (ix4 b j ⟨n.val / 64, by omega⟩ ⟨n.val % 64, by omega⟩) * w (ix4 b ⟨n.val / 64, by omega⟩ i j) := by
  pointwise [rCtx]

theorem rOut_apply (y) (r : Fin 256) (n : Fin 512) :
    rOut wo y (ix2 r n) = ∑ e : Fin 8192, y (ix3 ⟨r.val / 128, by omega⟩ ⟨r.val % 128, by omega⟩ e) * wo (ix2 e n) := by
  pointwise [rOut]

/-- One column of the attention outputs is one head's output. -/
theorem rHead (q) (b : Fin 2) (i : Fin 128) (n : Fin 8192) :
    rCtx v (rWeight (rExp (rScore k q))) (ix3 b i n)
      = head (fun i d => q (ix4 b i ⟨n.val / 64, by omega⟩ d)) (fun j d => k (ix4 b j ⟨n.val / 64, by omega⟩ d)) (fun j d => v (ix4 b j ⟨n.val / 64, by omega⟩ d)) i ⟨n.val % 64, by omega⟩ := by
  rw [rCtx_apply]
  refine Finset.sum_congr rfl fun j _ => ?_
  rw [mul_comm, rWeight_apply]
  simp only [rExp_apply, rScore_apply]
  rfl

end Cert.KProof.Ref
-- ==== Proof.Value.lean ====
/-
# The kernel's value is the reference's

Device `c` holds columns 256c… of the query projection and rows 256c… of the output projection, that is heads 4c to 4c + 3. So its share is the part of the reference's sum over the 8192 columns that those 256 make up, and the shares of the 32 devices add up to the reference's result.
-/
module

public import proofs.«01_k».proof.Proof.KerValue
public import proofs.«01_k».proof.Proof.RefValue
public import proofs.«01_k».proof.Proof.Launch
public import proofs.«01_k».proof.Defs

@[expose] public section

set_option backward.proofsInPublic true

noncomputable section

namespace Cert.KProof

open Idealize.ShloMosaic Idealize.ShloMosaic.TcCoe Idealize.SL.Sem

/-- The reference's result at an index, from its arguments: the sum over the columns of the attention outputs. -/
theorem ref_apply (x : FVec Ideal ⟨3, ![2, 128, 512]⟩ .f32) (wq : FVec Ideal ⟨2, ![512, 8192]⟩ .f32) (k v : FVec Ideal ⟨4, ![2, 128, 128, 64]⟩ .f32)
    (wo : FVec Ideal ⟨2, ![8192, 512]⟩ .f32) (r : Fin 256) (n : Fin 512) :
    Ref.rOut wo (Ref.rCtx v (Ref.rWeight (Ref.rExp (Ref.rScore k (Ref.rQ x wq))))) (ix2 r n)
      = ∑ N : Fin 8192, head (fun i d => ∑ e : Fin 512, x (ix3 ⟨r.val / 128, by omega⟩ i e) * wq (ix2 e ⟨N.val / 64 * 64 + d.val, by omega⟩))
          (fun j d => k (ix4 ⟨r.val / 128, by omega⟩ j ⟨N.val / 64, by omega⟩ d)) (fun j d => v (ix4 ⟨r.val / 128, by omega⟩ j ⟨N.val / 64, by omega⟩ d))
          ⟨r.val % 128, by omega⟩ ⟨N.val % 64, by omega⟩ * wo (ix2 N n) := by
  rw [Ref.rOut_apply]
  refine Finset.sum_congr rfl fun N _ => ?_
  rw [Ref.rHead]
  simp only [Ref.rQ_apply]

open Cert.KernelIdeal in
/-- One device's share is the reference's sum over the device's 256 columns. -/
theorem share_is_part (m : (ℓ : Loc nD τ sig) → Buf (Elt Ideal) ℓ) (c : Dev nD)
    (x : FVec Ideal ⟨3, ![2, 128, 512]⟩ .f32) (wq : FVec Ideal ⟨2, ![512, 8192]⟩ .f32) (k v : FVec Ideal ⟨4, ![2, 128, 128, 64]⟩ .f32)
    (wo : FVec Ideal ⟨2, ![8192, 512]⟩ .f32)
    (hx : xA m c = x) (hq : wqA m c = Layout.block ⟨2, ![512, 256]⟩ ⟨2, ![512, 8192]⟩ 1 32 c wq) (hk : kA m c = k) (hv : vA m c = v)
    (ho : woA m c = Layout.block ⟨2, ![256, 512]⟩ ⟨2, ![8192, 512]⟩ 0 32 c wo) (r : Fin 256) (n : Fin 512) :
    shareOf m c r n
      = ∑ t : Fin 256, head (fun i d => ∑ e : Fin 512, x (ix3 ⟨r.val / 128, by omega⟩ i e)
              * wq (ix2 e ⟨(c.val * 256 + t.val) / 64 * 64 + d.val, by have h : c.val < 32 := c.isLt; omega⟩))
          (fun j d => k (ix4 ⟨r.val / 128, by omega⟩ j ⟨(c.val * 256 + t.val) / 64, by have h : c.val < 32 := c.isLt; omega⟩ d))
          (fun j d => v (ix4 ⟨r.val / 128, by omega⟩ j ⟨(c.val * 256 + t.val) / 64, by have h : c.val < 32 := c.isLt; omega⟩ d))
          ⟨r.val % 128, by omega⟩ ⟨(c.val * 256 + t.val) % 64, by omega⟩ * wo (ix2 ⟨c.val * 256 + t.val, by have h : c.val < 32 := c.isLt; omega⟩ n) := by
  have hc : c.val < 32 := c.isLt
  refine Finset.sum_congr rfl fun t _ => ?_
  have eh : headIx c ⟨t.val / 64, by omega⟩ = ⟨(c.val * 256 + t.val) / 64, by omega⟩ := Fin.ext (by show 4 * c.val + t.val / 64 = (c.val * 256 + t.val) / 64; omega)
  have ed : (⟨t.val % 64, by omega⟩ : Fin 64) = ⟨(c.val * 256 + t.val) % 64, by omega⟩ := Fin.ext (by show t.val % 64 = (c.val * 256 + t.val) % 64; omega)
  have ewq : ∀ (e : Fin 512) (d : Fin 64), wqA m c (ix2 e ⟨64 * (t.val / 64) + d.val, by omega⟩) = wq (ix2 e ⟨(c.val * 256 + t.val) / 64 * 64 + d.val, by omega⟩) := fun e d => by
    rw [hq]
    refine congrArg wq (funext fun a => ?_)
    match a with
    | ⟨0, _⟩ => exact Fin.ext rfl
    | ⟨1, _⟩ => exact Fin.ext (by show c.val * 256 + (64 * (t.val / 64) + d.val) = (c.val * 256 + t.val) / 64 * 64 + d.val; omega)
  have ewo : woA m c (ix2 t n) = wo (ix2 ⟨c.val * 256 + t.val, by omega⟩ n) := by
    rw [ho]
    refine congrArg wo (funext fun a => ?_)
    match a with
    | ⟨0, _⟩ => exact Fin.ext rfl
    | ⟨1, _⟩ => exact Fin.ext rfl
  simp only [headOf, ewq, ewo, hx, hk, hv, eh, ed]

open Cert.KernelIdeal in
/-- The kernel's result on every device is the reference's. -/
theorem out_eq (m : (ℓ : Loc nD τ sig) → Buf (Elt Ideal) ℓ)
    (x : FVec Ideal ⟨3, ![2, 128, 512]⟩ .f32) (wq : FVec Ideal ⟨2, ![512, 8192]⟩ .f32) (k v : FVec Ideal ⟨4, ![2, 128, 128, 64]⟩ .f32)
    (wo : FVec Ideal ⟨2, ![8192, 512]⟩ .f32)
    (h : ∀ c : Dev nD, xA m c = x ∧ wqA m c = Layout.block ⟨2, ![512, 256]⟩ ⟨2, ![512, 8192]⟩ 1 32 c wq ∧ kA m c = k ∧ vA m c = v
      ∧ woA m c = Layout.block ⟨2, ![256, 512]⟩ ⟨2, ![8192, 512]⟩ 0 32 c wo) (c : Dev nD) :
    outV m c = Ref.rOut wo (Ref.rCtx v (Ref.rWeight (Ref.rExp (Ref.rScore k (Ref.rQ x wq))))) := by
  suffices hi : ∀ (r : Fin 256) (n : Fin 512), outV m c (ix2 r n) = Ref.rOut wo (Ref.rCtx v (Ref.rWeight (Ref.rExp (Ref.rScore k (Ref.rQ x wq))))) (ix2 r n) by
    funext i
    rw [eq_ix2 (n0 := 256) (n1 := 512) i]
    exact hi _ _
  intro r n
  rw [out_apply, ref_apply, Fin.sum_univ_tiles (N := 8192) 32 256 rfl]
  refine Finset.sum_congr rfl fun e _ => ?_
  obtain ⟨hx, hq, hk, hv, ho⟩ := h e
  exact share_is_part m e x wq k v wo hx hq hk hv ho _ _

/-- In real arithmetic the kernel leaves, on each of the 32 devices, the reference's result on the whole arrays. -/
theorem value : Cert.algebraic_KernelIdeal_ReferenceIdeal (hKernelIdeal := Cert.KernelIdeal.Gen.facts) (hReferenceIdeal := Cert.ReferenceIdeal.Gen.facts) := by
  intro m g m' g' _ hag
  refine ⟨Cert.ReferenceIdeal.Value.res_main_v45 m' 0, (θ_run Cert.KernelIdeal.defs _ _).mono (fun r h c => ⟨?_, (h.1 c).2⟩) (run_main (F := Ideal) m g),
    (θ_run Cert.ReferenceIdeal.defs _ _).mono (fun r h => h 0) (Cert.ReferenceIdeal.Value.run (F := Ideal) m' g')⟩
  exact (h.1 c).1.trans ((out_eq m _ _ _ _ _ hag c).trans (Ref.res_eq m' 0).symm)

end Cert.KProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- The reference terminates without a fault, leaves its arguments as they were and every counter at zero (it has no semaphore). -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Everything that is claimed. -/
theorem claim : Cert.Claim := ⟨Cert.Kernel.Gen.facts, Cert.KernelIdeal.Gen.facts, Cert.ReferenceIdeal.Gen.facts,
  Cert.KProof.frame_bits, Cert.KProof.frame_ideal, frame_reference, trivial, Cert.KProof.value⟩

end Cert.Proof

end
